-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x8192x3584 : Shape := ⟨3, ![4, 8192, 3584]⟩
abbrev S3584x4608 : Shape := ⟨2, ![3584, 4608]⟩
abbrev S4608 : Shape := ⟨1, ![4608]⟩
abbrev S_ : Shape := ⟨0, ![]⟩

class Facts : Prop where
  bitsLt_bf16_f32 : FTy.bits .bf16 < FTy.bits .f32
  bcast_S_S4x8192x3584 : S_.BroadcastsInDim S4x8192x3584 (![] : Fin 0 → Fin S4x8192x3584.rank)

variable [Facts]

def fn {F : FTy → Type} [FloatOps F] (main_arg0 : FVec F S4x8192x3584 .bf16) (main_arg1 : FVec F S3584x4608 .fp8e4m3) (main_arg2 : FVec F S4608 .f32) (main_arg3 : FVec F S4608 .bf16) : IVec S4x8192x3584 1 :=
  let main_v0 : FVec F S4x8192x3584 .f32 := (extf .f32 · bitsLt_bf16_f32) main_arg0
  let main_v1 : FVec F S4x8192x3584 .f32 := Host.absf main_v0
  let main_cst : FVec F S_ .f32 := constant S_ .f32 0x7F7F0000#32
  let main_v2 : FVec F S4x8192x3584 .f32 := broadcastInDim S4x8192x3584 ![] bcast_S_S4x8192x3584 main_cst
  let main_v3 : IVec S4x8192x3584 1 := cmpf .ole main_v1 main_v2
  main_v3
-- ==== Kernel.lean ====
abbrev S4x8192x3584 : Shape := ⟨3, ![4, 8192, 3584]⟩
abbrev S3584x4608 : Shape := ⟨2, ![3584, 4608]⟩
abbrev S4608 : Shape := ⟨1, ![4608]⟩
abbrev S1x4608 : Shape := ⟨2, ![1, 4608]⟩
abbrev S4x28x8192x128 : Shape := ⟨4, ![4, 28, 8192, 128]⟩
abbrev S4x8192x4x128 : Shape := ⟨4, ![4, 8192, 4, 128]⟩
abbrev S28x4x8192 : Shape := ⟨3, ![28, 4, 8192]⟩
abbrev S2x128x3584 : Shape := ⟨3, ![2, 128, 3584]⟩
abbrev S4x28x128x128 : Shape := ⟨4, ![4, 28, 128, 128]⟩
abbrev S4x128x4x128 : Shape := ⟨4, ![4, 128, 4, 128]⟩
abbrev S4x128x3584 : Shape := ⟨3, ![4, 128, 3584]⟩
abbrev S28x4x128 : Shape := ⟨3, ![28, 4, 128]⟩
abbrev S256x3584 : Shape := ⟨2, ![256, 3584]⟩
abbrev S2x128x128 : Shape := ⟨3, ![2, 128, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S128x256 : Shape := ⟨2, ![128, 256]⟩
abbrev S28x128 : Shape := ⟨2, ![28, 128]⟩
abbrev S28x1x128 : Shape := ⟨3, ![28, 1, 128]⟩
abbrev S3584x512 : Shape := ⟨2, ![3584, 512]⟩
abbrev S256x512 : Shape := ⟨2, ![256, 512]⟩
abbrev S1x512 : Shape := ⟨2, ![1, 512]⟩
abbrev S1x1x128x128 : Shape := ⟨4, ![1, 1, 128, 128]⟩
abbrev S1x128x1x128 : Shape := ⟨4, ![1, 128, 1, 128]⟩
abbrev S1x128x2x128 : Shape := ⟨4, ![1, 128, 2, 128]⟩
abbrev S4x8192x28x128 : Shape := ⟨4, ![4, 8192, 28, 128]⟩
abbrev S4x8192x28 : Shape := ⟨3, ![4, 8192, 28]⟩

abbrev nBuf : Space → Nat
  | .hbm => 13
  | .vmem => 23
  | .smem => 0
  | _ => 0

abbrev bufTy : (tb : Table) → Fin (tcTables nBuf tb) → BufTy
  | .hbm, ⟨0, _⟩ => ⟨S4x8192x3584, .bf16⟩
  | .hbm, ⟨1, _⟩ => ⟨S3584x4608, .fp8e4m3⟩
  | .hbm, ⟨2, _⟩ => ⟨S4608, .f32⟩
  | .hbm, ⟨3, _⟩ => ⟨S4608, .bf16⟩
  | .hbm, ⟨4, _⟩ => ⟨S1x4608, .f32⟩
  | .hbm, ⟨5, _⟩ => ⟨S1x4608, .bf16⟩
  | .hbm, ⟨6, _⟩ => ⟨S4x28x8192x128, .bf16⟩
  | .hbm, ⟨7, _⟩ => ⟨S4x8192x4x128, .bf16⟩
  | .hbm, ⟨8, _⟩ => ⟨S4x8192x4x128, .bf16⟩
  | .hbm, ⟨9, _⟩ => ⟨S4x8192x3584, .fp8e4m3⟩
  | .hbm, ⟨10, _⟩ => ⟨S28x4x8192, .f32⟩
  | .hbm, ⟨11, _⟩ => ⟨S4x8192x28x128, .bf16⟩
  | .hbm, ⟨12, _⟩ => ⟨S4x8192x28, .f32⟩
  | .local _ .vmem, ⟨0, _⟩ => ⟨S2x128x3584, .bf16⟩
  | .local _ .vmem, ⟨1, _⟩ => ⟨S2x128x3584, .bf16⟩
  | .local _ .vmem, ⟨2, _⟩ => ⟨S2x128x3584, .bf16⟩
  | .local _ .vmem, ⟨3, _⟩ => ⟨S2x128x3584, .bf16⟩
  | .local _ .vmem, ⟨4, _⟩ => ⟨S2x128x3584, .bf16⟩
  | .local _ .vmem, ⟨5, _⟩ => ⟨S3584x4608, .fp8e4m3⟩
  | .local _ .vmem, ⟨6, _⟩ => ⟨S1x4608, .f32⟩
  | .local _ .vmem, ⟨7, _⟩ => ⟨S1x4608, .bf16⟩
  | .local _ .vmem, ⟨8, _⟩ => ⟨S4x28x128x128, .bf16⟩
  | .local _ .vmem, ⟨9, _⟩ => ⟨S4x28x128x128, .bf16⟩
  | .local _ .vmem, ⟨10, _⟩ => ⟨S4x128x4x128, .bf16⟩
  | .local _ .vmem, ⟨11, _⟩ => ⟨S4x128x4x128, .bf16⟩
  | .local _ .vmem, ⟨12, _⟩ => ⟨S4x128x4x128, .bf16⟩
  | .local _ .vmem, ⟨13, _⟩ => ⟨S4x128x4x128, .bf16⟩
  | .local _ .vmem, ⟨14, _⟩ => ⟨S4x128x3584, .fp8e4m3⟩
  | .local _ .vmem, ⟨15, _⟩ => ⟨S4x128x3584, .fp8e4m3⟩
  | .local _ .vmem, ⟨16, _⟩ => ⟨S28x4x128, .f32⟩
  | .local _ .vmem, ⟨17, _⟩ => ⟨S28x4x128, .f32⟩
  | .local _ .vmem, ⟨18, _⟩ => ⟨S256x3584, .bf16⟩
  | .local _ .vmem, ⟨19, _⟩ => ⟨S256x3584, .bf16⟩
  | .local _ .vmem, ⟨20, _⟩ => ⟨S2x128x3584, .fp8e4m3⟩
  | .local _ .vmem, ⟨21, _⟩ => ⟨S2x128x128, .f32⟩
  | .local _ .vmem, ⟨22, _⟩ => ⟨S2x128x128, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x28x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x4x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x4x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S28x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4x8192x3584 : Shape := ⟨3, ![4, 8192, 3584]⟩
abbrev S3584x4608 : Shape := ⟨2, ![3584, 4608]⟩
abbrev S4608 : Shape := ⟨1, ![4608]⟩
abbrev S1x4608 : Shape := ⟨2, ![1, 4608]⟩
abbrev S4x8192x28x128 : Shape := ⟨4, ![4, 8192, 28, 128]⟩
abbrev S4x8192x4x128 : Shape := ⟨4, ![4, 8192, 4, 128]⟩
abbrev S4x8192x28 : Shape := ⟨3, ![4, 8192, 28]⟩
abbrev S4x8192x28x1 : Shape := ⟨4, ![4, 8192, 28, 1]⟩
abbrev S32768x3584 : Shape := ⟨2, ![32768, 3584]⟩
abbrev S32768x4608 : Shape := ⟨2, ![32768, 4608]⟩
abbrev S32768x512 : Shape := ⟨2, ![32768, 512]⟩

abbrev nBuf : Space → Nat
  | .hbm => 11
  | .vmem => 9
  | .smem => 0
  | _ => 0

abbrev bufTy : (tb : Table) → Fin (tcTables nBuf tb) → BufTy
  | .hbm, ⟨0, _⟩ => ⟨S4x8192x3584, .bf16⟩
  | .hbm, ⟨1, _⟩ => ⟨S3584x4608, .fp8e4m3⟩
  | .hbm, ⟨2, _⟩ => ⟨S4608, .f32⟩
  | .hbm, ⟨3, _⟩ => ⟨S4608, .bf16⟩
  | .hbm, ⟨4, _⟩ => ⟨S1x4608, .f32⟩
  | .hbm, ⟨5, _⟩ => ⟨S1x4608, .bf16⟩
  | .hbm, ⟨6, _⟩ => ⟨S4x8192x28x128, .bf16⟩
  | .hbm, ⟨7, _⟩ => ⟨S4x8192x4x128, .bf16⟩
  | .hbm, ⟨8, _⟩ => ⟨S4x8192x4x128, .bf16⟩
  | .hbm, ⟨9, _⟩ => ⟨S4x8192x3584, .fp8e4m3⟩
  | .hbm, ⟨10, _⟩ => ⟨S4x8192x28, .f32⟩
  | .local _ .vmem, ⟨0, _⟩ => ⟨S4x8192x3584, .bf16⟩
  | .local _ .vmem, ⟨1, _⟩ => ⟨S3584x4608, .fp8e4m3⟩
  | .local _ .vmem, ⟨2, _⟩ => ⟨S1x4608, .f32⟩
  | .local _ .vmem, ⟨3, _⟩ => ⟨S1x4608, .bf16⟩
  | .local _ .vmem, ⟨4, _⟩ => ⟨S4x8192x28x128, .bf16⟩
  | .local _ .vmem, ⟨5, _⟩ => ⟨S4x8192x4x128, .bf16⟩
  | .local _ .vmem, ⟨6, _⟩ => ⟨S4x8192x4x128, .bf16⟩
  | .local _ .vmem, ⟨7, _⟩ => ⟨S4x8192x3584, .fp8e4m3⟩
  | .local _ .vmem, ⟨8, _⟩ => ⟨S4x8192x28, .f32⟩
  | _, _ => ⟨S4x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x28x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x4x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8192x28 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Body.lean ====
/-
  The kernel body's vocabulary: the contents of the sixteen buffers it works on, the array-level reading of a load and a
  store, and what it means for a piece of program to take one set of contents to another.
-/
module

public import proofs.«01_k».proof.Proof.Gen.KernelIdeal.Frame

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores of arrays -/

/-- What a load through the rectangle `r` reads of an array `X`. -/
def ld {s : Shape} {α : Type} (r : Rect s) (X : s.Idx → α) : r.shape.Idx → α := fun x => X (r.emb x)

open Classical in
/-- The array `X` after a store of `w` through the rectangle `r`. -/
def st {s : Shape} {α : Type} (r : Rect s) (X : s.Idx → α) (w : r.shape.Idx → α) : s.Idx → α :=
  fun y => if h : ∃ x, r.emb x = y then w h.choose else X y

theorem st_emb {s : Shape} {α : Type} (r : Rect s) (X : s.Idx → α) (w : r.shape.Idx → α) (x : r.shape.Idx) :
    st r X w (r.emb x) = w x := by
  unfold st
  have h : ∃ x', r.emb x' = r.emb x := ⟨x, rfl⟩
  rw [dif_pos h]
  exact congrArg w (r.emb.injective h.choose_spec)

theorem st_hit {s : Shape} {α : Type} (r : Rect s) (X : s.Idx → α) (w : r.shape.Idx → α) (x : r.shape.Idx) (y : s.Idx)
    (h : r.emb x = y) : st r X w y = w x := by
  subst h; exact st_emb r X w x

theorem st_miss {s : Shape} {α : Type} (r : Rect s) (X : s.Idx → α) (w : r.shape.Idx → α) (y : s.Idx)
    (h : ∀ x, r.emb x ≠ y) : st r X w y = X y := by
  unfold st
  rw [dif_neg (by rintro ⟨x, hx⟩; exact h x hx)]

attribute [irreducible] st

/-! ## The buffers and their contents -/

/-- The sixteen buffers the body works on, each a whole one. -/
structure Bufs where
  a1 : Memref sig .tc .vmem S2x128x3584 .bf16
  h1 : a1.IsWhole
  a2 : Memref sig .tc .vmem S2x128x3584 .bf16
  h2 : a2.IsWhole
  a3 : Memref sig .tc .vmem S2x128x3584 .bf16
  h3 : a3.IsWhole
  a4 : Memref sig .tc .vmem S3584x4608 .fp8e4m3
  h4 : a4.IsWhole
  a5 : Memref sig .tc .vmem S1x4608 .f32
  h5 : a5.IsWhole
  a6 : Memref sig .tc .vmem S1x4608 .bf16
  h6 : a6.IsWhole
  a7 : Memref sig .tc .vmem S4x28x128x128 .bf16
  h7 : a7.IsWhole
  a8 : Memref sig .tc .vmem S4x128x4x128 .bf16
  h8 : a8.IsWhole
  a9 : Memref sig .tc .vmem S4x128x4x128 .bf16
  h9 : a9.IsWhole
  a10 : Memref sig .tc .vmem S4x128x3584 .fp8e4m3
  h10 : a10.IsWhole
  a11 : Memref sig .tc .vmem S28x4x128 .f32
  h11 : a11.IsWhole
  a12 : Memref sig .tc .vmem S256x3584 .bf16
  h12 : a12.IsWhole
  a13 : Memref sig .tc .vmem S256x3584 .bf16
  h13 : a13.IsWhole
  a14 : Memref sig .tc .vmem S2x128x3584 .fp8e4m3
  h14 : a14.IsWhole
  a15 : Memref sig .tc .vmem S2x128x128 .f32
  h15 : a15.IsWhole
  a16 : Memref sig .tc .vmem S2x128x128 .f32
  h16 : a16.IsWhole

/-- The buffers' contents: the three blocks of activations, the weights with their scales and the bias, the five
    results, and the five scratch arrays (the scaled activations, codes and scales kept between the halves). -/
structure St (F : FTy → Type) where
  x0 : S2x128x3584.Idx → Elt F .bf16
  xa : S2x128x3584.Idx → Elt F .bf16
  xb : S2x128x3584.Idx → Elt F .bf16
  w : S3584x4608.Idx → Elt F .fp8e4m3
  ws : S1x4608.Idx → Elt F .f32
  bi : S1x4608.Idx → Elt F .bf16
  q : S4x28x128x128.Idx → Elt F .bf16
  k : S4x128x4x128.Idx → Elt F .bf16
  v : S4x128x4x128.Idx → Elt F .bf16
  codes : S4x128x3584.Idx → Elt F .fp8e4m3
  scale : S28x4x128.Idx → Elt F .f32
  xsa : S256x3584.Idx → Elt F .bf16
  xsb : S256x3584.Idx → Elt F .bf16
  ca : S2x128x3584.Idx → Elt F .fp8e4m3
  sta : S2x128x128.Idx → Elt F .f32
  stb : S2x128x128.Idx → Elt F .f32

variable (B : Bufs) (c : Dev nD)

/-- Core `c` owns the sixteen buffers at the contents `σ`. -/
def own (σ : St F) : sProp 𝕄 :=
  iprop(owns (c : Thread nD τ) B.a1 fullShare σ.x0 ∗ owns (c : Thread nD τ) B.a2 fullShare σ.xa ∗ owns (c : Thread nD τ) B.a3 fullShare σ.xb
    ∗ owns (c : Thread nD τ) B.a4 fullShare σ.w ∗ owns (c : Thread nD τ) B.a5 fullShare σ.ws ∗ owns (c : Thread nD τ) B.a6 fullShare σ.bi
    ∗ owns (c : Thread nD τ) B.a7 fullShare σ.q ∗ owns (c : Thread nD τ) B.a8 fullShare σ.k ∗ owns (c : Thread nD τ) B.a9 fullShare σ.v
    ∗ owns (c : Thread nD τ) B.a10 fullShare σ.codes ∗ owns (c : Thread nD τ) B.a11 fullShare σ.scale
    ∗ owns (c : Thread nD τ) B.a12 fullShare σ.xsa ∗ owns (c : Thread nD τ) B.a13 fullShare σ.xsb
    ∗ owns (c : Thread nD τ) B.a14 fullShare σ.ca ∗ owns (c : Thread nD τ) B.a15 fullShare σ.sta ∗ owns (c : Thread nD τ) B.a16 fullShare σ.stb)

variable (F) in
/-- One of the sixteen: its buffer, its contents within a `St`, and that it can be taken out of `own` and put back
    at any other contents. -/
structure Slot (s : Shape) (e : EltTy) where
  m : Memref sig .tc .vmem s e
  get : St F → s.Idx → Elt F e
  set : St F → (s.Idx → Elt F e) → St F
  set_get : ∀ σ, set σ (get σ) = σ
  law : ∀ σ, own B c σ ⊢ iprop(owns (c : Thread nD τ) m fullShare (get σ)
    ∗ (∀ X, owns (c : Thread nD τ) m fullShare X -∗ own B c (set σ X)) : sProp 𝕄)

variable (F)

def sx0 : Slot F B c S2x128x3584 .bf16 := ⟨B.a1, St.x0, fun σ X => { σ with x0 := X }, fun _ => rfl, fun σ => by
  unfold own; iintro ⟨H1, H2, H3, H4, H5, H6, H7, H8, H9, H10, H11, H12, H13, H14, H15, H16⟩
  isplitl [H1]; · iexact H1
  iintro %X H1; iframe⟩

def sxa : Slot F B c S2x128x3584 .bf16 := ⟨B.a2, St.xa, fun σ X => { σ with xa := X }, fun _ => rfl, fun σ => by
  unfold own; iintro ⟨H1, H2, H3, H4, H5, H6, H7, H8, H9, H10, H11, H12, H13, H14, H15, H16⟩
  isplitl [H2]; · iexact H2
  iintro %X H2; iframe⟩

def sxb : Slot F B c S2x128x3584 .bf16 := ⟨B.a3, St.xb, fun σ X => { σ with xb := X }, fun _ => rfl, fun σ => by
  unfold own; iintro ⟨H1, H2, H3, H4, H5, H6, H7, H8, H9, H10, H11, H12, H13, H14, H15, H16⟩
  isplitl [H3]; · iexact H3
  iintro %X H3; iframe⟩

def sw : Slot F B c S3584x4608 .fp8e4m3 := ⟨B.a4, St.w, fun σ X => { σ with w := X }, fun _ => rfl, fun σ => by
  unfold own; iintro ⟨H1, H2, H3, H4, H5, H6, H7, H8, H9, H10, H11, H12, H13, H14, H15, H16⟩
  isplitl [H4]; · iexact H4
  iintro %X H4; iframe⟩

def sws : Slot F B c S1x4608 .f32 := ⟨B.a5, St.ws, fun σ X => { σ with ws := X }, fun _ => rfl, fun σ => by
  unfold own; iintro ⟨H1, H2, H3, H4, H5, H6, H7, H8, H9, H10, H11, H12, H13, H14, H15, H16⟩
  isplitl [H5]; · iexact H5
  iintro %X H5; iframe⟩

def sbi : Slot F B c S1x4608 .bf16 := ⟨B.a6, St.bi, fun σ X => { σ with bi := X }, fun _ => rfl, fun σ => by
  unfold own; iintro ⟨H1, H2, H3, H4, H5, H6, H7, H8, H9, H10, H11, H12, H13, H14, H15, H16⟩
  isplitl [H6]; · iexact H6
  iintro %X H6; iframe⟩

def sq : Slot F B c S4x28x128x128 .bf16 := ⟨B.a7, St.q, fun σ X => { σ with q := X }, fun _ => rfl, fun σ => by
  unfold own; iintro ⟨H1, H2, H3, H4, H5, H6, H7, H8, H9, H10, H11, H12, H13, H14, H15, H16⟩
  isplitl [H7]; · iexact H7
  iintro %X H7; iframe⟩

def sk : Slot F B c S4x128x4x128 .bf16 := ⟨B.a8, St.k, fun σ X => { σ with k := X }, fun _ => rfl, fun σ => by
  unfold own; iintro ⟨H1, H2, H3, H4, H5, H6, H7, H8, H9, H10, H11, H12, H13, H14, H15, H16⟩
  isplitl [H8]; · iexact H8
  iintro %X H8; iframe⟩

def sv : Slot F B c S4x128x4x128 .bf16 := ⟨B.a9, St.v, fun σ X => { σ with v := X }, fun _ => rfl, fun σ => by
  unfold own; iintro ⟨H1, H2, H3, H4, H5, H6, H7, H8, H9, H10, H11, H12, H13, H14, H15, H16⟩
  isplitl [H9]; · iexact H9
  iintro %X H9; iframe⟩

def scodes : Slot F B c S4x128x3584 .fp8e4m3 := ⟨B.a10, St.codes, fun σ X => { σ with codes := X }, fun _ => rfl, fun σ => by
  unfold own; iintro ⟨H1, H2, H3, H4, H5, H6, H7, H8, H9, H10, H11, H12, H13, H14, H15, H16⟩
  isplitl [H10]; · iexact H10
  iintro %X H10; iframe⟩

def sscale : Slot F B c S28x4x128 .f32 := ⟨B.a11, St.scale, fun σ X => { σ with scale := X }, fun _ => rfl, fun σ => by
  unfold own; iintro ⟨H1, H2, H3, H4, H5, H6, H7, H8, H9, H10, H11, H12, H13, H14, H15, H16⟩
  isplitl [H11]; · iexact H11
  iintro %X H11; iframe⟩

def sxsa : Slot F B c S256x3584 .bf16 := ⟨B.a12, St.xsa, fun σ X => { σ with xsa := X }, fun _ => rfl, fun σ => by
  unfold own; iintro ⟨H1, H2, H3, H4, H5, H6, H7, H8, H9, H10, H11, H12, H13, H14, H15, H16⟩
  isplitl [H12]; · iexact H12
  iintro %X H12; iframe⟩

def sxsb : Slot F B c S256x3584 .bf16 := ⟨B.a13, St.xsb, fun σ X => { σ with xsb := X }, fun _ => rfl, fun σ => by
  unfold own; iintro ⟨H1, H2, H3, H4, H5, H6, H7, H8, H9, H10, H11, H12, H13, H14, H15, H16⟩
  isplitl [H13]; · iexact H13
  iintro %X H13; iframe⟩

def sca : Slot F B c S2x128x3584 .fp8e4m3 := ⟨B.a14, St.ca, fun σ X => { σ with ca := X }, fun _ => rfl, fun σ => by
  unfold own; iintro ⟨H1, H2, H3, H4, H5, H6, H7, H8, H9, H10, H11, H12, H13, H14, H15, H16⟩
  isplitl [H14]; · iexact H14
  iintro %X H14; iframe⟩

def ssta : Slot F B c S2x128x128 .f32 := ⟨B.a15, St.sta, fun σ X => { σ with sta := X }, fun _ => rfl, fun σ => by
  unfold own; iintro ⟨H1, H2, H3, H4, H5, H6, H7, H8, H9, H10, H11, H12, H13, H14, H15, H16⟩
  isplitl [H15]; · iexact H15
  iintro %X H15; iframe⟩

def sstb : Slot F B c S2x128x128 .f32 := ⟨B.a16, St.stb, fun σ X => { σ with stb := X }, fun _ => rfl, fun σ => by
  unfold own; iintro ⟨H1, H2, H3, H4, H5, H6, H7, H8, H9, H10, H11, H12, H13, H14, H15, H16⟩
  isplitl [H16]; · iexact H16
  iintro %X H16; iframe⟩

variable {F}

/-! ## What a block of 128 columns is quantised to -/

/-- The block as 128 rows of 128 lanes in f32. -/
def wide (x : Vec F S1x128x128 .bf16) : FVec F S128x128 .f32 :=
  extf .f32 (shapeCast S128x128 x shapeCasts_S1x128x128_S128x128) bitsLt_bf16_f32

/-- Each row's largest magnitude, times the word nearest 1/448. -/
def rowMax (x : Vec F S1x128x128 .bf16) : FVec F S128x1 .f32 :=
  mulf (shapeCast S128x1 (multiReduction .maximumf [1] S128 (absf (wide x)) 0xFF800000#32 reduces_S128x128_S128 (.inl rfl) rfl)
    shapeCasts_S128_S128x1) (broadcast S128x1 (Scalar.ofBits .f32 0x3B124925#32))

/-- The exponent field of each row's number: how many of the 256 words `f <<< 23`, read as floats, it is not below, less
    one, put where the field stands. -/
def field (t : FVec F S128x1 .f32) : IVec S128x1 32 :=
  shli (subi (fptosi 32 (shapeCast S128x1 (multiReduction .add [1] S128
    (select (cmpf .olt (broadcastTo S128x256 t broadcasts_S128x1_S128x256)
        (bitcastToFloat (F := F) .f32 (shli (iota .tc S128x256 32 [1] iota_S128x256_d1_w32) (broadcast S128x256 23#32))))
      (broadcast S128x256 (Scalar.ofBits (F := F) .f32 0x00000000#32)) (broadcast S128x256 (Scalar.ofBits (F := F) .f32 0x3F800000#32)))
    0x00000000#32 reduces_S128x256_S128 (.inl rfl) rfl) shapeCasts_S128_S128x1)) (broadcast S128x1 1#32)) (broadcast S128x1 23#32)

/-- The scale: the power of two above, one for a field of zero. -/
def scaleOf (f : IVec S128x1 32) : FVec F S128x1 .f32 :=
  select (cmpi .eq f (broadcast S128x1 0#32)) (broadcast S128x1 (Scalar.ofBits .f32 0x3F800000#32))
    (bitcastToFloat .f32 (addi f (broadcast S128x1 8388608#32)))

/-- The scale's inverse. -/
def invOf (f : IVec S128x1 32) : FVec F S128x1 .f32 :=
  select (cmpi .eq f (broadcast S128x1 0#32)) (broadcast S128x1 (Scalar.ofBits .f32 0x3F800000#32))
    (bitcastToFloat .f32 (subi (broadcast S128x1 2122317824#32) f))

/-- The block's scales, row by row. -/
def scales (x : Vec F S1x128x128 .bf16) : FVec F S128x1 .f32 := scaleOf (field (rowMax x))

/-- The block's codes. -/
def codes8 (x : Vec F S1x128x128 .bf16) : FVec F S128x128 .fp8e4m3 :=
  truncf .fp8e4m3 (minimumf (broadcast S128x128 (Scalar.ofBits .f32 0x43E00000#32))
    (maximumf (broadcast S128x128 (Scalar.ofBits .f32 0xC3E00000#32))
      (mulf (wide x) (broadcastTo S128x128 (invOf (field (rowMax x))) broadcasts_S128x1_S128x128)))) bitsLt_fp8e4m3_f32

/-- The codes as they are stored. -/
def codesPay (x : Vec F S1x128x128 .bf16) : FVec F S1x128x128 .fp8e4m3 :=
  shapeCast S1x128x128 (codes8 x) shapeCasts_S128x128_S1x128x128

/-- The scaled activations the products are taken of: codes times scales in bf16. -/
def xsPay (x : Vec F S1x128x128 .bf16) : FVec F S128x128 .bf16 :=
  shapeCast S128x128 (mulf (extf .bf16 (codes8 x) bitsLt_fp8e4m3_bf16)
    (broadcastTo S128x128 (truncf .bf16 (scales x) bitsLt_bf16_f32) broadcasts_S128x1_S128x128)) shapeCasts_S128x128_S128x128

/-- The row's scales put in at lane `j` of the scales so far. -/
def accPay (j : Nat) (x : Vec F S1x128x128 .bf16) (acc : FVec F S128x128 .f32) : FVec F S128x128 .f32 :=
  select (cmpi .eq (iota .tc S128x128 32 [1] iota_S128x128_d1_w32) (broadcast S128x128 (BitVec.ofNat 32 j)))
    (broadcastTo S128x128 (shapeCast S128x1 (scales x) shapeCasts_S128x1_S128x1) broadcasts_S128x1_S128x128) acc

/-! ## The rectangles -/

theorem inbX : ∀ (b : Fin 2) (j : Fin 28) (a : Fin 3), (![b.val, 0, j.val * 128] : Fin 3 → Nat) a + S1x128x128.size a ≤ S2x128x3584.size a := by
  decide

/-- Half `b`'s rows, columns `128 j …`, of an array of two halves. -/
abbrev rX (b : Fin 2) (j : Fin 28) : Rect S2x128x3584 := Rect.unit (s := S2x128x3584) ![b.val, 0, j.val * 128] S1x128x128.size (inbX b j)

theorem inbS : ∀ (b : Fin 2) (j : Fin 28) (a : Fin 2), (![b.val * 128, j.val * 128] : Fin 2 → Nat) a + S128x128.size a ≤ S256x3584.size a := by
  decide

/-- The same of the scaled activations. -/
abbrev rS (b : Fin 2) (j : Fin 28) : Rect S256x3584 := Rect.unit (s := S256x3584) ![b.val * 128, j.val * 128] S128x128.size (inbS b j)

theorem inbT : ∀ (b : Fin 2) (a : Fin 3), (![b.val, 0, 0] : Fin 3 → Nat) a + S1x128x128.size a ≤ S2x128x128.size a := by decide

/-- Half `b` of the scales. -/
abbrev rT (b : Fin 2) : Rect S2x128x128 := Rect.unit (s := S2x128x128) ![b.val, 0, 0] S1x128x128.size (inbT b)

theorem inbC : ∀ (b : Fin 2) (j : Fin 28) (a : Fin 3), (![2 + b.val, 0, j.val * 128] : Fin 3 → Nat) a + S1x128x128.size a ≤ S4x128x3584.size a := by
  decide

/-- Rows `2 + b`, columns `128 j …`, of the resulting codes. -/
abbrev rC (b : Fin 2) (j : Fin 28) : Rect S4x128x3584 := Rect.unit (s := S4x128x3584) ![2 + b.val, 0, j.val * 128] S1x128x128.size (inbC b j)

theorem inbH : ∀ (a : Fin 3), (![2, 0, 0] : Fin 3 → Nat) a + S2x128x3584.size a ≤ S4x128x3584.size a := by decide

/-- The second two rows of the resulting codes. -/
abbrev rH : Rect S4x128x3584 := Rect.unit (s := S4x128x3584) ![2, 0, 0] S2x128x3584.size inbH

theorem inbD : ∀ (a : Fin 3), (![0, 0, 0] : Fin 3 → Nat) a + S2x128x3584.size a ≤ S4x128x3584.size a := by decide

/-- The first two. -/
abbrev rD : Rect S4x128x3584 := Rect.unit (s := S4x128x3584) ![0, 0, 0] S2x128x3584.size inbD

theorem inbW2 : ∀ (a : Fin 3), (![0, 0, 0] : Fin 3 → Nat) a + S2x128x3584.size a ≤ S2x128x3584.size a := by decide
theorem inbW1 : ∀ (a : Fin 2), (![0, 0] : Fin 2 → Nat) a + S256x3584.size a ≤ S256x3584.size a := by decide

/-- The whole of an array of two halves, and of the scaled activations. -/
abbrev rW2 : Rect S2x128x3584 := Rect.unit (s := S2x128x3584) ![0, 0, 0] S2x128x3584.size inbW2
abbrev rW1 : Rect S256x3584 := Rect.unit (s := S256x3584) ![0, 0] S256x3584.size inbW1

theorem inbG : ∀ (b : Fin 4) (a : Fin 3), (![0, b.val, 0] : Fin 3 → Nat) a + S28x1x128.size a ≤ S28x4x128.size a := by decide

/-- Row `b` of the resulting scales. -/
abbrev rG (b : Fin 4) : Rect S28x4x128 := Rect.unit (s := S28x4x128) ![0, b.val, 0] S28x1x128.size (inbG b)

theorem inbWn : ∀ (n : Fin 9) (a : Fin 2), (![0, n.val * 512] : Fin 2 → Nat) a + S3584x512.size a ≤ S3584x4608.size a := by decide
theorem inbBn : ∀ (n : Fin 9) (a : Fin 2), (![0, n.val * 512] : Fin 2 → Nat) a + S1x512.size a ≤ S1x4608.size a := by decide

/-- Columns `512 n …` of the weights, and of their scales and the bias. -/
abbrev rWn (n : Fin 9) : Rect S3584x4608 := Rect.unit (s := S3584x4608) ![0, n.val * 512] S3584x512.size (inbWn n)
abbrev rBn (n : Fin 9) : Rect S1x4608 := Rect.unit (s := S1x4608) ![0, n.val * 512] S1x512.size (inbBn n)

theorem inbQ : ∀ (r : Fin 4) (h : Fin 28) (a : Fin 4), (![r.val, h.val, 0, 0] : Fin 4 → Nat) a + S1x1x128x128.size a ≤ S4x28x128x128.size a := by
  decide

/-- Row `r`, head `h` of the queries. -/
abbrev rQ (r : Fin 4) (h : Fin 28) : Rect S4x28x128x128 := Rect.unit (s := S4x28x128x128) ![r.val, h.val, 0, 0] S1x1x128x128.size (inbQ r h)

theorem inbK1 : ∀ (r : Fin 4) (h : Fin 4) (a : Fin 4), (![r.val, 0, h.val, 0] : Fin 4 → Nat) a + S1x128x1x128.size a ≤ S4x128x4x128.size a := by
  decide
theorem inbK2 : ∀ (r : Fin 4) (h : Fin 4) (a : Fin 4), (![r.val, 0, h.val / 2 * 2, 0] : Fin 4 → Nat) a + S1x128x2x128.size a ≤ S4x128x4x128.size a := by
  decide

/-- Row `r`, head `h` of the keys or values, and the pair of heads it is one of. -/
abbrev rK1 (r h : Fin 4) : Rect S4x128x4x128 := Rect.unit (s := S4x128x4x128) ![r.val, 0, h.val, 0] S1x128x1x128.size (inbK1 r h)
abbrev rK2 (r h : Fin 4) : Rect S4x128x4x128 := Rect.unit (s := S4x128x4x128) ![r.val, 0, h.val / 2 * 2, 0] S1x128x2x128.size (inbK2 r h)

theorem slY : ∀ (b : Fin 2) (h : Fin 4), S256x512.Slices ![b.val * 128, h.val * 128] S128x128 := by decide
theorem slK : ∀ (h : Fin 4), S1x128x2x128.Slices ![0, 0, h.val % 2, 0] S1x128x1x128 := by decide

/-! ## Programs that take contents to contents -/

/-- Programs of the body. -/
abbrev P (F : FTy → Type) := Prog (TpuEff nD τ sig (Elt F) Λ₀ .tc) PUnit

/-- From the contents `σ` the program `p` runs to the end and leaves the contents `ρ`. -/
def Runs (σ : St F) (p : P F) (ρ : St F) : Prop :=
  ∀ (𝒱 : Variants) (Q : PUnit → sProp 𝕄), (own B c ρ ⊢ Q ⟨⟩) →
    (own B c σ ⊢ wp frame (wpE defs₀ 𝒱 (c : Thread nD τ) none) Set.univ p Q)

variable {B c}

/-- A load reads the slot's contents through its rectangle. -/
theorem runs_load {s : Shape} {e : EltTy} (L : Slot F B c s e) {r : Rect s} {hl : L.m.view.LoadsAt r.toLoadRect}
    {k : (r.shape.Idx → Elt F e) → P F} {σ ρ : St F} (h : Runs B c σ (k (ld r (L.get σ))) ρ) :
    Runs B c σ (.op (.load L.m r.toLoadRect hl) k) ρ := by
  intro 𝒱 Q hQ
  refine (L.law σ).trans ?_
  unfold owns
  iintro ⟨⟨%f, %hf, H⟩, Hk⟩
  iapply (wp_load_rect 𝒱 (c : Thread nD τ) none Set.univ (m := L.m) (r := r) (View.set_slice_subset _ _)) $$ H
  iintro H
  have e1 : (L.m.access r).read (Elt F) f = ld r (L.get σ) := by rw [← hf]; rfl
  rw [e1]
  have e2 := h 𝒱 Q hQ
  iapply e2
  have e3 : own B c σ = own B c (L.set σ (L.get σ)) := by rw [L.set_get]
  rw [e3]
  iapply Hk
  iexists f
  isplitr [H]
  · ipureintro; exact hf
  · iexact H

/-- A store writes the slot's contents through its rectangle. -/
theorem runs_store {s : Shape} {e : EltTy} (L : Slot F B c s e) {r : Rect s} {w : r.shape.Idx → Elt F e}
    {hx : (L.m.access r).Stores Finset.univ} {hm : (Finset.univ : Finset r.shape.Idx) = Finset.univ ∨ ∀ a, r.stride a = 1}
    {k : PUnit → P F} {σ ρ : St F} (h : Runs B c (L.set σ (st r (L.get σ) w)) (k ⟨⟩) ρ) :
    Runs B c σ (.op (.store L.m r w Finset.univ hx hm) k) ρ := by
  intro 𝒱 Q hQ
  refine (L.law σ).trans ?_
  unfold owns
  iintro ⟨⟨%f, %hf, H⟩, Hk⟩
  iapply (wp_store 𝒱 (c : Thread nD τ) none Set.univ (m := L.m) (r := r) (Mk := Finset.univ) (View.set_slice_subset _ _)) $$ H
  iintro H
  have e2 := h 𝒱 Q hQ
  iapply e2
  iapply Hk
  iexists _
  isplitr [H]
  · ipureintro
    funext y
    by_cases hy : ∃ x, r.emb x = y
    · obtain ⟨x, rfl⟩ := hy
      rw [st_emb]
      exact View.read_slice_write_emb r f w (Finset.mem_univ x)
    · rw [st_miss r _ w y (by simpa using hy), ← hf]
      exact View.read_slice_write_of_not_mem r f w Finset.univ (by
        intro hm'; obtain ⟨x, _, hx'⟩ := Finset.mem_map.mp hm'; exact hy ⟨x, hx'⟩)
  · iexact H

/-- A load through a part of the slot's buffer whose value goes unused. -/
theorem runs_dead {s : Shape} {e : EltTy} (L : Slot F B c s e) {r0 : Rect s} {h0 : ∀ a, r0.stride a = 1}
    {r : Rect r0.shape} {hl : (L.m.slice r0 h0).view.LoadsAt r.toLoadRect}
    {k : (r.shape.Idx → Elt F e) → P F} {σ ρ : St F} (h : ∀ v, Runs B c σ (k v) ρ) :
    Runs B c σ (.op (.load (L.m.slice r0 h0) r.toLoadRect hl) k) ρ := by
  intro 𝒱 Q hQ
  refine (L.law σ).trans ?_
  unfold owns
  iintro ⟨⟨%f, %hf, H⟩, Hk⟩
  have e1 := wp_load_rect 𝒱 (c : Thread nD τ) none Set.univ (defs := defs₀) (Γ := .empty) (m := L.m.slice r0 h0) (r := r) (hl := hl) (k := k) (Q := Q)
    (S := L.m.view.set) (q := fullShare) (f := f) ((View.set_slice_subset _ _).trans (View.set_slice_subset _ _))
  iapply e1 $$ H
  iintro H
  have e2 := h (((L.m.slice r0 h0).access r).read (Elt F) f) 𝒱 Q hQ
  iapply e2
  have e3 : own B c σ = own B c (L.set σ (L.get σ)) := by rw [L.set_get]
  rw [e3]
  iapply Hk
  iexists f
  isplitr [H]
  · ipureintro; exact hf
  · iexact H

end Cert.KernelIdeal.Run

end
-- ==== Proof.Steps.lean ====
/-
  The body's steps: each a program with the rest of the body as its continuation, and what it does to the contents.
-/
module

public import proofs.«01_k».proof.Proof.Body

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.SL Idealize.SL.RA Idealize.SL.BI
open Idealize.SL.Sem

variable {F : FTy → Type} [FloatOps F]

/-! ## Packed rows of the rectangles stored through -/

theorem pkX (b : Fin 2) (j : Fin 28) : (rX b j).PackedRows (EltTy.packing .fp8e4m3) :=
  Affine.packed_dvd (by decide) ⟨0, rfl⟩ ⟨32, rfl⟩
theorem pkC (b : Fin 2) (j : Fin 28) : (rC b j).PackedRows (EltTy.packing .fp8e4m3) :=
  Affine.packed_dvd (by decide) ⟨0, rfl⟩ ⟨32, rfl⟩
theorem pkD : rD.PackedRows (EltTy.packing .fp8e4m3) := Affine.packed_dvd (by decide) ⟨0, rfl⟩ ⟨32, rfl⟩
theorem pkS (b : Fin 2) (j : Fin 28) : (rS b j).PackedRows (EltTy.packing .bf16) :=
  Affine.packed_dvd (by decide) ⟨b.val * 64, by show b.val * 128 = 2 * (b.val * 64); omega⟩ ⟨64, rfl⟩
theorem pkQ (r : Fin 4) (h : Fin 28) : (rQ r h).PackedRows (EltTy.packing .bf16) :=
  Affine.packed_dvd (by decide) ⟨0, rfl⟩ ⟨64, rfl⟩
theorem pkK2 (r h : Fin 4) : (rK2 r h).PackedRows (EltTy.packing .bf16) :=
  Affine.packed_dvd (by decide) ⟨h.val / 2, by show h.val / 2 * 2 = 2 * (h.val / 2); omega⟩ ⟨1, rfl⟩

/-! ## The programs -/

/-- Quantise the blocks `js` of rows `b` of `X` into the first codes and scaled activations, the scales gathered in
    `acc`; then store them at rows `b` of `T`. -/
def quantA (X : Memref sig .tc .vmem S2x128x3584 .bf16) (C : Memref sig .tc .vmem S2x128x3584 .fp8e4m3) (hC : C.IsWhole)
    (S : Memref sig .tc .vmem S256x3584 .bf16) (hS : S.IsWhole) (T : Memref sig .tc .vmem S2x128x128 .f32) (b : Fin 2) :
    List (Fin 28) → FVec F S128x128 .f32 → (PUnit → P F) → P F
  | [], acc, k =>
      .op (.load T (rT b).toLoadRect (View.loadsAt_vmem h_S1x128x128)) fun _ =>
      .op (.store T (rT b) (shapeCast S1x128x128 acc shapeCasts_S128x128_S1x128x128) Finset.univ
        (View.stores_vmem_bits_univ h_S1x128x128 rfl) (.inl rfl)) k
  | j :: js, acc, k =>
      .op (.load X (rX b j).toLoadRect (View.loadsAt_vmem h_S1x128x128)) fun x =>
      .op (.load C (rX b j).toLoadRect (View.loadsAt_vmem h_S1x128x128)) fun _ =>
      .op (.store C (rX b j) (codesPay x) Finset.univ
        (View.stores_vmem h_S1x128x128 (hC.storeExact_slice rfl _ (pkX b j)) (fun _ => rfl)) (.inl rfl)) fun _ =>
      .op (.load S (rS b j).toLoadRect (View.loadsAt_vmem h_S128x128)) fun _ =>
      .op (.store S (rS b j) (xsPay x) Finset.univ
        (View.stores_vmem h_S128x128 (hS.storeExact_slice rfl _ (pkS b j)) (fun _ => rfl)) (.inl rfl)) fun _ =>
      quantA X C hC S hS T b js (accPay j.val x acc) k

/-- The same with the scales loaded from rows `b` of `T` first. -/
def groupA (X : Memref sig .tc .vmem S2x128x3584 .bf16) (C : Memref sig .tc .vmem S2x128x3584 .fp8e4m3) (hC : C.IsWhole)
    (S : Memref sig .tc .vmem S256x3584 .bf16) (hS : S.IsWhole) (T : Memref sig .tc .vmem S2x128x128 .f32) (b : Fin 2)
    (js : List (Fin 28)) (k : PUnit → P F) : P F :=
  .op (.load T (rT b).toLoadRect (View.loadsAt_vmem h_S1x128x128)) fun a =>
    quantA X C hC S hS T b js (shapeCast S128x128 a shapeCasts_S1x128x128_S128x128) k

/-- Quantise the blocks `js` of rows `b` of `X` straight into rows `2 + b` of the resulting codes. -/
def quantB (X : Memref sig .tc .vmem S2x128x3584 .bf16) (C : Memref sig .tc .vmem S4x128x3584 .fp8e4m3) (hC : C.IsWhole)
    (S : Memref sig .tc .vmem S256x3584 .bf16) (hS : S.IsWhole) (T : Memref sig .tc .vmem S2x128x128 .f32) (b : Fin 2) :
    List (Fin 28) → FVec F S128x128 .f32 → (PUnit → P F) → P F
  | [], acc, k =>
      .op (.load T (rT b).toLoadRect (View.loadsAt_vmem h_S1x128x128)) fun _ =>
      .op (.store T (rT b) (shapeCast S1x128x128 acc shapeCasts_S128x128_S1x128x128) Finset.univ
        (View.stores_vmem_bits_univ h_S1x128x128 rfl) (.inl rfl)) k
  | j :: js, acc, k =>
      .op (.load X (rX b j).toLoadRect (View.loadsAt_vmem h_S1x128x128)) fun x =>
      .op (.load (C.slice rH (fun _ => rfl)) (rX b j).toLoadRect (View.loadsAt_vmem h_S1x128x128)) fun _ =>
      .op (.store C (rC b j) (codesPay x) Finset.univ
        (View.stores_vmem h_S1x128x128 (hC.storeExact_slice rfl _ (pkC b j)) (fun _ => rfl)) (.inl rfl)) fun _ =>
      .op (.load S (rS b j).toLoadRect (View.loadsAt_vmem h_S128x128)) fun _ =>
      .op (.store S (rS b j) (xsPay x) Finset.univ
        (View.stores_vmem h_S128x128 (hS.storeExact_slice rfl _ (pkS b j)) (fun _ => rfl)) (.inl rfl)) fun _ =>
      quantB X C hC S hS T b js (accPay j.val x acc) k

/-- The same with the scales loaded from rows `b` of `T` first. -/
def groupB (X : Memref sig .tc .vmem S2x128x3584 .bf16) (C : Memref sig .tc .vmem S4x128x3584 .fp8e4m3) (hC : C.IsWhole)
    (S : Memref sig .tc .vmem S256x3584 .bf16) (hS : S.IsWhole) (T : Memref sig .tc .vmem S2x128x128 .f32) (b : Fin 2)
    (js : List (Fin 28)) (k : PUnit → P F) : P F :=
  .op (.load T (rT b).toLoadRect (View.loadsAt_vmem h_S1x128x128)) fun a =>
    quantB X C hC S hS T b js (shapeCast S128x128 a shapeCasts_S1x128x128_S128x128) k

/-- Copy the first codes to the first two rows of the resulting ones. -/
def codesOut (C : Memref sig .tc .vmem S2x128x3584 .fp8e4m3) (O : Memref sig .tc .vmem S4x128x3584 .fp8e4m3) (hO : O.IsWhole)
    (k : PUnit → P F) : P F :=
  .op (.load C rW2.toLoadRect (View.loadsAt_vmem h_S2x128x3584)) fun x =>
  .op (.load O rD.toLoadRect (View.loadsAt_vmem h_S2x128x3584)) fun _ =>
  .op (.store O rD x Finset.univ (View.stores_vmem h_S2x128x3584 (hO.storeExact_slice rfl _ pkD) (fun _ => rfl)) (.inl rfl)) k

/-- The scales of rows `b`, turned over and cut to the blocks there are. -/
def scalePay (x : Vec F S1x128x128 .f32) : FVec F S28x1x128 .f32 :=
  shapeCast S28x1x128 (extractStridedSlice S28x128 ![0, 0] (transpose S128x128 [1, 0]
    (shapeCast S128x128 x shapeCasts_S1x128x128_S128x128) transposes_S128x128_p1_0_S128x128) slices_S128x128_o0_0_S28x128)
    shapeCasts_S28x128_S28x1x128

/-- Copy the scales of rows `b` of `T` to row `g` of the resulting ones. -/
def scaleOut (T : Memref sig .tc .vmem S2x128x128 .f32) (O : Memref sig .tc .vmem S28x4x128 .f32) (b : Fin 2) (g : Fin 4)
    (k : PUnit → P F) : P F :=
  .op (.load T (rT b).toLoadRect (View.loadsAt_vmem h_S1x128x128)) fun x =>
  .op (.load O (rG g).toLoadRect (View.loadsAt_vmem h_S28x1x128)) fun _ =>
  .op (.store O (rG g) (scalePay x) Finset.univ (View.stores_vmem_bits_univ h_S28x1x128 rfl) (.inl rfl)) k

/-- The projection onto 512 columns, scaled, with its bias, in bf16. -/
def yPay (xs : Vec F S256x3584 .bf16) (w : Vec F S3584x512 .fp8e4m3) (ws : Vec F S1x512 .f32) (bi : Vec F S1x512 .bf16) :
    FVec F S256x512 .bf16 :=
  truncf .bf16 (addf (mulf (matmul dot_S256x3584_S3584x512_S256x512_1_0_0_1_n_n none xs w (constant S256x512 .f32 0#32))
      (broadcastTo S256x512 (shapeCast S1x512 ws shapeCasts_S1x512_S1x512) broadcasts_S1x512_S256x512))
    (broadcastTo S256x512 (extf .f32 (shapeCast S1x512 bi shapeCasts_S1x512_S1x512) bitsLt_bf16_f32) broadcasts_S1x512_S256x512))
    bitsLt_bf16_f32

/-- Rows `b`, head `h` of a projection. -/
def cut (b : Fin 2) (h : Fin 4) (y : FVec F S256x512 .bf16) : FVec F S128x128 .bf16 :=
  extractStridedSlice S128x128 ![b.val * 128, h.val * 128] y (slY b h)

/-- Row `b` of half `g`. -/
abbrev rowOf (g b : Fin 2) : Fin 4 := ⟨g.val * 2 + b.val, by omega⟩

/-- Head `c` of tile `n` of the queries. -/
abbrev headOf (n : Fin 7) (c : Fin 4) : Fin 28 := ⟨n.val * 4 + c.val, by omega⟩

/-- Store the heads of a projection as queries. -/
def storesQ (O : Memref sig .tc .vmem S4x28x128x128 .bf16) (hO : O.IsWhole) (g : Fin 2) (n : Fin 7) (y : FVec F S256x512 .bf16) :
    List (Fin 4 × Fin 2) → (PUnit → P F) → PUnit → P F
  | [], k, u => k u
  | p :: ps, k, _ =>
      .op (.load O (rQ (rowOf g p.2) (headOf n p.1)).toLoadRect (View.loadsAt_vmem h_S1x1x128x128)) fun _ =>
      .op (.store O (rQ (rowOf g p.2) (headOf n p.1)) (shapeCast S1x1x128x128 (cut p.2 p.1 y) shapeCasts_S128x128_S1x1x128x128)
        Finset.univ (View.stores_vmem h_S1x1x128x128 (hO.storeExact_slice rfl _ (pkQ _ _)) (fun _ => rfl)) (.inl rfl)) fun u =>
      storesQ O hO g n y ps k u

/-- One head put in its place in its pair. -/
def pairPut (h : Fin 4) (v : FVec F S128x128 .bf16) (old : Vec F S1x128x2x128 .bf16) : Vec F S1x128x2x128 .bf16 :=
  updateSlice old (shapeCast S1x128x1x128 v shapeCasts_S128x128_S1x128x1x128) ![0, 0, h.val % 2, 0] (slK h)

/-- Store the heads of a projection as keys or values. -/
def storesK (O : Memref sig .tc .vmem S4x128x4x128 .bf16) (hO : O.IsWhole) (g : Fin 2) (y : FVec F S256x512 .bf16) :
    List (Fin 4 × Fin 2) → (PUnit → P F) → PUnit → P F
  | [], k, u => k u
  | p :: ps, k, _ =>
      .op (.load O (rK1 (rowOf g p.2) p.1).toLoadRect (View.loadsAt_vmem h_S1x128x1x128)) fun _ =>
      .op (.load O (rK2 (rowOf g p.2) p.1).toLoadRect (View.loadsAt_vmem h_S1x128x2x128)) fun old =>
      .op (.store O (rK2 (rowOf g p.2) p.1) (pairPut p.1 (cut p.2 p.1 y) old)
        Finset.univ (View.stores_vmem h_S1x128x2x128 (hO.storeExact_slice rfl _ (pkK2 _ _)) (fun _ => rfl)) (.inl rfl)) fun u =>
      storesK O hO g y ps k u

/-- The heads in the order they are stored. -/
abbrev heads : List (Fin 4 × Fin 2) := [(0, 0), (0, 1), (1, 0), (1, 1), (2, 0), (2, 1), (3, 0), (3, 1)]

/-- Project onto tile `n` and store by `ss`. -/
def project (S : Memref sig .tc .vmem S256x3584 .bf16) (W : Memref sig .tc .vmem S3584x4608 .fp8e4m3)
    (WS : Memref sig .tc .vmem S1x4608 .f32) (BI : Memref sig .tc .vmem S1x4608 .bf16) (n : Fin 9)
    (ss : FVec F S256x512 .bf16 → P F) : P F :=
  .op (.load S rW1.toLoadRect (View.loadsAt_vmem h_S256x3584)) fun xs =>
  .op (.load W (rWn n).toLoadRect (View.loadsAt_vmem h_S3584x512)) fun w =>
  .op (.load WS (rBn n).toLoadRect (View.loadsAt_vmem h_S1x512)) fun ws =>
  .op (.load BI (rBn n).toLoadRect (View.loadsAt_vmem h_S1x512)) fun bi => ss (yPay xs w ws bi)

end Cert.KernelIdeal.Run

end
-- ==== Proof.Acts.lean ====
/-
  The steps as functions of the contents, and that the programs of the steps do them.
-/
module

public import proofs.«01_k».proof.Proof.Steps

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.SL Idealize.SL.RA Idealize.SL.BI
open Idealize.SL.Sem

variable {F : FTy → Type} [FloatOps F]

/-! ## What a step makes of an array -/

/-- The codes of the blocks `js` of rows `b` of `x` put into `C`. -/
def fillC (x : S2x128x3584.Idx → Elt F .bf16) (b : Fin 2) (js : List (Fin 28)) (C : S2x128x3584.Idx → Elt F .fp8e4m3) :
    S2x128x3584.Idx → Elt F .fp8e4m3 :=
  js.foldl (fun C j => st (rX b j) C (codesPay (ld (rX b j) x))) C

/-- The same put into rows `2 + b` of the resulting codes. -/
def fillO (x : S2x128x3584.Idx → Elt F .bf16) (b : Fin 2) (js : List (Fin 28)) (C : S4x128x3584.Idx → Elt F .fp8e4m3) :
    S4x128x3584.Idx → Elt F .fp8e4m3 :=
  js.foldl (fun C j => st (rC b j) C (codesPay (ld (rX b j) x))) C

/-- The scaled activations of those blocks put into `S`. -/
def fillS (x : S2x128x3584.Idx → Elt F .bf16) (b : Fin 2) (js : List (Fin 28)) (S : S256x3584.Idx → Elt F .bf16) :
    S256x3584.Idx → Elt F .bf16 :=
  js.foldl (fun S j => st (rS b j) S (xsPay (ld (rX b j) x))) S

/-- The scales of those blocks put into the lanes of `acc`. -/
def accs (x : S2x128x3584.Idx → Elt F .bf16) (b : Fin 2) (js : List (Fin 28)) (acc : FVec F S128x128 .f32) : FVec F S128x128 .f32 :=
  js.foldl (fun acc j => accPay j.val (ld (rX b j) x) acc) acc

/-- And from rows `b` of `T` back to them. -/
def fillT (x : S2x128x3584.Idx → Elt F .bf16) (b : Fin 2) (js : List (Fin 28)) (T : S2x128x128.Idx → Elt F .f32) :
    S2x128x128.Idx → Elt F .f32 :=
  st (rT b) T (shapeCast S1x128x128 (accs x b js (shapeCast S128x128 (ld (rT b) T) shapeCasts_S1x128x128_S128x128))
    shapeCasts_S128x128_S1x128x128)

/-- Tile `n` of the projection of `xs`. -/
def tile (xs : S256x3584.Idx → Elt F .bf16) (w : S3584x4608.Idx → Elt F .fp8e4m3) (ws : S1x4608.Idx → Elt F .f32)
    (bi : S1x4608.Idx → Elt F .bf16) (n : Fin 9) : FVec F S256x512 .bf16 :=
  yPay (ld rW1 xs) (ld (rWn n) w) (ld (rBn n) ws) (ld (rBn n) bi)

/-- The heads of a tile put into the queries. -/
def fillQ (g : Fin 2) (n : Fin 7) (y : FVec F S256x512 .bf16) (ps : List (Fin 4 × Fin 2)) (O : S4x28x128x128.Idx → Elt F .bf16) :
    S4x28x128x128.Idx → Elt F .bf16 :=
  ps.foldl (fun O p => st (rQ (rowOf g p.2) (headOf n p.1)) O (shapeCast S1x1x128x128 (cut p.2 p.1 y) shapeCasts_S128x128_S1x1x128x128)) O

/-- The heads of a tile put into the keys or values. -/
def fillK (g : Fin 2) (y : FVec F S256x512 .bf16) (ps : List (Fin 4 × Fin 2)) (O : S4x128x4x128.Idx → Elt F .bf16) :
    S4x128x4x128.Idx → Elt F .bf16 :=
  ps.foldl (fun O p => st (rK2 (rowOf g p.2) p.1) O (pairPut p.1 (cut p.2 p.1 y) (ld (rK2 (rowOf g p.2) p.1) O))) O

theorem fillQ_cons (g : Fin 2) (n : Fin 7) (y : FVec F S256x512 .bf16) (p : Fin 4 × Fin 2) (ps : List (Fin 4 × Fin 2))
    (O : S4x28x128x128.Idx → Elt F .bf16) : fillQ g n y (p :: ps) O = fillQ g n y ps
      (st (rQ (rowOf g p.2) (headOf n p.1)) O (shapeCast S1x1x128x128 (cut p.2 p.1 y) shapeCasts_S128x128_S1x1x128x128)) := by
  unfold fillQ; rw [List.foldl_cons]

theorem fillK_cons (g : Fin 2) (y : FVec F S256x512 .bf16) (p : Fin 4 × Fin 2) (ps : List (Fin 4 × Fin 2))
    (O : S4x128x4x128.Idx → Elt F .bf16) : fillK g y (p :: ps) O = fillK g y ps
      (st (rK2 (rowOf g p.2) p.1) O (pairPut p.1 (cut p.2 p.1 y) (ld (rK2 (rowOf g p.2) p.1) O))) := by
  unfold fillK; rw [List.foldl_cons]

/-! ## The steps -/

/-- The body's steps: quantise blocks of rows `b` (of the first block of activations, of the next point's first half,
    of this point's second half), copy the codes, copy the scales of rows `b`, project a tile of half `g`. -/
inductive Act
  | q0 (b : Fin 2) (js : List (Fin 28))
  | qa (b : Fin 2) (js : List (Fin 28))
  | qb (b : Fin 2) (js : List (Fin 28))
  | cOut
  | sa (b : Fin 2)
  | sb (b : Fin 2)
  | pa (n : Fin 7)
  | pak
  | pav
  | pb (n : Fin 7)
  | pbk
  | pbv

/-- The tile of the queries as one of all. -/
abbrev up (n : Fin 7) : Fin 9 := ⟨n.val, by omega⟩

/-- What a step does to the contents. -/
def exec : Act → St F → St F
  | .q0 b js, σ => { σ with ca := fillC σ.x0 b js σ.ca, xsa := fillS σ.x0 b js σ.xsa, sta := fillT σ.x0 b js σ.sta }
  | .qa b js, σ => { σ with ca := fillC σ.xa b js σ.ca, xsa := fillS σ.xa b js σ.xsa, sta := fillT σ.xa b js σ.sta }
  | .qb b js, σ => { σ with codes := fillO σ.xb b js σ.codes, xsb := fillS σ.xb b js σ.xsb, stb := fillT σ.xb b js σ.stb }
  | .cOut, σ => { σ with codes := st rD σ.codes (ld rW2 σ.ca) }
  | .sa b, σ => { σ with scale := st (rG (rowOf 0 b)) σ.scale (scalePay (ld (rT b) σ.sta)) }
  | .sb b, σ => { σ with scale := st (rG (rowOf 1 b)) σ.scale (scalePay (ld (rT b) σ.stb)) }
  | .pa n, σ => { σ with q := fillQ 0 n (tile σ.xsa σ.w σ.ws σ.bi (up n)) heads σ.q }
  | .pak, σ => { σ with k := fillK 0 (tile σ.xsa σ.w σ.ws σ.bi 7) heads σ.k }
  | .pav, σ => { σ with v := fillK 0 (tile σ.xsa σ.w σ.ws σ.bi 8) heads σ.v }
  | .pb n, σ => { σ with q := fillQ 1 n (tile σ.xsb σ.w σ.ws σ.bi (up n)) heads σ.q }
  | .pbk, σ => { σ with k := fillK 1 (tile σ.xsb σ.w σ.ws σ.bi 7) heads σ.k }
  | .pbv, σ => { σ with v := fillK 1 (tile σ.xsb σ.w σ.ws σ.bi 8) heads σ.v }

/-- What a list of steps does, the first one first. -/
def execs (L : List Act) (σ : St F) : St F := L.foldl (fun σ a => exec a σ) σ

variable (B : Bufs) (c : Dev nD)

/-- The program does the steps from any contents. -/
def Does (L : List Act) (p : P F) : Prop := ∀ σ, Runs B c σ p (execs L σ)

variable {B c}

/-- One step, then the others. -/
theorem does_step {a : Act} {L : List Act} {p : P F} {k : PUnit → P F}
    (hp : ∀ σ ρ, Runs B c (exec a σ) (k ⟨⟩) ρ → Runs B c σ p ρ) (h : ∀ u, Does B c L (k u)) : Does B c (a :: L) p :=
  fun σ => hp σ _ (h ⟨⟩ _)

/-- A finished program does nothing. -/
theorem does_nil : Does B c [] (.ret ⟨⟩ : P F) := fun σ 𝒱 Q hQ => hQ.trans (by rw [Idealize.SL.Sem.wp_ret]; exact fupd_intro)

theorem runs_quantA (X : Slot F B c S2x128x3584 .bf16) (x : S2x128x3584.Idx → Elt F .bf16)
    (hX : ∀ (σ : St F) C D, X.get { σ with ca := C, xsa := D } = X.get σ) (b : Fin 2) (js : List (Fin 28)) :
    ∀ (acc : FVec F S128x128 .f32) (k : PUnit → P F) (σ ρ : St F), X.get σ = x →
      Runs B c { σ with ca := fillC x b js σ.ca, xsa := fillS x b js σ.xsa, sta := st (rT b) σ.sta (shapeCast S1x128x128 (accs x b js acc) shapeCasts_S128x128_S1x128x128) } (k ⟨⟩) ρ →
      Runs B c σ (quantA X.m B.a14 B.h14 B.a12 B.h12 B.a15 b js acc k) ρ := by
  induction js with
  | nil =>
    intro acc k σ ρ hx h
    exact runs_load (ssta F B c) (runs_store (ssta F B c) h)
  | cons j js ih =>
    intro acc k σ ρ hx h
    subst hx
    refine runs_load X (runs_load (sca F B c) (runs_store (sca F B c) (runs_load (sxsa F B c) (runs_store (sxsa F B c) ?_))))
    exact ih _ _ _ _ (hX σ _ _) h

theorem runs_quantB (x : S2x128x3584.Idx → Elt F .bf16) (b : Fin 2) (js : List (Fin 28)) :
    ∀ (acc : FVec F S128x128 .f32) (k : PUnit → P F) (σ ρ : St F), σ.xb = x →
      Runs B c { σ with codes := fillO x b js σ.codes, xsb := fillS x b js σ.xsb, stb := st (rT b) σ.stb (shapeCast S1x128x128 (accs x b js acc) shapeCasts_S128x128_S1x128x128) } (k ⟨⟩) ρ →
      Runs B c σ (quantB B.a3 B.a10 B.h10 B.a13 B.h13 B.a16 b js acc k) ρ := by
  induction js with
  | nil =>
    intro acc k σ ρ hx h
    exact runs_load (sstb F B c) (runs_store (sstb F B c) h)
  | cons j js ih =>
    intro acc k σ ρ hx h
    subst hx
    refine runs_load (sxb F B c) (runs_dead (scodes F B c) fun _ => runs_store (scodes F B c)
      (runs_load (sxsb F B c) (runs_store (sxsb F B c) ?_)))
    exact ih _ _ _ _ rfl h

theorem does_q0 (b : Fin 2) (js : List (Fin 28)) {L : List Act} {k : PUnit → P F} (h : ∀ u, Does B c L (k u)) :
    Does B c (.q0 b js :: L) (groupA B.a1 B.a14 B.h14 B.a12 B.h12 B.a15 b js k) :=
  does_step (fun σ ρ h' =>   runs_load (ssta F B c) (runs_quantA (sx0 F B c) σ.x0 (fun _ _ _ => rfl) b js _ _ _ _ rfl h')) h

theorem does_qa (b : Fin 2) (js : List (Fin 28)) {L : List Act} {k : PUnit → P F} (h : ∀ u, Does B c L (k u)) :
    Does B c (.qa b js :: L) (groupA B.a2 B.a14 B.h14 B.a12 B.h12 B.a15 b js k) :=
  does_step (fun σ ρ h' =>   runs_load (ssta F B c) (runs_quantA (sxa F B c) σ.xa (fun _ _ _ => rfl) b js _ _ _ _ rfl h')) h

theorem does_qb (b : Fin 2) (js : List (Fin 28)) {L : List Act} {k : PUnit → P F} (h : ∀ u, Does B c L (k u)) :
    Does B c (.qb b js :: L) (groupB B.a3 B.a10 B.h10 B.a13 B.h13 B.a16 b js k) :=
  does_step (fun σ ρ h' =>   runs_load (sstb F B c) (runs_quantB σ.xb b js _ _ _ _ rfl h')) h

theorem does_cOut {L : List Act} {k : PUnit → P F} (h : ∀ u, Does B c L (k u)) :
    Does B c (.cOut :: L) (codesOut B.a14 B.a10 B.h10 k) :=
  does_step (fun σ ρ h' =>   runs_load (sca F B c) (runs_load (scodes F B c) (runs_store (scodes F B c) h'))) h

theorem does_sa (b : Fin 2) {L : List Act} {k : PUnit → P F} (h : ∀ u, Does B c L (k u)) :
    Does B c (.sa b :: L) (scaleOut B.a15 B.a11 b (rowOf 0 b) k) :=
  does_step (fun σ ρ h' =>   runs_load (ssta F B c) (runs_load (sscale F B c) (runs_store (sscale F B c) h'))) h

theorem does_sb (b : Fin 2) {L : List Act} {k : PUnit → P F} (h : ∀ u, Does B c L (k u)) :
    Does B c (.sb b :: L) (scaleOut B.a16 B.a11 b (rowOf 1 b) k) :=
  does_step (fun σ ρ h' =>   runs_load (sstb F B c) (runs_load (sscale F B c) (runs_store (sscale F B c) h'))) h

theorem runs_storesQ (g : Fin 2) (n : Fin 7) (y : FVec F S256x512 .bf16) (ps : List (Fin 4 × Fin 2)) :
    ∀ (k : PUnit → P F) (u : PUnit) (σ ρ : St F), Runs B c { σ with q := fillQ g n y ps σ.q } (k ⟨⟩) ρ →
      Runs B c σ (storesQ B.a7 B.h7 g n y ps k u) ρ := by
  induction ps with
  | nil => intro k u σ ρ h; exact h
  | cons p ps ih =>
    intro k u σ ρ h
    rw [fillQ_cons] at h
    refine runs_load (sq F B c) (runs_store (sq F B c) ?_)
    exact ih k ⟨⟩ _ ρ h

theorem runs_storesK (O : Slot F B c S4x128x4x128 .bf16) (hO : O.m.IsWhole)
    (hs : ∀ σ X Y, O.set (O.set σ X) Y = O.set σ Y) (hg : ∀ σ X, O.get (O.set σ X) = X)
    (g : Fin 2) (y : FVec F S256x512 .bf16) (ps : List (Fin 4 × Fin 2)) :
    ∀ (k : PUnit → P F) (u : PUnit) (σ ρ : St F), Runs B c (O.set σ (fillK g y ps (O.get σ))) (k ⟨⟩) ρ →
      Runs B c σ (storesK O.m hO g y ps k u) ρ := by
  induction ps with
  | nil =>
    intro k u σ ρ h
    have e : O.set σ (fillK g y [] (O.get σ)) = σ := O.set_get σ
    rw [e] at h; exact h
  | cons p ps ih =>
    intro k u σ ρ h
    rw [fillK_cons] at h
    refine runs_load O (runs_load O (runs_store O ?_))
    refine ih k ⟨⟩ _ ρ ?_
    rw [hs, hg]; exact h

/-- A projection whose heads are stored as queries, from the scaled activations `S`. -/
def projQ (S : Memref sig .tc .vmem S256x3584 .bf16) (B : Bufs) (g : Fin 2) (n : Fin 7) (k : PUnit → P F) : P F :=
  project S B.a4 B.a5 B.a6 (up n) fun y => storesQ B.a7 B.h7 g n y heads k ⟨⟩

/-- A projection whose heads are stored as keys or values. -/
def projK (S : Memref sig .tc .vmem S256x3584 .bf16) (B : Bufs) (O : Memref sig .tc .vmem S4x128x4x128 .bf16) (hO : O.IsWhole)
    (g : Fin 2) (n : Fin 9) (k : PUnit → P F) : P F :=
  project S B.a4 B.a5 B.a6 n fun y => storesK O hO g y heads k ⟨⟩

theorem does_pa (n : Fin 7) {L : List Act} {k : PUnit → P F} (h : ∀ u, Does B c L (k u)) :
    Does B c (.pa n :: L) (projQ B.a12 B 0 n k) :=
  does_step (fun σ ρ h' =>   runs_load (sxsa F B c) (runs_load (sw F B c) (runs_load (sws F B c) (runs_load (sbi F B c)
    (runs_storesQ 0 n _ heads _ _ _ _ h'))))) h

theorem does_pb (n : Fin 7) {L : List Act} {k : PUnit → P F} (h : ∀ u, Does B c L (k u)) :
    Does B c (.pb n :: L) (projQ B.a13 B 1 n k) :=
  does_step (fun σ ρ h' =>   runs_load (sxsb F B c) (runs_load (sw F B c) (runs_load (sws F B c) (runs_load (sbi F B c)
    (runs_storesQ 1 n _ heads _ _ _ _ h'))))) h

theorem does_pak {L : List Act} {k : PUnit → P F} (h : ∀ u, Does B c L (k u)) :
    Does B c (.pak :: L) (projK B.a12 B B.a8 B.h8 0 7 k) :=
  does_step (fun σ ρ h' =>   runs_load (sxsa F B c) (runs_load (sw F B c) (runs_load (sws F B c) (runs_load (sbi F B c)
    (runs_storesK (sk F B c) B.h8 (fun _ _ _ => rfl) (fun _ _ => rfl) 0 _ heads _ _ _ _ h'))))) h

theorem does_pav {L : List Act} {k : PUnit → P F} (h : ∀ u, Does B c L (k u)) :
    Does B c (.pav :: L) (projK B.a12 B B.a9 B.h9 0 8 k) :=
  does_step (fun σ ρ h' =>   runs_load (sxsa F B c) (runs_load (sw F B c) (runs_load (sws F B c) (runs_load (sbi F B c)
    (runs_storesK (sv F B c) B.h9 (fun _ _ _ => rfl) (fun _ _ => rfl) 0 _ heads _ _ _ _ h'))))) h

theorem does_pbk {L : List Act} {k : PUnit → P F} (h : ∀ u, Does B c L (k u)) :
    Does B c (.pbk :: L) (projK B.a13 B B.a8 B.h8 1 7 k) :=
  does_step (fun σ ρ h' =>   runs_load (sxsb F B c) (runs_load (sw F B c) (runs_load (sws F B c) (runs_load (sbi F B c)
    (runs_storesK (sk F B c) B.h8 (fun _ _ _ => rfl) (fun _ _ => rfl) 1 _ heads _ _ _ _ h'))))) h

theorem does_pbv {L : List Act} {k : PUnit → P F} (h : ∀ u, Does B c L (k u)) :
    Does B c (.pbv :: L) (projK B.a13 B B.a9 B.h9 1 8 k) :=
  does_step (fun σ ρ h' =>   runs_load (sxsb F B c) (runs_load (sw F B c) (runs_load (sws F B c) (runs_load (sbi F B c)
    (runs_storesK (sv F B c) B.h9 (fun _ _ _ => rfl) (fun _ _ => rfl) 1 _ heads _ _ _ _ h'))))) h

end Cert.KernelIdeal.Run

end
-- ==== Proof.Walk.lean ====
/-
  The printed body is the steps, one after another.
-/
module

public import proofs.«01_k».proof.Proof.Acts

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.SL Idealize.SL.RA Idealize.SL.BI
open Idealize.SL.Sem

variable {F : FTy → Type} [FloatOps F] {B : Bufs} {c : Dev nD}

/-- A choice at the head of the body, whose other side is what follows. -/
theorem does_dite {p : Prop} [Decidable p] {L L' : List Act} {β : Type} {t : p → Prog (TpuEff nD τ sig (Elt F) Λ₀ .tc) β}
    {e : Prog (TpuEff nD τ sig (Elt F) Λ₀ .tc) β} {f : β → P F} (he : Does B c L' (Prog.bind e f))
    (ht : Does B c L' (Prog.bind e f) → ∀ h : p, Does B c L (Prog.bind (t h) f)) :
    Does B c (if p then L else L') (Prog.bind (if h : p then t h else e) f) := by
  by_cases h : p
  · rw [if_pos h, dif_pos h]; exact ht he h
  · rw [if_neg h, dif_neg h]; exact he

/-- Binding twice in a row is binding once. -/
theorem does_assoc {L : List Act} {α β : Type} {a : Prog (TpuEff nD τ sig (Elt F) Λ₀ .tc) α}
    {g : α → Prog (TpuEff nD τ sig (Elt F) Λ₀ .tc) β} {f : β → P F} (h : Does B c L (Prog.bind a fun x => Prog.bind (g x) f)) :
    Does B c L (Prog.bind (Prog.bind a g) f) := by
  rw [show Prog.bind (Prog.bind a g) f = Prog.bind a fun x => Prog.bind (g x) f from bind_assoc a g f]; exact h

/-- The word that says whether the point is the first. -/
abbrev isFirst (i : grid0.Coords) : BitVec 1 :=
  Scalar.cmpi .ne (Scalar.extui (Scalar.cmpi .eq (BitVec.ofNat 32 (i 0).val) 0#32)) 0#32

/-- The four blocks quantised after tile `n`. -/
abbrev four (n : Fin 7) : List (Fin 28) := [headOf n 0, headOf n 1, headOf n 2, headOf n 3]

/-- The steps taken at the first point only: quantise its first half. -/
abbrev initActs : List Act := [.q0 0 (List.finRange 28), .q0 1 (List.finRange 28)]

/-- The steps of tile `n` of the first half, and of the second. -/
abbrev tileA (n : Fin 7) : List Act := [.pa n, .qb 0 (four n), .qb 1 (four n)]
abbrev tileB (n : Fin 7) : List Act := [.pb n, .qa 0 (four n), .qa 1 (four n)]

/-- The steps taken at every point. -/
abbrev bodyActs : List Act := [.cOut, .sa 0, .sa 1] ++ tileA 0 ++ tileA 1 ++ tileA 2 ++ tileA 3 ++ tileA 4 ++ tileA 5 ++ tileA 6
  ++ [.pak, .qb 0 [], .qb 1 [], .pav, .qb 0 [], .qb 1 [], .sb 0, .sb 1]
  ++ tileB 0 ++ tileB 1 ++ tileB 2 ++ tileB 3 ++ tileB 4 ++ tileB 5 ++ tileB 6
  ++ [.pbk, .qa 0 [], .qa 1 [], .pbv, .qa 0 [], .qa 1 []]

set_option maxHeartbeats 4000000 in
/-- The body at a point does its steps, and at the first point those of the first half before. -/
theorem does_body (i : grid0.Coords) :
    Does B c (if isFirst i = 1#1 then initActs ++ bodyActs else bodyActs) (cc0_qkv_fp8_block (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16) := by
  refine does_assoc ?_
  refine does_dite ?_ ?_
  · refine does_cOut fun _ => does_sa 0 fun _ => does_sa 1 fun _ => ?_
    refine does_pa 0 fun _ => ?_
    refine does_qb 0 _ fun _ => ?_
    refine does_qb 1 _ fun _ => ?_
    refine does_pa 1 fun _ => ?_
    refine does_qb 0 _ fun _ => ?_
    refine does_qb 1 _ fun _ => ?_
    refine does_pa 2 fun _ => ?_
    refine does_qb 0 _ fun _ => ?_
    refine does_qb 1 _ fun _ => ?_
    refine does_pa 3 fun _ => ?_
    refine does_qb 0 _ fun _ => ?_
    refine does_qb 1 _ fun _ => ?_
    refine does_pa 4 fun _ => ?_
    refine does_qb 0 _ fun _ => ?_
    refine does_qb 1 _ fun _ => ?_
    refine does_pa 5 fun _ => ?_
    refine does_qb 0 _ fun _ => ?_
    refine does_qb 1 _ fun _ => ?_
    refine does_pa 6 fun _ => ?_
    refine does_qb 0 _ fun _ => ?_
    refine does_qb 1 _ fun _ => ?_
    refine does_pak fun _ => ?_
    refine does_qb 0 _ fun _ => ?_
    refine does_qb 1 _ fun _ => ?_
    refine does_pav fun _ => ?_
    refine does_qb 0 _ fun _ => ?_
    refine does_qb 1 _ fun _ => ?_
    refine does_sb 0 fun _ => ?_
    refine does_sb 1 fun _ => ?_
    refine does_pb 0 fun _ => ?_
    refine does_qa 0 _ fun _ => ?_
    refine does_qa 1 _ fun _ => ?_
    refine does_pb 1 fun _ => ?_
    refine does_qa 0 _ fun _ => ?_
    refine does_qa 1 _ fun _ => ?_
    refine does_pb 2 fun _ => ?_
    refine does_qa 0 _ fun _ => ?_
    refine does_qa 1 _ fun _ => ?_
    refine does_pb 3 fun _ => ?_
    refine does_qa 0 _ fun _ => ?_
    refine does_qa 1 _ fun _ => ?_
    refine does_pb 4 fun _ => ?_
    refine does_qa 0 _ fun _ => ?_
    refine does_qa 1 _ fun _ => ?_
    refine does_pb 5 fun _ => ?_
    refine does_qa 0 _ fun _ => ?_
    refine does_qa 1 _ fun _ => ?_
    refine does_pb 6 fun _ => ?_
    refine does_qa 0 _ fun _ => ?_
    refine does_qa 1 _ fun _ => ?_
    refine does_pbk fun _ => ?_
    refine does_qa 0 _ fun _ => ?_
    refine does_qa 1 _ fun _ => ?_
    refine does_pbv fun _ => ?_
    refine does_qa 0 _ fun _ => ?_
    refine does_qa 1 _ fun _ => ?_
    exact does_nil
  · intro he _
    refine does_q0 0 _ fun _ => ?_
    refine does_q0 1 _ fun _ => ?_
    exact he

end Cert.KernelIdeal.Run

end
-- ==== Proof.Effect.lean ====
/-
  What the body's steps make of the contents: every element of the results and of the scratch arrays as a function of
  the inputs.
-/
module

public import proofs.«01_k».proof.Proof.Walk
public import Idealize.ShloMosaic.Lib.Pointwise

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.ShloMosaic.Pointwise

variable {F : FTy → Type} [FloatOps F]

/-- A property that each step keeps, and that some step establishes, holds after all the steps. -/
theorem chain_or {α ι : Type} {f : α → ι → α} {P : α → Prop} {hit : ι → Prop} (h : ∀ X i, hit i ∨ P X → P (f X i)) :
    ∀ (gs : List ι) (X : α), (∃ g ∈ gs, hit g) ∨ P X → P (gs.foldl f X)
  | [], X, h' => by
    rcases h' with ⟨g, hg, _⟩ | h'
    · cases hg
    · exact h'
  | g :: gs, X, h' => by
    rw [List.foldl_cons]
    refine chain_or h gs _ ?_
    rcases h' with ⟨g', hg, hh⟩ | h'
    · rcases List.mem_cons.mp hg with rfl | hg
      · exact .inr (h _ _ (.inl hh))
      · exact .inl ⟨g', hg, hh⟩
    · exact .inr (h _ _ (.inr h'))

/-- A store puts the payload's element at `y`, or leaves what was there. -/
theorem st_or {s : Shape} {α : Type} (r : Rect s) (X : s.Idx → α) (w : r.shape.Idx → α) (y : s.Idx) (v : α)
    (hw : ∀ x, r.emb x = y → w x = v) (h : (∃ x, r.emb x = y) ∨ X y = v) : st r X w y = v := by
  by_cases hy : ∃ x, r.emb x = y
  · obtain ⟨x, hx⟩ := hy
    rw [st_hit r X w x y hx]; exact hw x hx
  · rw [st_miss r X w y (by simpa using hy)]
    exact h.resolve_left hy

/-! ## The groups of blocks -/

/-- The groups of blocks the body quantises, in order. -/
abbrev order : List (Fin 2 × List (Fin 28)) :=
  [(0, four 0), (1, four 0), (0, four 1), (1, four 1), (0, four 2), (1, four 2), (0, four 3), (1, four 3), (0, four 4), (1, four 4),
    (0, four 5), (1, four 5), (0, four 6), (1, four 6), (0, []), (1, []), (0, []), (1, [])]

/-- The groups the first point quantises before. -/
abbrev order0 : List (Fin 2 × List (Fin 28)) := [(0, List.finRange 28), (1, List.finRange 28)]

/-- Every block of both rows is in some group. -/
theorem order_all : ∀ (b : Fin 2) (j : Fin 28), ∃ g ∈ order, g.1 = b ∧ j ∈ g.2 := by decide
theorem order0_all : ∀ (b : Fin 2) (j : Fin 28), ∃ g ∈ order0, g.1 = b ∧ j ∈ g.2 := by
  intro b j
  refine ⟨(b, List.finRange 28), ?_, rfl, List.mem_finRange j⟩
  fin_cases b <;> simp

/-! ## What the arrays come to hold -/

/-- Block `j` of rows `b`. -/
abbrev blk (x : S2x128x3584.Idx → Elt F .bf16) (b : Fin 2) (j : Fin 28) : Vec F S1x128x128 .bf16 := ld (rX b j) x

/-- The block a column is of, and its place there; the half a line is of, and its row there. -/
abbrev bk (n : Fin 3584) : Fin 28 := ⟨n.val / 128, by omega⟩
abbrev ln (n : Nat) : Fin 128 := ⟨n % 128, by omega⟩
abbrev hf (n : Fin 256) : Fin 2 := ⟨n.val / 128, by omega⟩

/-- The codes of an array of two halves. -/
def specC (x : S2x128x3584.Idx → Elt F .bf16) : S2x128x3584.Idx → Elt F .fp8e4m3 := fun y =>
  codesPay (blk x (y 0) (bk (y 2))) (ix3 (n0 := 1) (n1 := 128) (n2 := 128) 0 (y 1) (ln (y 2).val))

/-- Its scaled activations, the halves one under the other. -/
def specS (x : S2x128x3584.Idx → Elt F .bf16) : S256x3584.Idx → Elt F .bf16 := fun y =>
  xsPay (blk x (hf (y 0)) (bk (y 1))) (ix2 (n0 := 128) (n1 := 128) (ln (y 0).val) (ln (y 1).val))

/-- Its scales. -/
def specT (x : S2x128x3584.Idx → Elt F .bf16) (b : Fin 2) (j : Fin 28) (r : Fin 128) : Elt F .f32 :=
  scales (blk x b j) (ix2 (n0 := 128) (n1 := 1) r 0)

/-- The resulting codes: `C` for the first two rows, then those of `x`. -/
def specO (C : S2x128x3584.Idx → Elt F .fp8e4m3) (x : S2x128x3584.Idx → Elt F .bf16) : S4x128x3584.Idx → Elt F .fp8e4m3 := fun y =>
  if h : (y 0).val < 2 then C (ix3 (n0 := 2) (n1 := 128) (n2 := 3584) ⟨(y 0).val, h⟩ (y 1) (y 2))
  else specC x (ix3 (n0 := 2) (n1 := 128) (n2 := 3584) ⟨(y 0).val - 2, by have := (y 0).isLt; change (y 0).val < 4 at this; omega⟩ (y 1) (y 2))

/-- The groups' codes put into `C`, their scaled activations into `S`, their scales into `T`. -/
def chainC (x : S2x128x3584.Idx → Elt F .bf16) (gs : List (Fin 2 × List (Fin 28))) (C : S2x128x3584.Idx → Elt F .fp8e4m3) :
    S2x128x3584.Idx → Elt F .fp8e4m3 := gs.foldl (fun C g => fillC x g.1 g.2 C) C
def chainO (x : S2x128x3584.Idx → Elt F .bf16) (gs : List (Fin 2 × List (Fin 28))) (C : S4x128x3584.Idx → Elt F .fp8e4m3) :
    S4x128x3584.Idx → Elt F .fp8e4m3 := gs.foldl (fun C g => fillO x g.1 g.2 C) C
def chainS (x : S2x128x3584.Idx → Elt F .bf16) (gs : List (Fin 2 × List (Fin 28))) (S : S256x3584.Idx → Elt F .bf16) :
    S256x3584.Idx → Elt F .bf16 := gs.foldl (fun S g => fillS x g.1 g.2 S) S
def chainT (x : S2x128x3584.Idx → Elt F .bf16) (gs : List (Fin 2 × List (Fin 28))) (T : S2x128x128.Idx → Elt F .f32) :
    S2x128x128.Idx → Elt F .f32 := gs.foldl (fun T g => fillT x g.1 g.2 T) T

/-- A store of what `G` says everywhere of its rectangle keeps `G`'s element where it was, and puts it where it stores. -/
theorem st_spec {s : Shape} {α : Type} (r : Rect s) (X G : s.Idx → α) (w : r.shape.Idx → α) (y : s.Idx)
    (hw : ∀ x, w x = G (r.emb x)) (h : (∃ x, r.emb x = y) ∨ X y = G y) : st r X w y = G y :=
  st_or r X w y (G y) (fun x hx => by rw [hw, hx]) h

/-- What is stored of block `j` of rows `b` is what the array's own codes are there. -/
theorem specC_at (x : S2x128x3584.Idx → Elt F .bf16) (b : Fin 2) (j : Fin 28) (z : S1x128x128.Idx) (y : S2x128x3584.Idx)
    (h0 : (y 0).val = b.val) (h1 : (y 1).val = (z 1).val) (h2 : (y 2).val = j.val * 128 + (z 2).val) :
    codesPay (blk x b j) z = specC x y := by
  have hz2 : (z 2).val < 128 := (z 2).isLt
  unfold specC
  have e0 : y 0 = b := Fin.ext h0
  have e2 : bk (y 2) = j := Fin.ext (by show (y 2).val / 128 = j.val; omega)
  rw [e0, e2]
  congr 1
  funext a
  match a with
  | ⟨0, _⟩ => exact Subsingleton.elim (α := Fin 1) _ _
  | ⟨1, _⟩ => exact Fin.ext h1.symm
  | ⟨2, _⟩ => exact Fin.ext (by show (z 2).val = (y 2).val % 128; omega)

theorem specS_at (x : S2x128x3584.Idx → Elt F .bf16) (b : Fin 2) (j : Fin 28) (z : S128x128.Idx) (y : S256x3584.Idx)
    (h0 : (y 0).val = b.val * 128 + (z 0).val) (h1 : (y 1).val = j.val * 128 + (z 1).val) :
    xsPay (blk x b j) z = specS x y := by
  have hz0 : (z 0).val < 128 := (z 0).isLt
  have hz1 : (z 1).val < 128 := (z 1).isLt
  unfold specS
  have e0 : hf (y 0) = b := Fin.ext (by show (y 0).val / 128 = b.val; omega)
  have e2 : bk (y 1) = j := Fin.ext (by show (y 1).val / 128 = j.val; omega)
  rw [e0, e2]
  congr 1
  funext a
  match a with
  | ⟨0, _⟩ => exact Fin.ext (by show (z 0).val = (y 0).val % 128; omega)
  | ⟨1, _⟩ => exact Fin.ext (by show (z 1).val = (y 1).val % 128; omega)

/-- Steps that keep or establish `G y` one by one keep or establish it together. -/
theorem fold_spec {s : Shape} {α ι : Type} {f : (s.Idx → α) → ι → (s.Idx → α)} (G : s.Idx → α) (y : s.Idx) (hit : ι → Prop)
    (h : ∀ X i, hit i ∨ X y = G y → f X i y = G y) (gs : List ι) (X : s.Idx → α) (h' : (∃ g ∈ gs, hit g) ∨ X y = G y) :
    gs.foldl f X y = G y :=
  chain_or (P := fun X => X y = G y) (hit := hit) h gs X h'

theorem fillC_spec (x : S2x128x3584.Idx → Elt F .bf16) (b : Fin 2) (js : List (Fin 28)) (C : S2x128x3584.Idx → Elt F .fp8e4m3)
    (y : S2x128x3584.Idx) (h : (b = y 0 ∧ bk (y 2) ∈ js) ∨ C y = specC x y) : fillC x b js C y = specC x y := by
  unfold fillC
  refine fold_spec (specC x) y (fun j => b = y 0 ∧ j = bk (y 2)) (fun C j hj => ?_) js C ?_
  · refine st_spec (rX b j) C (specC x) _ y (fun z => specC_at x b j z _ ?_ ?_ ?_) ?_
    · show b.val + 1 * (z 0).val = b.val
      have z0 : (z 0).val < 1 := (z 0).isLt
      omega
    · show 0 + 1 * (z 1).val = (z 1).val; omega
    · show j.val * 128 + 1 * (z 2).val = _; omega
    · rcases hj with ⟨h0, h2⟩ | hj
      · refine .inl ⟨ix3 (n0 := 1) (n1 := 128) (n2 := 128) 0 (y 1) (ln (y 2).val), ?_⟩
        subst h0 h2
        funext a
        match a with
        | ⟨0, _⟩ => exact Fin.ext (by show (y 0).val + 1 * 0 = (y 0).val; omega)
        | ⟨1, _⟩ => exact Fin.ext (by show 0 + 1 * (y 1).val = (y 1).val; omega)
        | ⟨2, _⟩ => exact Fin.ext (by show (y 2).val / 128 * 128 + 1 * ((y 2).val % 128) = (y 2).val; omega)
      · exact .inr hj
  · rcases h with ⟨h1, h2⟩ | h1
    · exact .inl ⟨_, h2, h1, rfl⟩
    · exact .inr h1

theorem fillO_spec (D : S2x128x3584.Idx → Elt F .fp8e4m3) (x : S2x128x3584.Idx → Elt F .bf16) (b : Fin 2) (js : List (Fin 28))
    (C : S4x128x3584.Idx → Elt F .fp8e4m3) (y : S4x128x3584.Idx)
    (h : (2 + b.val = (y 0).val ∧ bk (y 2) ∈ js) ∨ C y = specO D x y) : fillO x b js C y = specO D x y := by
  unfold fillO
  refine fold_spec (specO D x) y (fun j => 2 + b.val = (y 0).val ∧ j = bk (y 2)) (fun C j hj => ?_) js C ?_
  · refine st_spec (rC b j) C (specO D x) _ y (fun z => ?_) ?_
    · have z0 : (z 0).val < 1 := (z 0).isLt
      unfold specO
      rw [dif_neg (show ¬ ((rC b j).emb z 0).val < 2 by show ¬ 2 + b.val + 1 * (z 0).val < 2; omega)]
      refine specC_at x b j z _ ?_ ?_ ?_
      · show 2 + b.val + 1 * (z 0).val - 2 = b.val; omega
      · show 0 + 1 * (z 1).val = (z 1).val; omega
      · show j.val * 128 + 1 * (z 2).val = _; omega
    · rcases hj with ⟨h0, h2⟩ | hj
      · refine .inl ⟨ix3 (n0 := 1) (n1 := 128) (n2 := 128) 0 (y 1) (ln (y 2).val), ?_⟩
        subst h2
        funext a
        match a with
        | ⟨0, _⟩ => exact Fin.ext (by show 2 + b.val + 1 * 0 = (y 0).val; omega)
        | ⟨1, _⟩ => exact Fin.ext (by show 0 + 1 * (y 1).val = (y 1).val; omega)
        | ⟨2, _⟩ => exact Fin.ext (by show (y 2).val / 128 * 128 + 1 * ((y 2).val % 128) = (y 2).val; omega)
      · exact .inr hj
  · rcases h with ⟨h1, h2⟩ | h1
    · exact .inl ⟨_, h2, h1, rfl⟩
    · exact .inr h1

theorem fillS_spec (x : S2x128x3584.Idx → Elt F .bf16) (b : Fin 2) (js : List (Fin 28)) (S : S256x3584.Idx → Elt F .bf16)
    (y : S256x3584.Idx) (h : (b = hf (y 0) ∧ bk (y 1) ∈ js) ∨ S y = specS x y) : fillS x b js S y = specS x y := by
  unfold fillS
  refine fold_spec (specS x) y (fun j => b = hf (y 0) ∧ j = bk (y 1)) (fun C j hj => ?_) js S ?_
  · refine st_spec (rS b j) C (specS x) _ y (fun z => specS_at x b j z _ ?_ ?_) ?_
    · show b.val * 128 + 1 * (z 0).val = b.val * 128 + (z 0).val; omega
    · show j.val * 128 + 1 * (z 1).val = j.val * 128 + (z 1).val; omega
    · rcases hj with ⟨h0, h2⟩ | hj
      · refine .inl ⟨ix2 (n0 := 128) (n1 := 128) (ln (y 0).val) (ln (y 1).val), ?_⟩
        subst h0 h2
        funext a
        match a with
        | ⟨0, _⟩ => exact Fin.ext (by show (y 0).val / 128 * 128 + 1 * ((y 0).val % 128) = (y 0).val; omega)
        | ⟨1, _⟩ => exact Fin.ext (by show (y 1).val / 128 * 128 + 1 * ((y 1).val % 128) = (y 1).val; omega)
      · exact .inr hj
  · rcases h with ⟨h1, h2⟩ | h1
    · exact .inl ⟨_, h2, h1, rfl⟩
    · exact .inr h1

theorem chainC_spec (x : S2x128x3584.Idx → Elt F .bf16) (gs : List (Fin 2 × List (Fin 28)))
    (hg : ∀ (b : Fin 2) (j : Fin 28), ∃ g ∈ gs, g.1 = b ∧ j ∈ g.2) (C : S2x128x3584.Idx → Elt F .fp8e4m3) : chainC x gs C = specC x := by
  funext y
  unfold chainC
  exact fold_spec (specC x) y (fun g => g.1 = y 0 ∧ bk (y 2) ∈ g.2) (fun C g => fillC_spec x g.1 g.2 C y) gs C (.inl (hg _ _))

theorem chainS_spec (x : S2x128x3584.Idx → Elt F .bf16) (gs : List (Fin 2 × List (Fin 28)))
    (hg : ∀ (b : Fin 2) (j : Fin 28), ∃ g ∈ gs, g.1 = b ∧ j ∈ g.2) (S : S256x3584.Idx → Elt F .bf16) : chainS x gs S = specS x := by
  funext y
  unfold chainS
  exact fold_spec (specS x) y (fun g => g.1 = hf (y 0) ∧ bk (y 1) ∈ g.2) (fun C g => fillS_spec x g.1 g.2 C y) gs S (.inl (hg _ _))

theorem chainO_spec (D : S2x128x3584.Idx → Elt F .fp8e4m3) (x : S2x128x3584.Idx → Elt F .bf16) (gs : List (Fin 2 × List (Fin 28)))
    (hg : ∀ (b : Fin 2) (j : Fin 28), ∃ g ∈ gs, g.1 = b ∧ j ∈ g.2) (C : S4x128x3584.Idx → Elt F .fp8e4m3) :
    chainO x gs (st rD C (ld rW2 D)) = specO D x := by
  funext y
  have hy0 : (y 0).val < 4 := (y 0).isLt
  unfold chainO
  refine fold_spec (specO D x) y (fun g => 2 + g.1.val = (y 0).val ∧ bk (y 2) ∈ g.2) (fun C g => fillO_spec D x g.1 g.2 C y) gs _ ?_
  by_cases h : (y 0).val < 2
  · refine .inr (st_spec rD C (specO D x) _ y (fun z => ?_) (.inl ⟨ix3 (n0 := 2) (n1 := 128) (n2 := 3584) ⟨(y 0).val, h⟩ (y 1) (y 2), ?_⟩))
    · have z0 : (z 0).val < 2 := (z 0).isLt
      unfold specO
      rw [dif_pos (show (rD.emb z 0).val < 2 by show 0 + 1 * (z 0).val < 2; omega)]
      show D (rW2.emb z) = _
      congr 1
      funext a
      match a with
      | ⟨0, _⟩ => rfl
      | ⟨1, _⟩ => rfl
      | ⟨2, _⟩ => rfl
    · funext a
      match a with
      | ⟨0, _⟩ => exact Fin.ext (by show 0 + 1 * (y 0).val = (y 0).val; omega)
      | ⟨1, _⟩ => exact Fin.ext (by show 0 + 1 * (y 1).val = (y 1).val; omega)
      | ⟨2, _⟩ => exact Fin.ext (by show 0 + 1 * (y 2).val = (y 2).val; omega)
  · obtain ⟨g, hg1, hg2, hg3⟩ := hg ⟨(y 0).val - 2, by omega⟩ (bk (y 2))
    exact .inl ⟨g, hg1, by rw [hg2]; show 2 + ((y 0).val - 2) = (y 0).val; omega, hg3⟩

/-! ## The scales -/

/-- A cast reads the element whose row-major position is the same. -/
theorem cast_at {s t : Shape} {α : Type} (x : s.Idx → α) (h : s.ShapeCasts t) (j : t.Idx) (i : s.Idx)
    (e : (s.rowMajor i : Nat) = (t.rowMajor j : Nat)) : shapeCast t x h j = x i :=
  congrArg x (Shape.reshapeEquiv_eq_of_rowMajor h e)

/-- Dropping or adding a leading axis of one. -/
theorem cast_drop {α : Type} (x : S1x128x128.Idx → α) (h : S1x128x128.ShapeCasts S128x128) (r l : Fin 128) :
    shapeCast S128x128 x h (ix2 (n0 := 128) (n1 := 128) r l) = x (ix3 (n0 := 1) (n1 := 128) (n2 := 128) 0 r l) :=
  cast_at x h _ _ (by
    rw [rowMajor_val3 _ (128 * 128) 128 rfl rfl, rowMajor_val2 _ 128 rfl]
    show 0 * (128 * 128) + r.val * 128 + l.val = r.val * 128 + l.val; omega)
theorem cast_add {α : Type} (x : S128x128.Idx → α) (h : S128x128.ShapeCasts S1x128x128) (z : S1x128x128.Idx) :
    shapeCast S1x128x128 x h z = x (ix2 (n0 := 128) (n1 := 128) (z 1) (z 2)) :=
  cast_at x h _ _ (by
    rw [rowMajor_val3 _ (128 * 128) 128 rfl rfl, rowMajor_val2 _ 128 rfl]
    have z0 : (z 0).val < 1 := (z 0).isLt
    show (z 1).val * 128 + (z 2).val = (z 0).val * (128 * 128) + (z 1).val * 128 + (z 2).val; omega)

theorem embT (b : Fin 2) (z : Fin 1) (r l : Fin 128) :
    (rT b).emb (ix3 z r l) = ix3 (n0 := 2) (n1 := 128) (n2 := 128) b r l := by
  funext a
  match a with
  | ⟨0, _⟩ => exact Fin.ext (by show b.val + 1 * z.val = b.val; omega)
  | ⟨1, _⟩ => exact Fin.ext (by show 0 + 1 * r.val = r.val; omega)
  | ⟨2, _⟩ => exact Fin.ext (by show 0 + 1 * l.val = l.val; omega)

/-- The lane a block's scale goes to. -/
abbrev lane (j : Fin 28) : Fin 128 := ⟨j.val, by omega⟩

/-- A column spread over the lanes. -/
theorem spread_at {α : Type} (x : S128x1.Idx → α) (h : S128x1.Broadcasts S128x128) (r l : Fin 128) :
    broadcastTo S128x128 x h (ix2 (n0 := 128) (n1 := 128) r l) = x (ix2 (n0 := 128) (n1 := 1) r 0) := by
  rw [Pointwise.broadcastTo_apply]
  congr 1
  funext a
  match a with
  | ⟨0, _⟩ => rfl
  | ⟨1, _⟩ => rfl

/-- Putting block `j'`'s scales in at its lane. -/
theorem accPay_at (x : Vec F S1x128x128 .bf16) (j' j : Fin 28) (acc : FVec F S128x128 .f32) (r : Fin 128) :
    accPay j'.val x acc (ix2 (n0 := 128) (n1 := 128) r (lane j)) = if j' = j then scales x (ix2 (n0 := 128) (n1 := 1) r 0) else acc (ix2 (n0 := 128) (n1 := 128) r (lane j)) := by
  have e1 : accPay j'.val x acc (ix2 (n0 := 128) (n1 := 128) r (lane j)) =
      Scalar.select (IntOp.cmpi .eq (BitVec.ofNat 32 (0 * 128 + j.val)) (BitVec.ofNat 32 j'.val))
        (broadcastTo S128x128 (shapeCast S128x1 (scales x) shapeCasts_S128x1_S128x1) broadcasts_S128x1_S128x128 (ix2 (n0 := 128) (n1 := 128) r (lane j)))
        (acc (ix2 (n0 := 128) (n1 := 128) r (lane j))) := rfl
  rw [e1, spread_at, shapeCast_id, Nat.zero_mul, Nat.zero_add]
  have hj := j.isLt
  have hj' := j'.isLt
  by_cases h : j' = j
  · subst h; simp [Scalar.select, IntOp.cmpi]
  · rw [if_neg h]
    have hne : ¬ BitVec.ofNat 32 j.val = BitVec.ofNat 32 j'.val := fun e => h (Fin.ext (by
      have := congrArg BitVec.toNat e
      simp only [BitVec.toNat_ofNat] at this
      omega))
    have hb : (BitVec.ofNat 32 j.val == BitVec.ofNat 32 j'.val) = false := by simpa using hne
    simp [Scalar.select, IntOp.cmpi, hb]

theorem accs_spec (x : S2x128x3584.Idx → Elt F .bf16) (b : Fin 2) (js : List (Fin 28)) (acc : FVec F S128x128 .f32) (j : Fin 28) (r : Fin 128)
    (h : j ∈ js ∨ acc (ix2 (n0 := 128) (n1 := 128) r (lane j)) = specT x b j r) :
    accs x b js acc (ix2 (n0 := 128) (n1 := 128) r (lane j)) = specT x b j r := by
  unfold accs
  refine chain_or (P := fun acc : FVec F S128x128 .f32 => acc (ix2 (n0 := 128) (n1 := 128) r (lane j)) = specT x b j r) (hit := fun j' => j' = j)
    (fun acc j' hj => ?_) js acc (h.imp (fun h => ⟨j, h, rfl⟩) id)
  rw [accPay_at]
  split
  · rename_i e; subst e; rfl
  · rename_i e; exact hj.resolve_left e

theorem fillT_spec (x : S2x128x3584.Idx → Elt F .bf16) (b' : Fin 2) (js : List (Fin 28)) (T : S2x128x128.Idx → Elt F .f32) (b : Fin 2)
    (j : Fin 28) (r : Fin 128)
    (h : (b' = b ∧ j ∈ js) ∨ T (ix3 (n0 := 2) (n1 := 128) (n2 := 128) b r (lane j)) = specT x b j r) :
    fillT x b' js T (ix3 (n0 := 2) (n1 := 128) (n2 := 128) b r (lane j)) = specT x b j r := by
  unfold fillT
  by_cases hb : b' = b
  · subst hb
    rw [st_hit (rT b') T _ (ix3 (n0 := 1) (n1 := 128) (n2 := 128) 0 r (lane j)) _ (embT b' 0 r (lane j)), cast_add]
    refine accs_spec x b' js _ j r (h.imp (fun h => h.2) fun h => ?_)
    rw [cast_drop]
    show T ((rT b').emb _) = _
    rw [embT]; exact h
  · rw [st_miss]
    · exact h.resolve_left fun h => hb h.1
    · intro z hz
      have z0 : (z 0).val < 1 := (z 0).isLt
      have h0 := congrArg Fin.val (congrFun hz 0)
      change b'.val + 1 * (z 0).val = b.val at h0
      exact hb (Fin.ext (by omega))

theorem chainT_spec (x : S2x128x3584.Idx → Elt F .bf16) (gs : List (Fin 2 × List (Fin 28)))
    (hg : ∀ (b : Fin 2) (j : Fin 28), ∃ g ∈ gs, g.1 = b ∧ j ∈ g.2) (T : S2x128x128.Idx → Elt F .f32) (b : Fin 2) (j : Fin 28) (r : Fin 128) :
    chainT x gs T (ix3 (n0 := 2) (n1 := 128) (n2 := 128) b r (lane j)) = specT x b j r := by
  unfold chainT
  exact chain_or (P := fun T : S2x128x128.Idx → Elt F .f32 => T (ix3 (n0 := 2) (n1 := 128) (n2 := 128) b r (lane j)) = specT x b j r)
    (hit := fun g => g.1 = b ∧ j ∈ g.2) (fun T g h => fillT_spec x g.1 g.2 T b j r h) gs T (.inl (hg b j))

/-- The scales as they are written out: blocks first, tokens last. -/
theorem scalePay_at (x : Vec F S1x128x128 .f32) (z : S28x1x128.Idx) :
    scalePay x z = x (ix3 (n0 := 1) (n1 := 128) (n2 := 128) 0 (z 2) (lane (z 0))) := by
  have z1 : (z 1).val < 1 := (z 1).isLt
  unfold scalePay
  rw [cast_at _ shapeCasts_S28x128_S28x1x128 z (ix2 (n0 := 28) (n1 := 128) (z 0) (z 2)) (by
    rw [rowMajor_val3 _ (1 * 128) 128 rfl rfl, rowMajor_val2 _ 128 rfl]
    show (z 0).val * 128 + (z 2).val = (z 0).val * (1 * 128) + (z 1).val * 128 + (z 2).val; omega)]
  rw [Pointwise.extractStridedSlice_apply, Pointwise.transpose_apply]
  refine Eq.trans ?_ (cast_drop x shapeCasts_S1x128x128_S128x128 (z 2) (lane (z 0)))
  congr 1
  funext a
  match a with
  | ⟨0, _⟩ => exact Fin.ext (by show 0 + (z 2).val = (z 2).val; omega)
  | ⟨1, _⟩ => exact Fin.ext (by show 0 + (z 0).val = (z 0).val; omega)

/-- The resulting scales, of two halves. -/
def specG (X : Fin 2 → S2x128x3584.Idx → Elt F .bf16) : S28x4x128.Idx → Elt F .f32 := fun y =>
  specT (X ⟨(y 1).val / 2, by have := (y 1).isLt; change (y 1).val < 4 at this; omega⟩) ⟨(y 1).val % 2, by omega⟩ (y 0) (y 2)

/-- Storing the scales of rows `b` of half `g` stores what the resulting ones are. -/
theorem stG_spec (X : Fin 2 → S2x128x3584.Idx → Elt F .bf16) (g b : Fin 2) (T : S2x128x128.Idx → Elt F .f32) (G : S28x4x128.Idx → Elt F .f32)
    (hT : ∀ j r, T (ix3 (n0 := 2) (n1 := 128) (n2 := 128) b r (lane j)) = specT (X g) b j r) (y : S28x4x128.Idx)
    (h : rowOf g b = y 1 ∨ G y = specG X y) : st (rG (rowOf g b)) G (scalePay (ld (rT b) T)) y = specG X y := by
  refine st_spec (rG (rowOf g b)) G (specG X) _ y (fun z => ?_) (h.imp (fun h => ⟨ix3 (n0 := 28) (n1 := 1) (n2 := 128) (y 0) 0 (y 2), ?_⟩) id)
  · have z1 : (z 1).val < 1 := (z 1).isLt
    have hg := g.isLt
    have hb := b.isLt
    rw [scalePay_at]
    refine ((congrArg T (embT b 0 (z 2) (lane (z 0)))).trans (hT (z 0) (z 2))).trans ?_
    unfold specG
    have e0 : (⟨((rG (rowOf g b)).emb z 1).val / 2, by have := ((rG (rowOf g b)).emb z 1).isLt; change ((rG (rowOf g b)).emb z 1).val < 4 at this; omega⟩ : Fin 2) = g :=
      Fin.ext (by show (g.val * 2 + b.val + 1 * (z 1).val) / 2 = g.val; omega)
    have e1 : (⟨((rG (rowOf g b)).emb z 1).val % 2, by omega⟩ : Fin 2) = b :=
      Fin.ext (by show (g.val * 2 + b.val + 1 * (z 1).val) % 2 = b.val; omega)
    have e2 : (rG (rowOf g b)).emb z 0 = z 0 := Fin.ext (by show 0 + 1 * (z 0).val = (z 0).val; omega)
    have e3 : (rG (rowOf g b)).emb z 2 = z 2 := Fin.ext (by show 0 + 1 * (z 2).val = (z 2).val; omega)
    rw [e0, e1, e2, e3]
  · funext a
    match a with
    | ⟨0, _⟩ => exact Fin.ext (by show 0 + 1 * (y 0).val = (y 0).val; omega)
    | ⟨1, _⟩ => exact Fin.ext (by have e : g.val * 2 + b.val = (y 1).val := congrArg Fin.val h; show g.val * 2 + b.val + 1 * 0 = (y 1).val; omega)
    | ⟨2, _⟩ => exact Fin.ext (by show 0 + 1 * (y 2).val = (y 2).val; omega)

/-! ## The projections -/

/-- The row of half `g` that line `b`, token `t` is. -/
abbrev rw256 (b : Fin 2) (t : Fin 128) : Fin 256 := ⟨b.val * 128 + t.val, by omega⟩
abbrev cl512 (h : Fin 4) (l : Fin 128) : Fin 512 := ⟨h.val * 128 + l.val, by omega⟩

/-- The halves' rows: half and row of a line. -/
abbrev gOf (n : Fin 4) : Fin 2 := ⟨n.val / 2, by omega⟩
abbrev bOf (n : Fin 4) : Fin 2 := ⟨n.val % 2, by omega⟩
abbrev nOf (n : Fin 28) : Fin 7 := ⟨n.val / 4, by omega⟩
abbrev cOf (n : Fin 28) : Fin 4 := ⟨n.val % 4, by omega⟩

/-- The resulting queries, from the halves' scaled activations. -/
def specQ (S : Fin 2 → S256x3584.Idx → Elt F .bf16) (w : S3584x4608.Idx → Elt F .fp8e4m3) (ws : S1x4608.Idx → Elt F .f32)
    (bi : S1x4608.Idx → Elt F .bf16) : S4x28x128x128.Idx → Elt F .bf16 := fun y =>
  tile (S (gOf (y 0))) w ws bi (up (nOf (y 1))) (ix2 (n0 := 256) (n1 := 512) (rw256 (bOf (y 0)) (y 2)) (cl512 (cOf (y 1)) (y 3)))

/-- The resulting keys or values, of tile `n`. -/
def specK (S : Fin 2 → S256x3584.Idx → Elt F .bf16) (w : S3584x4608.Idx → Elt F .fp8e4m3) (ws : S1x4608.Idx → Elt F .f32)
    (bi : S1x4608.Idx → Elt F .bf16) (n : Fin 9) : S4x128x4x128.Idx → Elt F .bf16 := fun y =>
  tile (S (gOf (y 0))) w ws bi n (ix2 (n0 := 256) (n1 := 512) (rw256 (bOf (y 0)) (y 1)) (cl512 (y 2) (y 3)))

/-- Rows `b`, head `h` of a projection, element by element. -/
theorem cut_at (b : Fin 2) (h : Fin 4) (y : FVec F S256x512 .bf16) (t l : Fin 128) :
    cut b h y (ix2 (n0 := 128) (n1 := 128) t l) = y (ix2 (n0 := 256) (n1 := 512) (rw256 b t) (cl512 h l)) := by
  unfold cut
  rw [Pointwise.extractStridedSlice_apply]
  congr 1
  funext a
  match a with
  | ⟨0, _⟩ => rfl
  | ⟨1, _⟩ => rfl

theorem heads_all : ∀ (b : Fin 2) (h : Fin 4), (h, b) ∈ heads := by decide

theorem fillQ_spec (S : Fin 2 → S256x3584.Idx → Elt F .bf16) (w : S3584x4608.Idx → Elt F .fp8e4m3) (ws : S1x4608.Idx → Elt F .f32)
    (bi : S1x4608.Idx → Elt F .bf16) (g : Fin 2) (n : Fin 7) (O : S4x28x128x128.Idx → Elt F .bf16) (y : S4x28x128x128.Idx)
    (h : (g = gOf (y 0) ∧ n = nOf (y 1)) ∨ O y = specQ S w ws bi y) :
    fillQ g n (tile (S g) w ws bi (up n)) heads O y = specQ S w ws bi y := by
  have hg := g.isLt
  have hn := n.isLt
  unfold fillQ
  refine fold_spec (specQ S w ws bi) y (fun p => rowOf g p.2 = y 0 ∧ headOf n p.1 = y 1) (fun O p hp => ?_) heads O ?_
  · have hp1 := p.1.isLt
    have hp2 := p.2.isLt
    refine st_spec (rQ (rowOf g p.2) (headOf n p.1)) O (specQ S w ws bi) _ y (fun z => ?_) (hp.imp (fun h => ⟨ix4 (n0 := 1) (n1 := 1) (n2 := 128) (n3 := 128) 0 0 (y 2) (y 3), ?_⟩) id)
    · have z0 : (z 0).val < 1 := (z 0).isLt
      have z1 : (z 1).val < 1 := (z 1).isLt
      rw [cast_at _ shapeCasts_S128x128_S1x1x128x128 z (ix2 (n0 := 128) (n1 := 128) (z 2) (z 3)) (by
        rw [rowMajor_val4 _ (1 * (128 * 128)) (128 * 128) 128 rfl rfl rfl, rowMajor_val2 _ 128 rfl]
        show (z 2).val * 128 + (z 3).val = (z 0).val * (1 * (128 * 128)) + (z 1).val * (128 * 128) + (z 2).val * 128 + (z 3).val; omega)]
      refine (cut_at p.2 p.1 _ (z 2) (z 3)).trans ?_
      unfold specQ
      have e0 : gOf ((rQ (rowOf g p.2) (headOf n p.1)).emb z 0) = g := Fin.ext (by show (g.val * 2 + p.2.val + 1 * (z 0).val) / 2 = g.val; omega)
      have e1 : bOf ((rQ (rowOf g p.2) (headOf n p.1)).emb z 0) = p.2 := Fin.ext (by show (g.val * 2 + p.2.val + 1 * (z 0).val) % 2 = p.2.val; omega)
      have e2 : nOf ((rQ (rowOf g p.2) (headOf n p.1)).emb z 1) = n := Fin.ext (by show (n.val * 4 + p.1.val + 1 * (z 1).val) / 4 = n.val; omega)
      have e3 : cOf ((rQ (rowOf g p.2) (headOf n p.1)).emb z 1) = p.1 := Fin.ext (by show (n.val * 4 + p.1.val + 1 * (z 1).val) % 4 = p.1.val; omega)
      have e4 : (rQ (rowOf g p.2) (headOf n p.1)).emb z 2 = z 2 := Fin.ext (by show 0 + 1 * (z 2).val = (z 2).val; omega)
      have e5 : (rQ (rowOf g p.2) (headOf n p.1)).emb z 3 = z 3 := Fin.ext (by show 0 + 1 * (z 3).val = (z 3).val; omega)
      rw [e0, e1, e2, e3, e4, e5]
    · funext a
      match a with
      | ⟨0, _⟩ => exact Fin.ext (by have e : g.val * 2 + p.2.val = (y 0).val := congrArg Fin.val h.1; show g.val * 2 + p.2.val + 1 * 0 = (y 0).val; omega)
      | ⟨1, _⟩ => exact Fin.ext (by have e : n.val * 4 + p.1.val = (y 1).val := congrArg Fin.val h.2; show n.val * 4 + p.1.val + 1 * 0 = (y 1).val; omega)
      | ⟨2, _⟩ => exact Fin.ext (by show 0 + 1 * (y 2).val = (y 2).val; omega)
      | ⟨3, _⟩ => exact Fin.ext (by show 0 + 1 * (y 3).val = (y 3).val; omega)
  · refine h.imp (fun h => ⟨(cOf (y 1), bOf (y 0)), heads_all _ _, ?_, ?_⟩) id
    · rw [h.1]; exact Fin.ext (by show (y 0).val / 2 * 2 + (y 0).val % 2 = (y 0).val; omega)
    · rw [h.2]; exact Fin.ext (by show (y 1).val / 4 * 4 + (y 1).val % 4 = (y 1).val; omega)

theorem fillK_spec (S : Fin 2 → S256x3584.Idx → Elt F .bf16) (w : S3584x4608.Idx → Elt F .fp8e4m3) (ws : S1x4608.Idx → Elt F .f32)
    (bi : S1x4608.Idx → Elt F .bf16) (g : Fin 2) (n : Fin 9) (O : S4x128x4x128.Idx → Elt F .bf16) (y : S4x128x4x128.Idx)
    (h : g = gOf (y 0) ∨ O y = specK S w ws bi n y) :
    fillK g (tile (S g) w ws bi n) heads O y = specK S w ws bi n y := by
  have hg := g.isLt
  unfold fillK
  refine fold_spec (specK S w ws bi n) y (fun p => rowOf g p.2 = y 0 ∧ p.1 = y 2) (fun O p hp => ?_) heads O ?_
  · have hp1 := p.1.isLt
    have hp2 := p.2.isLt
    have hy2 : (y 2).val < 4 := (y 2).isLt
    by_cases hy : ∃ z, (rK2 (rowOf g p.2) p.1).emb z = y
    · obtain ⟨z, hz⟩ := hy
      have z0 : (z 0).val < 1 := (z 0).isLt
      have z1 : (z 1).val < 128 := (z 1).isLt
      have z2 : (z 2).val < 2 := (z 2).isLt
      have z3 : (z 3).val < 128 := (z 3).isLt
      have h0 : g.val * 2 + p.2.val + 1 * (z 0).val = (y 0).val := congrArg Fin.val (congrFun hz 0)
      have h1 : 0 + 1 * (z 1).val = (y 1).val := congrArg Fin.val (congrFun hz 1)
      have h2 : p.1.val / 2 * 2 + 1 * (z 2).val = (y 2).val := congrArg Fin.val (congrFun hz 2)
      have h3 : 0 + 1 * (z 3).val = (y 3).val := congrArg Fin.val (congrFun hz 3)
      rw [st_hit _ _ _ z y hz]
      unfold pairPut
      rw [updateSlice_apply]
      by_cases hh : p.1 = y 2
      · rw [dif_pos]
        · rw [cast_at _ shapeCasts_S128x128_S1x128x1x128 _ (ix2 (n0 := 128) (n1 := 128) (z 1) (z 3)) (by
            rw [rowMajor_val4 _ (128 * (1 * 128)) (1 * 128) 128 rfl rfl rfl, rowMajor_val2 _ 128 rfl]
            show (z 1).val * 128 + (z 3).val = ((z 0).val - 0) * (128 * (1 * 128)) + ((z 1).val - 0) * (1 * 128) + ((z 2).val - p.1.val % 2) * 128 + ((z 3).val - 0)
            have hh' : p.1.val = (y 2).val := congrArg Fin.val hh
            omega)]
          refine (cut_at p.2 p.1 _ (z 1) (z 3)).trans ?_
          unfold specK
          have e0 : gOf (y 0) = g := Fin.ext (by show (y 0).val / 2 = g.val; omega)
          have e1 : bOf (y 0) = p.2 := Fin.ext (by show (y 0).val % 2 = p.2.val; omega)
          have e2 : y 1 = z 1 := Fin.ext (by omega)
          have e3 : y 3 = z 3 := Fin.ext (by omega)
          rw [e0, e1, e2, e3, ← hh]
        · have hh' : p.1.val = (y 2).val := congrArg Fin.val hh
          intro a
          match a with
          | ⟨0, _⟩ => show 0 ≤ (z 0).val ∧ (z 0).val < 0 + 1; omega
          | ⟨1, _⟩ => show 0 ≤ (z 1).val ∧ (z 1).val < 0 + 128; omega
          | ⟨2, _⟩ => show p.1.val % 2 ≤ (z 2).val ∧ (z 2).val < p.1.val % 2 + 1; omega
          | ⟨3, _⟩ => show 0 ≤ (z 3).val ∧ (z 3).val < 0 + 128; omega
      · rw [dif_neg]
        · show O ((rK2 (rowOf g p.2) p.1).emb z) = _
          rw [hz]; exact hp.resolve_left fun h => hh h.2
        · intro ha
          have ha2 : p.1.val % 2 ≤ (z 2).val ∧ (z 2).val < p.1.val % 2 + 1 := ha 2
          exact hh (Fin.ext (by omega))
    · rw [st_miss _ _ _ y (by simpa using hy)]
      refine hp.resolve_left fun h => hy ⟨ix4 (n0 := 1) (n1 := 128) (n2 := 2) (n3 := 128) 0 (y 1) ⟨(y 2).val % 2, by omega⟩ (y 3), ?_⟩
      have h2 : p.1.val = (y 2).val := congrArg Fin.val h.2
      funext a
      match a with
      | ⟨0, _⟩ => exact Fin.ext (by have e : g.val * 2 + p.2.val = (y 0).val := congrArg Fin.val h.1; show g.val * 2 + p.2.val + 1 * 0 = (y 0).val; omega)
      | ⟨1, _⟩ => exact Fin.ext (by show 0 + 1 * (y 1).val = (y 1).val; omega)
      | ⟨2, _⟩ => exact Fin.ext (by show p.1.val / 2 * 2 + 1 * ((y 2).val % 2) = (y 2).val; omega)
      | ⟨3, _⟩ => exact Fin.ext (by show 0 + 1 * (y 3).val = (y 3).val; omega)
  · refine h.imp (fun h => ⟨(y 2, bOf (y 0)), heads_all _ _, ?_, rfl⟩) id
    rw [h]; exact Fin.ext (by show (y 0).val / 2 * 2 + (y 0).val % 2 = (y 0).val; omega)

end Cert.KernelIdeal.Run

end
-- ==== Proof.Whole.lean ====
/-
  The whole body: what a point's steps together make of the contents.
-/
module

public import proofs.«01_k».proof.Proof.Effect

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.ShloMosaic.Pointwise

variable {F : FTy → Type} [FloatOps F]

/-! ## The whole body -/

/-- The contents' inputs. -/
abbrev St.sameIn (ρ σ : St F) : Prop :=
  ρ.x0 = σ.x0 ∧ ρ.xa = σ.xa ∧ ρ.xb = σ.xb ∧ ρ.w = σ.w ∧ ρ.ws = σ.ws ∧ ρ.bi = σ.bi

/-- The scratch holds the half `x` quantised: its codes, its scaled activations, its scales. -/
abbrev St.holds (σ : St F) (x : S2x128x3584.Idx → Elt F .bf16) : Prop :=
  σ.ca = specC x ∧ σ.xsa = specS x ∧ ∀ b j r, σ.sta (ix3 (n0 := 2) (n1 := 128) (n2 := 128) b r (lane j)) = specT x b j r

/-- The tiles of the queries. -/
abbrev tiles : List (Fin 7) := [0, 1, 2, 3, 4, 5, 6]
theorem tiles_all : ∀ n : Fin 7, n ∈ tiles := by decide

/-- The tiles of half `g` put into the queries. -/
def fillQs (g : Fin 2) (S : S256x3584.Idx → Elt F .bf16) (w : S3584x4608.Idx → Elt F .fp8e4m3) (ws : S1x4608.Idx → Elt F .f32)
    (bi : S1x4608.Idx → Elt F .bf16) (O : S4x28x128x128.Idx → Elt F .bf16) : S4x28x128x128.Idx → Elt F .bf16 :=
  tiles.foldl (fun O n => fillQ g n (tile S w ws bi (up n)) heads O) O

theorem fillQs_spec (S : Fin 2 → S256x3584.Idx → Elt F .bf16) (w : S3584x4608.Idx → Elt F .fp8e4m3) (ws : S1x4608.Idx → Elt F .f32)
    (bi : S1x4608.Idx → Elt F .bf16) (g : Fin 2) (O : S4x28x128x128.Idx → Elt F .bf16) (y : S4x28x128x128.Idx)
    (h : g = gOf (y 0) ∨ O y = specQ S w ws bi y) : fillQs g (S g) w ws bi O y = specQ S w ws bi y := by
  unfold fillQs
  exact fold_spec (specQ S w ws bi) y (fun n => g = gOf (y 0) ∧ n = nOf (y 1)) (fun O n h => fillQ_spec S w ws bi g n O y h) tiles O
    (h.imp (fun h => ⟨nOf (y 1), tiles_all _, h, rfl⟩) id)

theorem g_cases (g : Fin 2) : g = 0 ∨ g = 1 := by omega

/-- Both halves' tiles. -/
theorem fillQs_both (S : Fin 2 → S256x3584.Idx → Elt F .bf16) (w : S3584x4608.Idx → Elt F .fp8e4m3) (ws : S1x4608.Idx → Elt F .f32)
    (bi : S1x4608.Idx → Elt F .bf16) (O : S4x28x128x128.Idx → Elt F .bf16) :
    fillQs 1 (S 1) w ws bi (fillQs 0 (S 0) w ws bi O) = specQ S w ws bi := by
  funext y
  refine fillQs_spec S w ws bi 1 _ y ?_
  rcases g_cases (gOf (y 0)) with h | h
  · exact .inr (fillQs_spec S w ws bi 0 _ y (.inl h.symm))
  · exact .inl h.symm

theorem fillK_both (S : Fin 2 → S256x3584.Idx → Elt F .bf16) (w : S3584x4608.Idx → Elt F .fp8e4m3) (ws : S1x4608.Idx → Elt F .f32)
    (bi : S1x4608.Idx → Elt F .bf16) (n : Fin 9) (O : S4x128x4x128.Idx → Elt F .bf16) :
    fillK 1 (tile (S 1) w ws bi n) heads (fillK 0 (tile (S 0) w ws bi n) heads O) = specK S w ws bi n := by
  funext y
  refine fillK_spec S w ws bi 1 n _ y ?_
  rcases g_cases (gOf (y 0)) with h | h
  · exact .inr (fillK_spec S w ws bi 0 n _ y (.inl h.symm))
  · exact .inl h.symm

/-- Both halves' scales. -/
theorem stG_both (X : Fin 2 → S2x128x3584.Idx → Elt F .bf16) (T T' : S2x128x128.Idx → Elt F .f32) (G : S28x4x128.Idx → Elt F .f32)
    (hT : ∀ b j r, T (ix3 (n0 := 2) (n1 := 128) (n2 := 128) b r (lane j)) = specT (X 0) b j r)
    (hT' : ∀ b j r, T' (ix3 (n0 := 2) (n1 := 128) (n2 := 128) b r (lane j)) = specT (X 1) b j r) :
    st (rG (rowOf 1 1)) (st (rG (rowOf 1 0)) (st (rG (rowOf 0 1)) (st (rG (rowOf 0 0)) G (scalePay (ld (rT 0) T))) (scalePay (ld (rT 1) T)))
      (scalePay (ld (rT 0) T'))) (scalePay (ld (rT 1) T')) = specG X := by
  funext y
  have hr : ∀ r : Fin 4, rowOf 1 1 = r ∨ rowOf 1 0 = r ∨ rowOf 0 1 = r ∨ rowOf 0 0 = r := by decide
  refine stG_spec X 1 1 T' _ (hT' 1) y ?_
  rcases hr (y 1) with h | h | h | h
  · exact .inl h
  · exact .inr (stG_spec X 1 0 T' _ (hT' 0) y (.inl h))
  · exact .inr (stG_spec X 1 0 T' _ (hT' 0) y (.inr (stG_spec X 0 1 T _ (hT 1) y (.inl h))))
  · exact .inr (stG_spec X 1 0 T' _ (hT' 0) y (.inr (stG_spec X 0 1 T _ (hT 1) y (.inr (stG_spec X 0 0 T _ (hT 0) y (.inl h))))))

/-- The halves' quantised activations. -/
abbrev both (x x' : S2x128x3584.Idx → Elt F .bf16) : Fin 2 → S2x128x3584.Idx → Elt F .bf16 := fun g => if g = 0 then x else x'

/-- What the steps of a point make of contents whose scratch holds the half `x` quantised. -/
structure St.Good (ρ σ : St F) (x : S2x128x3584.Idx → Elt F .bf16) : Prop where
  same : ρ.sameIn σ
  q : ρ.q = specQ (fun g => specS (both x σ.xb g)) σ.w σ.ws σ.bi
  k : ρ.k = specK (fun g => specS (both x σ.xb g)) σ.w σ.ws σ.bi 7
  v : ρ.v = specK (fun g => specS (both x σ.xb g)) σ.w σ.ws σ.bi 8
  codes : ρ.codes = specO (specC x) σ.xb
  scale : ρ.scale = specG (both x σ.xb)
  next : ρ.holds σ.xa

theorem execs_same (L : List Act) : ∀ σ : St F, (execs L σ).sameIn σ := by
  induction L with
  | nil => intro σ; exact ⟨rfl, rfl, rfl, rfl, rfl, rfl⟩
  | cons a L ih =>
    intro σ
    obtain ⟨h1, h2, h3, h4, h5, h6⟩ := ih (exec a σ)
    have e : execs (a :: L) σ = execs L (exec a σ) := rfl
    rw [e]
    cases a <;> exact ⟨h1, h2, h3, h4, h5, h6⟩

theorem chainC_cons (x : S2x128x3584.Idx → Elt F .bf16) (b : Fin 2) (js : List (Fin 28)) (gs : List (Fin 2 × List (Fin 28))) (C : S2x128x3584.Idx → Elt F .fp8e4m3) :
    chainC x ((b, js) :: gs) C = chainC x gs (fillC x b js C) := by unfold chainC; rw [List.foldl_cons]
theorem chainO_cons (x : S2x128x3584.Idx → Elt F .bf16) (b : Fin 2) (js : List (Fin 28)) (gs : List (Fin 2 × List (Fin 28))) (C : S4x128x3584.Idx → Elt F .fp8e4m3) :
    chainO x ((b, js) :: gs) C = chainO x gs (fillO x b js C) := by unfold chainO; rw [List.foldl_cons]
theorem chainS_cons (x : S2x128x3584.Idx → Elt F .bf16) (b : Fin 2) (js : List (Fin 28)) (gs : List (Fin 2 × List (Fin 28))) (S : S256x3584.Idx → Elt F .bf16) :
    chainS x ((b, js) :: gs) S = chainS x gs (fillS x b js S) := by unfold chainS; rw [List.foldl_cons]
theorem chainT_cons (x : S2x128x3584.Idx → Elt F .bf16) (b : Fin 2) (js : List (Fin 28)) (gs : List (Fin 2 × List (Fin 28))) (T : S2x128x128.Idx → Elt F .f32) :
    chainT x ((b, js) :: gs) T = chainT x gs (fillT x b js T) := by unfold chainT; rw [List.foldl_cons]
theorem chain_nil (x : S2x128x3584.Idx → Elt F .bf16) (C : S2x128x3584.Idx → Elt F .fp8e4m3) (O : S4x128x3584.Idx → Elt F .fp8e4m3)
    (S : S256x3584.Idx → Elt F .bf16) (T : S2x128x128.Idx → Elt F .f32) :
    chainC x [] C = C ∧ chainO x [] O = O ∧ chainS x [] S = S ∧ chainT x [] T = T := ⟨rfl, rfl, rfl, rfl⟩

attribute [local irreducible] chainC chainO chainS chainT fillC fillO fillS fillT fillQ fillK tile scalePay

/-- The blocks a step quantises of the second half, and of the next point's first; the tile of the queries it stores. -/
def grpB : Act → Option (Fin 2 × List (Fin 28)) | .qb b js => some (b, js) | _ => none
def grpA : Act → Option (Fin 2 × List (Fin 28)) | .qa b js => some (b, js) | _ => none
def tilA : Act → Option (Fin 7) | .pa n => some n | _ => none
def tilB : Act → Option (Fin 7) | .pb n => some n | _ => none
/-- Whether it stores keys, or values, of either half. -/
def keyA : Act → Option Unit | .pak => some () | _ => none
def valA : Act → Option Unit | .pav => some () | _ => none
def keyB : Act → Option Unit | .pbk => some () | _ => none
def valB : Act → Option Unit | .pbv => some () | _ => none

/-- The steps while the first half is projected, and while the second is. -/
def isA : Act → Bool | .qb _ _ => true | .pa _ => true | .pak => true | .pav => true | _ => false
def isB : Act → Bool | .qa _ _ => true | .pb _ => true | .pbk => true | .pbv => true | _ => false

/-- The steps while the first half is projected quantise the second half, and project from scratch that stays. -/
theorem execs_A (L : List Act) : ∀ σ : St F, (∀ a ∈ L, isA a = true) →
    (execs L σ).ca = σ.ca ∧ (execs L σ).xsa = σ.xsa ∧ (execs L σ).sta = σ.sta ∧ (execs L σ).scale = σ.scale
      ∧ (execs L σ).codes = chainO σ.xb (L.filterMap grpB) σ.codes ∧ (execs L σ).xsb = chainS σ.xb (L.filterMap grpB) σ.xsb
      ∧ (execs L σ).stb = chainT σ.xb (L.filterMap grpB) σ.stb
      ∧ (execs L σ).q = (L.filterMap tilA).foldl (fun O n => fillQ 0 n (tile σ.xsa σ.w σ.ws σ.bi (up n)) heads O) σ.q
      ∧ (execs L σ).k = (L.filterMap keyA).foldl (fun O _ => fillK 0 (tile σ.xsa σ.w σ.ws σ.bi 7) heads O) σ.k
      ∧ (execs L σ).v = (L.filterMap valA).foldl (fun O _ => fillK 0 (tile σ.xsa σ.w σ.ws σ.bi 8) heads O) σ.v := by
  induction L with
  | nil =>
    intro σ _
    exact ⟨rfl, rfl, rfl, rfl, ((chain_nil σ.xb σ.ca σ.codes σ.xsb σ.stb).2.1).symm, ((chain_nil σ.xb σ.ca σ.codes σ.xsb σ.stb).2.2.1).symm, ((chain_nil σ.xb σ.ca σ.codes σ.xsb σ.stb).2.2.2).symm, rfl, rfl, rfl⟩
  | cons a L ih =>
    intro σ hL
    obtain ⟨h1, h2, h3, h4, h5, h6, h7, h8, h9, h10⟩ := ih (exec a σ) fun a' h => hL a' (List.mem_cons_of_mem _ h)
    have ha := hL a List.mem_cons_self
    have e : execs (a :: L) σ = execs L (exec a σ) := rfl
    rw [e]
    cases a with
    | qb b js =>
      have f : (Act.qb b js :: L).filterMap grpB = (b, js) :: L.filterMap grpB := rfl
      rw [f, chainO_cons, chainS_cons, chainT_cons]
      exact ⟨h1, h2, h3, h4, h5, h6, h7, h8, h9, h10⟩
    | pa n => exact ⟨h1, h2, h3, h4, h5, h6, h7, h8, h9, h10⟩
    | pak => exact ⟨h1, h2, h3, h4, h5, h6, h7, h8, h9, h10⟩
    | pav => exact ⟨h1, h2, h3, h4, h5, h6, h7, h8, h9, h10⟩
    | _ => exact absurd ha Bool.false_ne_true

/-- The steps while the second half is projected quantise the next point's first half, and project from scratch that stays. -/
theorem execs_B (L : List Act) : ∀ σ : St F, (∀ a ∈ L, isB a = true) →
    (execs L σ).scale = σ.scale ∧ (execs L σ).codes = σ.codes ∧ (execs L σ).xsb = σ.xsb
      ∧ (execs L σ).ca = chainC σ.xa (L.filterMap grpA) σ.ca ∧ (execs L σ).xsa = chainS σ.xa (L.filterMap grpA) σ.xsa
      ∧ (execs L σ).sta = chainT σ.xa (L.filterMap grpA) σ.sta
      ∧ (execs L σ).q = (L.filterMap tilB).foldl (fun O n => fillQ 1 n (tile σ.xsb σ.w σ.ws σ.bi (up n)) heads O) σ.q
      ∧ (execs L σ).k = (L.filterMap keyB).foldl (fun O _ => fillK 1 (tile σ.xsb σ.w σ.ws σ.bi 7) heads O) σ.k
      ∧ (execs L σ).v = (L.filterMap valB).foldl (fun O _ => fillK 1 (tile σ.xsb σ.w σ.ws σ.bi 8) heads O) σ.v := by
  induction L with
  | nil =>
    intro σ _
    exact ⟨rfl, rfl, rfl, ((chain_nil σ.xa σ.ca σ.codes σ.xsa σ.sta).1).symm, ((chain_nil σ.xa σ.ca σ.codes σ.xsa σ.sta).2.2.1).symm, ((chain_nil σ.xa σ.ca σ.codes σ.xsa σ.sta).2.2.2).symm, rfl, rfl, rfl⟩
  | cons a L ih =>
    intro σ hL
    obtain ⟨h1, h2, h3, h4, h5, h6, h7, h8, h9⟩ := ih (exec a σ) fun a' h => hL a' (List.mem_cons_of_mem _ h)
    have ha := hL a List.mem_cons_self
    have e : execs (a :: L) σ = execs L (exec a σ) := rfl
    rw [e]
    cases a with
    | qa b js =>
      have f : (Act.qa b js :: L).filterMap grpA = (b, js) :: L.filterMap grpA := rfl
      rw [f, chainC_cons, chainS_cons, chainT_cons]
      exact ⟨h1, h2, h3, h4, h5, h6, h7, h8, h9⟩
    | pb n => exact ⟨h1, h2, h3, h4, h5, h6, h7, h8, h9⟩
    | pbk => exact ⟨h1, h2, h3, h4, h5, h6, h7, h8, h9⟩
    | pbv => exact ⟨h1, h2, h3, h4, h5, h6, h7, h8, h9⟩
    | _ => exact absurd ha Bool.false_ne_true

/-- The steps while the first half is projected, and while the second is. -/
abbrev actsA : List Act := tileA 0 ++ tileA 1 ++ tileA 2 ++ tileA 3 ++ tileA 4 ++ tileA 5 ++ tileA 6 ++ [.pak, .qb 0 [], .qb 1 [], .pav, .qb 0 [], .qb 1 []]
abbrev actsB : List Act := tileB 0 ++ tileB 1 ++ tileB 2 ++ tileB 3 ++ tileB 4 ++ tileB 5 ++ tileB 6 ++ [.pbk, .qa 0 [], .qa 1 [], .pbv, .qa 0 [], .qa 1 []]

theorem bodyActs_eq : bodyActs = [.cOut, .sa 0, .sa 1] ++ (actsA ++ ([.sb 0, .sb 1] ++ actsB)) := rfl

theorem execs_append (L L' : List Act) (σ : St F) : execs (L ++ L') σ = execs L' (execs L σ) := List.foldl_append

/-- The steps' effects put together. -/
theorem join (σ σ1 σ2 σ3 σ4 : St F) (i1 : σ1.sameIn σ) (i2 : σ2.sameIn σ1) (i3 : σ3.sameIn σ2)
    (j1 : σ1.ca = σ.ca ∧ σ1.xsa = σ.xsa ∧ σ1.sta = σ.sta ∧ σ1.xsb = σ.xsb ∧ σ1.stb = σ.stb ∧ σ1.q = σ.q ∧ σ1.k = σ.k ∧ σ1.v = σ.v
      ∧ σ1.codes = st rD σ.codes (ld rW2 σ.ca)
      ∧ σ1.scale = st (rG (rowOf 0 1)) (st (rG (rowOf 0 0)) σ.scale (scalePay (ld (rT 0) σ.sta))) (scalePay (ld (rT 1) σ.sta)))
    (j2 : σ2.ca = σ1.ca ∧ σ2.xsa = σ1.xsa ∧ σ2.sta = σ1.sta ∧ σ2.scale = σ1.scale
      ∧ σ2.codes = chainO σ1.xb order σ1.codes ∧ σ2.xsb = chainS σ1.xb order σ1.xsb
      ∧ σ2.stb = chainT σ1.xb order σ1.stb
      ∧ σ2.q = tiles.foldl (fun O n => fillQ 0 n (tile σ1.xsa σ1.w σ1.ws σ1.bi (up n)) heads O) σ1.q
      ∧ σ2.k = [()].foldl (fun O _ => fillK 0 (tile σ1.xsa σ1.w σ1.ws σ1.bi 7) heads O) σ1.k
      ∧ σ2.v = [()].foldl (fun O _ => fillK 0 (tile σ1.xsa σ1.w σ1.ws σ1.bi 8) heads O) σ1.v)
    (j3 : σ3.ca = σ2.ca ∧ σ3.xsa = σ2.xsa ∧ σ3.sta = σ2.sta ∧ σ3.xsb = σ2.xsb ∧ σ3.q = σ2.q ∧ σ3.k = σ2.k ∧ σ3.v = σ2.v
      ∧ σ3.codes = σ2.codes
      ∧ σ3.scale = st (rG (rowOf 1 1)) (st (rG (rowOf 1 0)) σ2.scale (scalePay (ld (rT 0) σ2.stb))) (scalePay (ld (rT 1) σ2.stb)))
    (j4 : σ4.scale = σ3.scale ∧ σ4.codes = σ3.codes ∧ σ4.xsb = σ3.xsb
      ∧ σ4.ca = chainC σ3.xa order σ3.ca ∧ σ4.xsa = chainS σ3.xa order σ3.xsa
      ∧ σ4.sta = chainT σ3.xa order σ3.sta
      ∧ σ4.q = tiles.foldl (fun O n => fillQ 1 n (tile σ3.xsb σ3.w σ3.ws σ3.bi (up n)) heads O) σ3.q
      ∧ σ4.k = [()].foldl (fun O _ => fillK 1 (tile σ3.xsb σ3.w σ3.ws σ3.bi 7) heads O) σ3.k
      ∧ σ4.v = [()].foldl (fun O _ => fillK 1 (tile σ3.xsb σ3.w σ3.ws σ3.bi 8) heads O) σ3.v) :
    σ4.ca = chainC σ.xa order σ.ca ∧ σ4.xsa = chainS σ.xa order σ.xsa
      ∧ σ4.sta = chainT σ.xa order σ.sta
      ∧ σ4.codes = chainO σ.xb order (st rD σ.codes (ld rW2 σ.ca))
      ∧ σ4.scale = st (rG (rowOf 1 1)) (st (rG (rowOf 1 0)) (st (rG (rowOf 0 1)) (st (rG (rowOf 0 0)) σ.scale (scalePay (ld (rT 0) σ.sta))) (scalePay (ld (rT 1) σ.sta)))
          (scalePay (ld (rT 0) (chainT σ.xb order σ.stb)))) (scalePay (ld (rT 1) (chainT σ.xb order σ.stb)))
      ∧ σ4.q = fillQs 1 (chainS σ.xb order σ.xsb) σ.w σ.ws σ.bi (fillQs 0 σ.xsa σ.w σ.ws σ.bi σ.q)
      ∧ σ4.k = fillK 1 (tile (chainS σ.xb order σ.xsb) σ.w σ.ws σ.bi 7) heads (fillK 0 (tile σ.xsa σ.w σ.ws σ.bi 7) heads σ.k)
      ∧ σ4.v = fillK 1 (tile (chainS σ.xb order σ.xsb) σ.w σ.ws σ.bi 8) heads (fillK 0 (tile σ.xsa σ.w σ.ws σ.bi 8) heads σ.v) := by
  obtain ⟨-, ia, ib, iw, is, ii⟩ := i1
  obtain ⟨-, ia', ib', iw', is', ii'⟩ := i2
  obtain ⟨-, ia'', ib'', iw'', is'', ii''⟩ := i3
  obtain ⟨p1, p2, p3, p4, p5, p6, p7, p8, p9, p10⟩ := j1
  obtain ⟨q1, q2, q3, q4, q5, q6, q7, q8, q9, q10⟩ := j2
  obtain ⟨r1, r2, r3, r4, r5, r6, r7, r8, r9⟩ := j3
  obtain ⟨s1, s2, s3, s4, s5, s6, s7, s8, s9⟩ := j4
  rw [ia'', ia', ia, r1, q1, p1] at s4
  rw [ia'', ia', ia, r2, q2, p2] at s5
  rw [ia'', ia', ia, r3, q3, p3] at s6
  rw [r4, iw'', is'', ii'', iw', is', ii', iw, is, ii, q6, ib, p4] at s7 s8 s9
  rw [r5, q8, p2, p6, iw, is, ii] at s7
  rw [r6, q9, p2, p7, iw, is, ii] at s8
  rw [r7, q10, p2, p8, iw, is, ii] at s9
  rw [r8, q5, ib, p9] at s2
  rw [r9, q4, q7, ib, p5, p10] at s1
  exact ⟨s4, s5, s6, s2, s1, s7, s8, s9⟩

theorem execs_actsA (σ : St F) :
    (execs actsA σ).ca = σ.ca ∧ (execs actsA σ).xsa = σ.xsa ∧ (execs actsA σ).sta = σ.sta ∧ (execs actsA σ).scale = σ.scale
      ∧ (execs actsA σ).codes = chainO σ.xb order σ.codes ∧ (execs actsA σ).xsb = chainS σ.xb order σ.xsb
      ∧ (execs actsA σ).stb = chainT σ.xb order σ.stb
      ∧ (execs actsA σ).q = tiles.foldl (fun O n => fillQ 0 n (tile σ.xsa σ.w σ.ws σ.bi (up n)) heads O) σ.q
      ∧ (execs actsA σ).k = [()].foldl (fun O _ => fillK 0 (tile σ.xsa σ.w σ.ws σ.bi 7) heads O) σ.k
      ∧ (execs actsA σ).v = [()].foldl (fun O _ => fillK 0 (tile σ.xsa σ.w σ.ws σ.bi 8) heads O) σ.v := by
  have h := execs_A actsA σ (List.all_eq_true.mp rfl)
  have gB : actsA.filterMap grpB = order := rfl
  have tA : actsA.filterMap tilA = tiles := rfl
  have kA : actsA.filterMap keyA = [()] := rfl
  have vA : actsA.filterMap valA = [()] := rfl
  rw [gB, tA, kA, vA] at h
  exact h

theorem execs_actsB (σ : St F) :
    (execs actsB σ).scale = σ.scale ∧ (execs actsB σ).codes = σ.codes ∧ (execs actsB σ).xsb = σ.xsb
      ∧ (execs actsB σ).ca = chainC σ.xa order σ.ca ∧ (execs actsB σ).xsa = chainS σ.xa order σ.xsa
      ∧ (execs actsB σ).sta = chainT σ.xa order σ.sta
      ∧ (execs actsB σ).q = tiles.foldl (fun O n => fillQ 1 n (tile σ.xsb σ.w σ.ws σ.bi (up n)) heads O) σ.q
      ∧ (execs actsB σ).k = [()].foldl (fun O _ => fillK 1 (tile σ.xsb σ.w σ.ws σ.bi 7) heads O) σ.k
      ∧ (execs actsB σ).v = [()].foldl (fun O _ => fillK 1 (tile σ.xsb σ.w σ.ws σ.bi 8) heads O) σ.v := by
  have h := execs_B actsB σ (List.all_eq_true.mp rfl)
  have gA : actsB.filterMap grpA = order := rfl
  have tB : actsB.filterMap tilB = tiles := rfl
  have kB : actsB.filterMap keyB = [()] := rfl
  have vB : actsB.filterMap valB = [()] := rfl
  rw [gA, tB, kB, vB] at h
  exact h

theorem execs_begin (σ : St F) (σ1 : St F) (h : σ1 = execs [.cOut, .sa 0, .sa 1] σ) :
    σ1.ca = σ.ca ∧ σ1.xsa = σ.xsa ∧ σ1.sta = σ.sta ∧ σ1.xsb = σ.xsb ∧ σ1.stb = σ.stb ∧ σ1.q = σ.q ∧ σ1.k = σ.k ∧ σ1.v = σ.v
      ∧ σ1.codes = st rD σ.codes (ld rW2 σ.ca)
      ∧ σ1.scale = st (rG (rowOf 0 1)) (st (rG (rowOf 0 0)) σ.scale (scalePay (ld (rT 0) σ.sta))) (scalePay (ld (rT 1) σ.sta)) := by
  subst h; exact ⟨rfl, rfl, rfl, rfl, rfl, rfl, rfl, rfl, rfl, rfl⟩

theorem execs_middle (σ2 : St F) (σ3 : St F) (h : σ3 = execs [.sb 0, .sb 1] σ2) :
    σ3.ca = σ2.ca ∧ σ3.xsa = σ2.xsa ∧ σ3.sta = σ2.sta ∧ σ3.xsb = σ2.xsb ∧ σ3.q = σ2.q ∧ σ3.k = σ2.k ∧ σ3.v = σ2.v
      ∧ σ3.codes = σ2.codes
      ∧ σ3.scale = st (rG (rowOf 1 1)) (st (rG (rowOf 1 0)) σ2.scale (scalePay (ld (rT 0) σ2.stb))) (scalePay (ld (rT 1) σ2.stb)) := by
  subst h; exact ⟨rfl, rfl, rfl, rfl, rfl, rfl, rfl, rfl, rfl⟩

attribute [local irreducible] execs

/-- Every array after a point's steps. -/
theorem execs_body (σ : St F) :
    (execs bodyActs σ).ca = chainC σ.xa order σ.ca ∧ (execs bodyActs σ).xsa = chainS σ.xa order σ.xsa
      ∧ (execs bodyActs σ).sta = chainT σ.xa order σ.sta
      ∧ (execs bodyActs σ).codes = chainO σ.xb order (st rD σ.codes (ld rW2 σ.ca))
      ∧ (execs bodyActs σ).scale = st (rG (rowOf 1 1)) (st (rG (rowOf 1 0)) (st (rG (rowOf 0 1)) (st (rG (rowOf 0 0)) σ.scale (scalePay (ld (rT 0) σ.sta))) (scalePay (ld (rT 1) σ.sta)))
          (scalePay (ld (rT 0) (chainT σ.xb order σ.stb)))) (scalePay (ld (rT 1) (chainT σ.xb order σ.stb)))
      ∧ (execs bodyActs σ).q = fillQs 1 (chainS σ.xb order σ.xsb) σ.w σ.ws σ.bi (fillQs 0 σ.xsa σ.w σ.ws σ.bi σ.q)
      ∧ (execs bodyActs σ).k = fillK 1 (tile (chainS σ.xb order σ.xsb) σ.w σ.ws σ.bi 7) heads (fillK 0 (tile σ.xsa σ.w σ.ws σ.bi 7) heads σ.k)
      ∧ (execs bodyActs σ).v = fillK 1 (tile (chainS σ.xb order σ.xsb) σ.w σ.ws σ.bi 8) heads (fillK 0 (tile σ.xsa σ.w σ.ws σ.bi 8) heads σ.v) := by
  have e0 : execs bodyActs σ = execs actsB (execs [.sb 0, .sb 1] (execs actsA (execs [.cOut, .sa 0, .sa 1] σ))) := by
    rw [bodyActs_eq, execs_append, execs_append, execs_append]
  rw [e0]
  exact join σ _ _ _ _ (execs_same _ _) (execs_same _ _) (execs_same _ _) (execs_begin σ _ rfl) (execs_actsA _)
    (execs_middle _ _ rfl) (execs_actsB _)

attribute [local semireducible] execs

/-- The steps of a point, from contents whose scratch holds the half `x` quantised. -/
theorem body_good (σ : St F) (x : S2x128x3584.Idx → Elt F .bf16) (h : σ.holds x) : (execs bodyActs σ).Good σ x := by
  obtain ⟨hc, hs, ht⟩ := h
  obtain ⟨eca, exsa, esta, eco, esc, eq, ek, ev⟩ := execs_body σ
  refine ⟨execs_same _ _, ?_, ?_, ?_, ?_, ?_, ?_, ?_, ?_⟩
  · rw [eq, chainS_spec _ _ order_all, hs]
    exact fillQs_both (fun g => specS (both x σ.xb g)) σ.w σ.ws σ.bi σ.q
  · rw [ek, chainS_spec _ _ order_all, hs]
    exact fillK_both (fun g => specS (both x σ.xb g)) σ.w σ.ws σ.bi 7 σ.k
  · rw [ev, chainS_spec _ _ order_all, hs]
    exact fillK_both (fun g => specS (both x σ.xb g)) σ.w σ.ws σ.bi 8 σ.v
  · rw [eco, chainO_spec _ _ _ order_all, hc]
  · rw [esc]
    exact stG_both (both x σ.xb) _ _ _ ht (chainT_spec σ.xb order order_all σ.stb)
  · rw [eca, chainC_spec _ _ order_all]
  · rw [exsa, chainS_spec _ _ order_all]
  · intro b j r
    rw [esta, chainT_spec _ _ order_all]

/-- The first point's own steps leave its first half quantised. -/
theorem init_good (σ : St F) : (execs initActs σ).holds σ.x0 := by
  have h1 : (execs initActs σ).ca = chainC σ.x0 order0 σ.ca := by rw [chainC_cons, chainC_cons, (chain_nil σ.x0 (fillC σ.x0 1 (List.finRange 28) (fillC σ.x0 0 (List.finRange 28) σ.ca)) σ.codes σ.xsa σ.sta).1]; rfl
  have h2 : (execs initActs σ).xsa = chainS σ.x0 order0 σ.xsa := by rw [chainS_cons, chainS_cons, (chain_nil σ.x0 σ.ca σ.codes (fillS σ.x0 1 (List.finRange 28) (fillS σ.x0 0 (List.finRange 28) σ.xsa)) σ.sta).2.2.1]; rfl
  have h3 : (execs initActs σ).sta = chainT σ.x0 order0 σ.sta := by rw [chainT_cons, chainT_cons, (chain_nil σ.x0 σ.ca σ.codes σ.xsa (fillT σ.x0 1 (List.finRange 28) (fillT σ.x0 0 (List.finRange 28) σ.sta))).2.2.2]; rfl
  refine ⟨?_, ?_, fun b j r => ?_⟩
  · rw [h1, chainC_spec _ _ order0_all]
  · rw [h2, chainS_spec _ _ order0_all]
  · rw [h3, chainT_spec _ _ order0_all]

/-- The first point's steps. -/
theorem first_good (σ : St F) : (execs (initActs ++ bodyActs) σ).Good σ σ.x0 := by
  have e : execs (initActs ++ bodyActs) σ = execs bodyActs (execs initActs σ) := List.foldl_append
  have hs := execs_same initActs σ
  have hg := body_good (execs initActs σ) σ.x0 (init_good σ)
  rw [e]
  obtain ⟨s1, s2, s3, s4, s5, s6⟩ := hs
  obtain ⟨⟨g1, g2, g3, g4, g5, g6⟩, gq, gk, gv, gc, gs, gn⟩ := hg
  rw [s3, s4, s5, s6] at gq gk gv
  rw [s3] at gc gs
  rw [s2] at gn
  exact ⟨⟨g1.trans s1, g2.trans s2, g3.trans s3, g4.trans s4, g5.trans s5, g6.trans s6⟩, gq, gk, gv, gc, gs, gn⟩

end Cert.KernelIdeal.Run

end
-- ==== Proof.Run.lean ====
/-
  The run: the arrays and the scratch between the grid's points, the body at a point, the launch, and the results' blocks.
-/
module

public import proofs.«01_k».proof.Proof.Whole

@[expose] public section

set_option maxRecDepth 16384

noncomputable section

namespace Cert.KernelIdeal.Run

open Cert.KernelIdeal Cert.KernelIdeal.Facts₀ Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## What each point works on -/

/-- The first half's block that the scratch holds quantised when point `n` begins: the one fetched for the first point,
    then the one fetched for the point before. -/
def xh (c : Dev nD) (n : ℕ) : S2x128x3584.Idx → Elt F .bf16 :=
  if n = 0 then iblk m c 0 ⟨0, by decide⟩ else iblk m c 1 ⟨(n - 1) % 64, Nat.mod_lt _ (by decide)⟩

/-- The point's second half, the weights, their scales, the bias. -/
def xB (c : Dev nD) (t : Fin cfg0.N) : S2x128x3584.Idx → Elt F .bf16 := iblk m c 2 t
def wB (c : Dev nD) (t : Fin cfg0.N) : S3584x4608.Idx → Elt F .fp8e4m3 := iblk m c 3 t
def wsB (c : Dev nD) (t : Fin cfg0.N) : S1x4608.Idx → Elt F .f32 := iblk m c 4 t
def biB (c : Dev nD) (t : Fin cfg0.N) : S1x4608.Idx → Elt F .bf16 := iblk m c 5 t

/-- The point's halves. -/
abbrev halves (c : Dev nD) (t : Fin cfg0.N) : Fin 2 → S2x128x3584.Idx → Elt F .bf16 := both (xh m c t.val) (xB m c t)

/-- The results' blocks the point leaves. -/
def qB (c : Dev nD) (t : Fin cfg0.N) : S4x28x128x128.Idx → Elt F .bf16 :=
  specQ (fun g => specS (halves m c t g)) (wB m c t) (wsB m c t) (biB m c t)
def kB (c : Dev nD) (t : Fin cfg0.N) : S4x128x4x128.Idx → Elt F .bf16 :=
  specK (fun g => specS (halves m c t g)) (wB m c t) (wsB m c t) (biB m c t) 7
def vB (c : Dev nD) (t : Fin cfg0.N) : S4x128x4x128.Idx → Elt F .bf16 :=
  specK (fun g => specS (halves m c t g)) (wB m c t) (wsB m c t) (biB m c t) 8
def cB (c : Dev nD) (t : Fin cfg0.N) : S4x128x3584.Idx → Elt F .fp8e4m3 := specO (specC (xh m c t.val)) (xB m c t)
def sB (c : Dev nD) (t : Fin cfg0.N) : S28x4x128.Idx → Elt F .f32 := specG (halves m c t)

/-! ## The proof data -/

/-- Between the points: the scratch at something, which after the first point is the next first half quantised. -/
def Φc (c : Dev nD) (n : ℕ) : sProp 𝕄 :=
  iprop(∃ (xsa xsb : S256x3584.Idx → Elt F .bf16) (ca : S2x128x3584.Idx → Elt F .fp8e4m3) (sta stb : S2x128x128.Idx → Elt F .f32),
    ⌜n ≠ 0 → ca = specC (xh m c n) ∧ xsa = specS (xh m c n) ∧ ∀ b j r, sta (ValueIdx.ix3 (n0 := 2) (n1 := 128) (n2 := 128) b r (lane j)) = specT (xh m c n) b j r⌝
    ∗ owns (c : Thread nD τ) (Memref.whole cc0_scratch0) fullShare xsa ∗ owns (c : Thread nD τ) (Memref.whole cc0_scratch1) fullShare xsb
    ∗ owns (c : Thread nD τ) (Memref.whole cc0_scratch2) fullShare ca ∗ owns (c : Thread nD τ) (Memref.whole cc0_scratch3) fullShare sta
    ∗ owns (c : Thread nD τ) (Memref.whole cc0_scratch4) fullShare stb ∗ ∃ r, prngReg c r)

/-- Each window's array as the region finds it, and its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qB m c t
    | ⟨7, _⟩ => kB m c t
    | ⟨8, _⟩ => vB m c t
    | ⟨9, _⟩ => cB m c t
    | ⟨10, _⟩ => sB m c t
  Φ t := Φc m c t.val
  q w := Pipeline.shareOf spec0 w
  owed _ := 0

theorem A_eq (c : Dev nD) (w : Fin cfg0.W) : (dats m 0 c).A w = V m c (Pipeline.arrRef spec0 w) := by
  dsimp only [dats]

abbrev 𝒱₀ : Variants := Variants.none

/-! ## The body at a point -/

/-- The buffers the body works on at point `t`. -/
def bufs (t : Fin cfg0.N) : Bufs where
  a1 := win0_0.stage (cfg0.slots t 0)
  h1 := Gen.hstage0_0 ((cfg0.slots t 0).cast Gen.nbuf0_0)
  a2 := win0_1.stage (cfg0.slots t 1)
  h2 := Gen.hstage0_1 ((cfg0.slots t 1).cast Gen.nbuf0_1)
  a3 := win0_2.stage (cfg0.slots t 2)
  h3 := Gen.hstage0_2 ((cfg0.slots t 2).cast Gen.nbuf0_2)
  a4 := win0_3.stage (cfg0.slots t 3)
  h4 := Gen.hstage0_3 ((cfg0.slots t 3).cast Gen.nbuf0_3)
  a5 := win0_4.stage (cfg0.slots t 4)
  h5 := Gen.hstage0_4 ((cfg0.slots t 4).cast Gen.nbuf0_4)
  a6 := win0_5.stage (cfg0.slots t 5)
  h6 := Gen.hstage0_5 ((cfg0.slots t 5).cast Gen.nbuf0_5)
  a7 := win0_6.stage (cfg0.slots t 6)
  h7 := Gen.hstage0_6 ((cfg0.slots t 6).cast Gen.nbuf0_6)
  a8 := win0_7.stage (cfg0.slots t 7)
  h8 := Gen.hstage0_7 ((cfg0.slots t 7).cast Gen.nbuf0_7)
  a9 := win0_8.stage (cfg0.slots t 8)
  h9 := Gen.hstage0_8 ((cfg0.slots t 8).cast Gen.nbuf0_8)
  a10 := win0_9.stage (cfg0.slots t 9)
  h10 := Gen.hstage0_9 ((cfg0.slots t 9).cast Gen.nbuf0_9)
  a11 := win0_10.stage (cfg0.slots t 10)
  h11 := Gen.hstage0_10 ((cfg0.slots t 10).cast Gen.nbuf0_10)
  a12 := Memref.whole cc0_scratch0
  h12 := Memref.isWhole_whole _
  a13 := Memref.whole cc0_scratch1
  h13 := Memref.isWhole_whole _
  a14 := Memref.whole cc0_scratch2
  h14 := Memref.isWhole_whole _
  a15 := Memref.whole cc0_scratch3
  h15 := Memref.isWhole_whole _
  a16 := Memref.whole cc0_scratch4
  h16 := Memref.isWhole_whole _

attribute [local irreducible] cc0_qkv_fp8_block in
/-- The body at point `t` takes contents to what the point's steps make of them. -/
theorem body_runs (c : Dev nD) (t : Fin cfg0.N) (σ : St F) :
    Runs (bufs t) c σ (defs₀ .tc cfg0.body (cfg0.bodyArgs t (cfg0.slots t)))
      (execs (if isFirst (grid0.coords t) = 1#1 then initActs ++ bodyActs else bodyActs) σ) :=
  show Runs (bufs t) c σ (bodyAt0 t) _ from does_body (B := bufs t) (c := c) (grid0.coords t) σ

/-- The first point is the one numbered zero. -/
theorem isFirst_iff : ∀ t : Fin cfg0.N, isFirst (grid0.coords t) = 1#1 ↔ t.val = 0 := by decide

/-- What a point's steps leave, from scratch that holds its first half quantised (or at the first point any). -/
theorem point_good (c : Dev nD) (t : Fin cfg0.N) (σ : St F) (h0 : σ.x0 = iblk m c 0 t) (hx : t.val ≠ 0 → σ.holds (xh m c t.val)) :
    (execs (if isFirst (grid0.coords t) = 1#1 then initActs ++ bodyActs else bodyActs) σ).Good σ (xh m c t.val) := by
  by_cases ht : t.val = 0
  · rw [if_pos ((isFirst_iff t).mpr ht)]
    have e : xh m c t.val = σ.x0 := by
      have et : t = ⟨0, by decide⟩ := Fin.ext ht
      rw [h0]; unfold xh; rw [if_pos ht, et]
    rw [e]; exact first_good σ
  · rw [if_neg (fun h => ht ((isFirst_iff t).mp h))]
    exact body_good σ _ (hx ht)

/-- The half a point quantises for the next one. -/
theorem xh_succ (c : Dev nD) (t : Fin cfg0.N) : xh m c (t.val + 1) = iblk m c 1 t := by
  have ht : t.val < 64 := t.isLt
  unfold xh
  rw [if_neg (by omega)]
  have et : (⟨(t.val + 1 - 1) % 64, Nat.mod_lt _ (by decide)⟩ : Fin cfg0.N) = t := Fin.ext (by show (t.val + 1 - 1) % 64 = t.val; omega)
  rw [et]

/-- The body at point `t`, with what is wanted after it. -/
theorem body_wand (c : Dev nD) (t : Fin cfg0.N) (σ ρ : St F)
    (e : execs (if isFirst (grid0.coords t) = 1#1 then initActs ++ bodyActs else bodyActs) σ = ρ) (Q : PUnit → sProp 𝕄) :
    iprop(own (bufs t) c σ ∗ (own (bufs t) c ρ -∗ Q ⟨⟩))
      ⊢ wp frame (wpE (defs₀ (F := F)) 𝒱₀ (c : Thread nD τ) none) Set.univ (defs₀ .tc cfg0.body (cfg0.bodyArgs t (cfg0.slots t))) Q := by
  subst e
  exact (sep_mono_left (body_runs c t σ 𝒱₀ (fun _ => own (bufs t) c _) Entails.rfl)).trans
    ((wp_frame_r _ _ _).trans (wp_mono _ _ _ fun _ => by iintro ⟨H, K⟩; iapply K; iexact H))

end Cert.KernelIdeal.Run

end
-- ==== Proof.Launch.lean ====
/-
  The launch: the body obligation at every point, and the run of the whole program.
-/
module

public import proofs.«01_k».proof.Proof.Run

@[expose] public section

set_option maxRecDepth 16384

noncomputable section

namespace Cert.KernelIdeal.Run

open Cert.KernelIdeal Cert.KernelIdeal.Facts₀ Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- What a point leaves: the input blocks as they were, the results' blocks, the scratch with the next half quantised. -/
def left (c : Dev nD) (t : Fin cfg0.N) : sProp 𝕄 :=
  iprop(owns (c : Thread nD τ) (bufs t).a1 fullShare (iblk m c 0 t) ∗ owns (c : Thread nD τ) (bufs t).a2 fullShare (iblk m c 1 t)
    ∗ owns (c : Thread nD τ) (bufs t).a3 fullShare (xB m c t) ∗ owns (c : Thread nD τ) (bufs t).a4 fullShare (wB m c t)
    ∗ owns (c : Thread nD τ) (bufs t).a5 fullShare (wsB m c t) ∗ owns (c : Thread nD τ) (bufs t).a6 fullShare (biB m c t)
    ∗ owns (c : Thread nD τ) (bufs t).a7 fullShare (qB m c t) ∗ owns (c : Thread nD τ) (bufs t).a8 fullShare (kB m c t)
    ∗ owns (c : Thread nD τ) (bufs t).a9 fullShare (vB m c t) ∗ owns (c : Thread nD τ) (bufs t).a10 fullShare (cB m c t)
    ∗ owns (c : Thread nD τ) (bufs t).a11 fullShare (sB m c t)
    ∗ ∃ (xsa xsb : S256x3584.Idx → Elt F .bf16) (ca : S2x128x3584.Idx → Elt F .fp8e4m3) (sta stb : S2x128x128.Idx → Elt F .f32),
      ⌜t.val + 1 ≠ 0 → ca = specC (xh m c (t.val + 1)) ∧ xsa = specS (xh m c (t.val + 1)) ∧ ∀ b j r, sta (ValueIdx.ix3 (n0 := 2) (n1 := 128) (n2 := 128) b r (lane j)) = specT (xh m c (t.val + 1)) b j r⌝
      ∗ owns (c : Thread nD τ) (bufs t).a12 fullShare xsa ∗ owns (c : Thread nD τ) (bufs t).a13 fullShare xsb
      ∗ owns (c : Thread nD τ) (bufs t).a14 fullShare ca ∗ owns (c : Thread nD τ) (bufs t).a15 fullShare sta
      ∗ owns (c : Thread nD τ) (bufs t).a16 fullShare stb)

/-- Contents after a point are what `left` lists. -/
theorem own_left (c : Dev nD) (t : Fin cfg0.N) (ρ σ : St F) (hG : ρ.Good σ (xh m c t.val))
    (e0 : σ.x0 = iblk m c 0 t) (ea : σ.xa = iblk m c 1 t) (eb : σ.xb = xB m c t) (ew : σ.w = wB m c t) (es : σ.ws = wsB m c t)
    (ei : σ.bi = biB m c t) : own (bufs t) c ρ ⊢ left m c t := by
  obtain ⟨s0, sa, sb, sw, ss, si⟩ := hG.same
  have hn := hG.next
  have hq := hG.q
  have hk := hG.k
  have hv := hG.v
  have hc := hG.codes
  have hs := hG.scale
  rw [ea, ← xh_succ] at hn
  rw [eb, ew, es, ei] at hq hk hv
  rw [eb] at hc hs
  unfold own left
  rw [s0, sa, sb, sw, ss, si, e0, ea, eb, ew, es, ei, hq, hk, hv, hc, hs]
  iintro ⟨H0, H1, H2, H3, H4, H5, H6, H7, H8, H9, H10, S1, S2, S3, S4, S5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexists _; iexists _; iexists _; iexists _
  isplitr; · ipureintro; exact fun _ => hn
  isplitl [S1]; · iexact S1
  isplitl [S2]; · iexact S2
  isplitl [S3]; · iexact S3
  isplitl [S4]; · iexact S4
  iexact S5

/-- The body at point `t`, from the blocks fetched and the scratch as the point before left it. -/
theorem point_runs (c : Dev nD) (t : Fin cfg0.N) (σ : St F)
    (e0 : σ.x0 = iblk m c 0 t) (ea : σ.xa = iblk m c 1 t) (eb : σ.xb = xB m c t) (ew : σ.w = wB m c t) (es : σ.ws = wsB m c t)
    (ei : σ.bi = biB m c t) (hx : t.val ≠ 0 → σ.holds (xh m c t.val)) (Q : PUnit → sProp 𝕄) :
    iprop(own (bufs t) c σ ∗ (left m c t -∗ Q ⟨⟩))
      ⊢ wp frame (wpE (defs₀ (F := F)) 𝒱₀ (c : Thread nD τ) none) Set.univ (defs₀ .tc cfg0.body (cfg0.bodyArgs t (cfg0.slots t))) Q :=
  (sep_mono_right (wand_mono (own_left m c t _ σ (point_good m c t σ e0 hx) e0 ea eb ew es ei) Entails.rfl)).trans
    (body_wand c t σ _ rfl Q)

/-- The blocks after the body, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = xB m c t := by dsimp only [dats]; rfl
theorem after_3 (c : Dev nD) (t : Fin cfg0.N) : (dats m 0 c).after 3 t = wB m c t := by dsimp only [dats]; rfl
theorem after_4 (c : Dev nD) (t : Fin cfg0.N) : (dats m 0 c).after 4 t = wsB m c t := by dsimp only [dats]; rfl
theorem after_5 (c : Dev nD) (t : Fin cfg0.N) : (dats m 0 c).after 5 t = biB m c t := by dsimp only [dats]; rfl
theorem after_6 (c : Dev nD) (t : Fin cfg0.N) : (dats m 0 c).after 6 t = qB m c t := by dsimp only [dats]
theorem after_7 (c : Dev nD) (t : Fin cfg0.N) : (dats m 0 c).after 7 t = kB m c t := by dsimp only [dats]
theorem after_8 (c : Dev nD) (t : Fin cfg0.N) : (dats m 0 c).after 8 t = vB m c t := by dsimp only [dats]
theorem after_9 (c : Dev nD) (t : Fin cfg0.N) : (dats m 0 c).after 9 t = cB m c t := by dsimp only [dats]
theorem after_10 (c : Dev nD) (t : Fin cfg0.N) : (dats m 0 c).after 10 t = sB m c t := by dsimp only [dats]

set_option maxHeartbeats 4000000 in
/-- The library's body obligation. -/
theorem body_obligation (c : Dev nD) : BodyObligation (dats m 0 c) (defs₀ (F := F)) 𝒱₀ () Set.univ := fun t => by
  rw [bigSep_W0, bigSep_W0]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl)]
  rw [show (dats m 0 c).Φ t.castSucc = Φc m c t.val from rfl, show (dats m 0 c).Φ t.succ = Φc m c (t.val + 1) from rfl]
  simp only [after_0, after_1, after_2, after_3, after_4, after_5, after_6, after_7, after_8, after_9, after_10]
  unfold Φc Dat.owesAt Pipeline.owesWithin
  rw [show (dats m 0 c).owed t.castSucc = 0 from rfl, show (dats m 0 c).owed t.succ = 0 from rfl]
  iintro ⟨⟨%xsa, %xsb, %ca, %sta, %stb, %hx, S1, S2, S3, S4, S5, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (point_runs m c t ⟨iblk m c 0 t, iblk m c 1 t, xB m c t, wB m c t, wsB m c t, biB m c t, (dats m 0 c).before 6 t d6, (dats m 0 c).before 7 t d7, (dats m 0 c).before 8 t d8, (dats m 0 c).before 9 t d9, (dats m 0 c).before 10 t d10, xsa, xsb, ca, sta, stb⟩ rfl rfl rfl rfl rfl rfl hx _)
  unfold own left
  isplitl [H0 H1 H2 H3 H4 H5 H6 H7 H8 H9 H10 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S1]; · iexact S1
    isplitl [S2]; · iexact S2
    isplitl [S3]; · iexact S3
    isplitl [S4]; · iexact S4
    iexact S5
  iintro ⟨H0, H1, H2, H3, H4, H5, H6, H7, H8, H9, H10, %xsa', %xsb', %ca', %sta', %stb', %hn, S1, S2, S3, S4, S5⟩
  isplitl [S1 S2 S3 S4 S5 HP]
  · iexists xsa'; iexists xsb'; iexists ca'; iexists sta'; iexists stb'
    isplitr; · ipureintro; exact hn
    isplitl [S1]; · iexact S1
    isplitl [S2]; · iexact S2
    isplitl [S3]; · iexact S3
    isplitl [S4]; · iexact S4
    isplitl [S5]; · iexact S5
    iexact HP
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The launch -/

/-- Before the first point the scratch is at something. -/
theorem hin (c : Dev nD) : Pipeline.ΦA spec0 c ⊢ (dats m 0 c).Φ 0 := by
  rw [show (dats m 0 c).Φ 0 = Φc m c 0 from rfl]
  unfold Φc Pipeline.ΦA
  rw [scopedRest0_eq]
  simp only [owns_whole_eq]
  iintro ⟨⟨⟨%f0, S0⟩, ⟨%f1, S1⟩, ⟨%f2, S2⟩, ⟨%f3, S3⟩, ⟨%f4, S4⟩⟩, HP⟩
  iexists f0; iexists f1; iexists f2; iexists f3; iexists f4
  isplitr; · ipureintro; exact fun h => absurd rfl h
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  isplitl [S4]; · iexists f4; isplitr; · ipureintro; rfl
                  iexact S4
  iexact HP

/-- After the last point the scratch is at something. -/
theorem hout (c : Dev nD) : (dats m 0 c).Φ (Fin.last cfg0.N) ⊢ Pipeline.ΦA spec0 c := by
  rw [show (dats m 0 c).Φ (Fin.last cfg0.N) = Φc m c cfg0.N from rfl]
  unfold Φc Pipeline.ΦA
  rw [scopedRest0_eq]
  simp only [owns_whole_eq]
  iintro ⟨%xsa, %xsb, %ca, %sta, %stb, -, ⟨%f0, %h0, S0⟩, ⟨%f1, %h1, S1⟩, ⟨%f2, %h2, S2⟩, ⟨%f3, %h3, S3⟩, ⟨%f4, %h4, S4⟩, HP⟩
  isplitl [S0 S1 S2 S3 S4]
  · isplitl [S0]; · iexists f0; iexact S0
    isplitl [S1]; · iexists f1; iexact S1
    isplitl [S2]; · iexists f2; iexact S2
    isplitl [S3]; · iexists f3; iexact S3
    iexists f4; iexact S4
  iexact HP

/-- What the region and the two transposes after it leave. -/
def Post (r : PUnit × MemSt nD τ sig (Elt F)) : Prop :=
  Pipeline.FramePost cfgs (dats m) 0 (Pipeline.afterTail₀ cfgs (dats m) 0 (V0 m) [hostOps1]) r ∧ r.2.sem = (fun _ => 0)

set_option backward.isDefEq.respectTransparency.types false in
/-- Every run of the program ends with `Post`. -/
theorem run_post : θ_run (Cert.KernelIdeal.defs (F := F)) (onTc (Cert.KernelIdeal.main (F := F))) (s₀ m g) (Post m) :=
  Pipeline.θ_run_frame_around_track_shared cfgs (dats m) 0 launch₀0 defs₀ 𝒱₀ m g (Cert.KernelIdeal.main (F := F))
    (fun c => (body_obligation m c).loose) (fun c w _ => rfl) (fun c t => rfl) (V0 m) [hostOps1] sfx_sub sfx_fresh sfx_keeps
    (hmain m 𝒱₀) (fun c w => A_eq m c w) (hin m) (hout m) (Post m) (fun r h => h)

end Cert.KernelIdeal.Run

end
-- ==== Proof.WordBody.lean ====
/-
  The kernel body's vocabulary: the contents of the sixteen buffers it works on, the array-level reading of a load and a
  store, and what it means for a piece of program to take one set of contents to another.
-/
module

public import proofs.«01_k».proof.Proof.Gen.Kernel.Frame

@[expose] public section

set_option maxRecDepth 16384

noncomputable section

namespace Cert.Kernel.Run

open Cert.Kernel Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores of arrays -/

/-- What a load through the rectangle `r` reads of an array `X`. -/
def ld {s : Shape} {α : Type} (r : Rect s) (X : s.Idx → α) : r.shape.Idx → α := fun x => X (r.emb x)

open Classical in
/-- The array `X` after a store of `w` through the rectangle `r`. -/
def st {s : Shape} {α : Type} (r : Rect s) (X : s.Idx → α) (w : r.shape.Idx → α) : s.Idx → α :=
  fun y => if h : ∃ x, r.emb x = y then w h.choose else X y

theorem st_emb {s : Shape} {α : Type} (r : Rect s) (X : s.Idx → α) (w : r.shape.Idx → α) (x : r.shape.Idx) :
    st r X w (r.emb x) = w x := by
  unfold st
  have h : ∃ x', r.emb x' = r.emb x := ⟨x, rfl⟩
  rw [dif_pos h]
  exact congrArg w (r.emb.injective h.choose_spec)

theorem st_hit {s : Shape} {α : Type} (r : Rect s) (X : s.Idx → α) (w : r.shape.Idx → α) (x : r.shape.Idx) (y : s.Idx)
    (h : r.emb x = y) : st r X w y = w x := by
  subst h; exact st_emb r X w x

theorem st_miss {s : Shape} {α : Type} (r : Rect s) (X : s.Idx → α) (w : r.shape.Idx → α) (y : s.Idx)
    (h : ∀ x, r.emb x ≠ y) : st r X w y = X y := by
  unfold st
  rw [dif_neg (by rintro ⟨x, hx⟩; exact h x hx)]

attribute [irreducible] st

/-! ## The buffers and their contents -/

/-- The sixteen buffers the body works on, each a whole one. -/
structure Bufs where
  a1 : Memref sig .tc .vmem S2x128x3584 .bf16
  h1 : a1.IsWhole
  a2 : Memref sig .tc .vmem S2x128x3584 .bf16
  h2 : a2.IsWhole
  a3 : Memref sig .tc .vmem S2x128x3584 .bf16
  h3 : a3.IsWhole
  a4 : Memref sig .tc .vmem S3584x4608 .fp8e4m3
  h4 : a4.IsWhole
  a5 : Memref sig .tc .vmem S1x4608 .f32
  h5 : a5.IsWhole
  a6 : Memref sig .tc .vmem S1x4608 .bf16
  h6 : a6.IsWhole
  a7 : Memref sig .tc .vmem S4x28x128x128 .bf16
  h7 : a7.IsWhole
  a8 : Memref sig .tc .vmem S4x128x4x128 .bf16
  h8 : a8.IsWhole
  a9 : Memref sig .tc .vmem S4x128x4x128 .bf16
  h9 : a9.IsWhole
  a10 : Memref sig .tc .vmem S4x128x3584 .fp8e4m3
  h10 : a10.IsWhole
  a11 : Memref sig .tc .vmem S28x4x128 .f32
  h11 : a11.IsWhole
  a12 : Memref sig .tc .vmem S256x3584 .bf16
  h12 : a12.IsWhole
  a13 : Memref sig .tc .vmem S256x3584 .bf16
  h13 : a13.IsWhole
  a14 : Memref sig .tc .vmem S2x128x3584 .fp8e4m3
  h14 : a14.IsWhole
  a15 : Memref sig .tc .vmem S2x128x128 .f32
  h15 : a15.IsWhole
  a16 : Memref sig .tc .vmem S2x128x128 .f32
  h16 : a16.IsWhole

/-- The buffers' contents: the three blocks of activations, the weights with their scales and the bias, the five
    results, and the five scratch arrays (the scaled activations, codes and scales kept between the halves). -/
structure St (F : FTy → Type) where
  x0 : S2x128x3584.Idx → Elt F .bf16
  xa : S2x128x3584.Idx → Elt F .bf16
  xb : S2x128x3584.Idx → Elt F .bf16
  w : S3584x4608.Idx → Elt F .fp8e4m3
  ws : S1x4608.Idx → Elt F .f32
  bi : S1x4608.Idx → Elt F .bf16
  q : S4x28x128x128.Idx → Elt F .bf16
  k : S4x128x4x128.Idx → Elt F .bf16
  v : S4x128x4x128.Idx → Elt F .bf16
  codes : S4x128x3584.Idx → Elt F .fp8e4m3
  scale : S28x4x128.Idx → Elt F .f32
  xsa : S256x3584.Idx → Elt F .bf16
  xsb : S256x3584.Idx → Elt F .bf16
  ca : S2x128x3584.Idx → Elt F .fp8e4m3
  sta : S2x128x128.Idx → Elt F .f32
  stb : S2x128x128.Idx → Elt F .f32

variable (B : Bufs) (c : Dev nD)

/-- Core `c` owns the sixteen buffers at the contents `σ`. -/
def own (σ : St F) : sProp 𝕄 :=
  iprop(owns (c : Thread nD τ) B.a1 fullShare σ.x0 ∗ owns (c : Thread nD τ) B.a2 fullShare σ.xa ∗ owns (c : Thread nD τ) B.a3 fullShare σ.xb
    ∗ owns (c : Thread nD τ) B.a4 fullShare σ.w ∗ owns (c : Thread nD τ) B.a5 fullShare σ.ws ∗ owns (c : Thread nD τ) B.a6 fullShare σ.bi
    ∗ owns (c : Thread nD τ) B.a7 fullShare σ.q ∗ owns (c : Thread nD τ) B.a8 fullShare σ.k ∗ owns (c : Thread nD τ) B.a9 fullShare σ.v
    ∗ owns (c : Thread nD τ) B.a10 fullShare σ.codes ∗ owns (c : Thread nD τ) B.a11 fullShare σ.scale
    ∗ owns (c : Thread nD τ) B.a12 fullShare σ.xsa ∗ owns (c : Thread nD τ) B.a13 fullShare σ.xsb
    ∗ owns (c : Thread nD τ) B.a14 fullShare σ.ca ∗ owns (c : Thread nD τ) B.a15 fullShare σ.sta ∗ owns (c : Thread nD τ) B.a16 fullShare σ.stb)

variable (F) in
/-- One of the sixteen: its buffer, its contents within a `St`, and that it can be taken out of `own` and put back
    at any other contents. -/
structure Slot (s : Shape) (e : EltTy) where
  m : Memref sig .tc .vmem s e
  get : St F → s.Idx → Elt F e
  set : St F → (s.Idx → Elt F e) → St F
  set_get : ∀ σ, set σ (get σ) = σ
  law : ∀ σ, own B c σ ⊢ iprop(owns (c : Thread nD τ) m fullShare (get σ)
    ∗ (∀ X, owns (c : Thread nD τ) m fullShare X -∗ own B c (set σ X)) : sProp 𝕄)

variable (F)

def sx0 : Slot F B c S2x128x3584 .bf16 := ⟨B.a1, St.x0, fun σ X => { σ with x0 := X }, fun _ => rfl, fun σ => by
  unfold own; iintro ⟨H1, H2, H3, H4, H5, H6, H7, H8, H9, H10, H11, H12, H13, H14, H15, H16⟩
  isplitl [H1]; · iexact H1
  iintro %X H1; iframe⟩

def sxa : Slot F B c S2x128x3584 .bf16 := ⟨B.a2, St.xa, fun σ X => { σ with xa := X }, fun _ => rfl, fun σ => by
  unfold own; iintro ⟨H1, H2, H3, H4, H5, H6, H7, H8, H9, H10, H11, H12, H13, H14, H15, H16⟩
  isplitl [H2]; · iexact H2
  iintro %X H2; iframe⟩

def sxb : Slot F B c S2x128x3584 .bf16 := ⟨B.a3, St.xb, fun σ X => { σ with xb := X }, fun _ => rfl, fun σ => by
  unfold own; iintro ⟨H1, H2, H3, H4, H5, H6, H7, H8, H9, H10, H11, H12, H13, H14, H15, H16⟩
  isplitl [H3]; · iexact H3
  iintro %X H3; iframe⟩

def sw : Slot F B c S3584x4608 .fp8e4m3 := ⟨B.a4, St.w, fun σ X => { σ with w := X }, fun _ => rfl, fun σ => by
  unfold own; iintro ⟨H1, H2, H3, H4, H5, H6, H7, H8, H9, H10, H11, H12, H13, H14, H15, H16⟩
  isplitl [H4]; · iexact H4
  iintro %X H4; iframe⟩

def sws : Slot F B c S1x4608 .f32 := ⟨B.a5, St.ws, fun σ X => { σ with ws := X }, fun _ => rfl, fun σ => by
  unfold own; iintro ⟨H1, H2, H3, H4, H5, H6, H7, H8, H9, H10, H11, H12, H13, H14, H15, H16⟩
  isplitl [H5]; · iexact H5
  iintro %X H5; iframe⟩

def sbi : Slot F B c S1x4608 .bf16 := ⟨B.a6, St.bi, fun σ X => { σ with bi := X }, fun _ => rfl, fun σ => by
  unfold own; iintro ⟨H1, H2, H3, H4, H5, H6, H7, H8, H9, H10, H11, H12, H13, H14, H15, H16⟩
  isplitl [H6]; · iexact H6
  iintro %X H6; iframe⟩

def sq : Slot F B c S4x28x128x128 .bf16 := ⟨B.a7, St.q, fun σ X => { σ with q := X }, fun _ => rfl, fun σ => by
  unfold own; iintro ⟨H1, H2, H3, H4, H5, H6, H7, H8, H9, H10, H11, H12, H13, H14, H15, H16⟩
  isplitl [H7]; · iexact H7
  iintro %X H7; iframe⟩

def sk : Slot F B c S4x128x4x128 .bf16 := ⟨B.a8, St.k, fun σ X => { σ with k := X }, fun _ => rfl, fun σ => by
  unfold own; iintro ⟨H1, H2, H3, H4, H5, H6, H7, H8, H9, H10, H11, H12, H13, H14, H15, H16⟩
  isplitl [H8]; · iexact H8
  iintro %X H8; iframe⟩

def sv : Slot F B c S4x128x4x128 .bf16 := ⟨B.a9, St.v, fun σ X => { σ with v := X }, fun _ => rfl, fun σ => by
  unfold own; iintro ⟨H1, H2, H3, H4, H5, H6, H7, H8, H9, H10, H11, H12, H13, H14, H15, H16⟩
  isplitl [H9]; · iexact H9
  iintro %X H9; iframe⟩

def scodes : Slot F B c S4x128x3584 .fp8e4m3 := ⟨B.a10, St.codes, fun σ X => { σ with codes := X }, fun _ => rfl, fun σ => by
  unfold own; iintro ⟨H1, H2, H3, H4, H5, H6, H7, H8, H9, H10, H11, H12, H13, H14, H15, H16⟩
  isplitl [H10]; · iexact H10
  iintro %X H10; iframe⟩

def sscale : Slot F B c S28x4x128 .f32 := ⟨B.a11, St.scale, fun σ X => { σ with scale := X }, fun _ => rfl, fun σ => by
  unfold own; iintro ⟨H1, H2, H3, H4, H5, H6, H7, H8, H9, H10, H11, H12, H13, H14, H15, H16⟩
  isplitl [H11]; · iexact H11
  iintro %X H11; iframe⟩

def sxsa : Slot F B c S256x3584 .bf16 := ⟨B.a12, St.xsa, fun σ X => { σ with xsa := X }, fun _ => rfl, fun σ => by
  unfold own; iintro ⟨H1, H2, H3, H4, H5, H6, H7, H8, H9, H10, H11, H12, H13, H14, H15, H16⟩
  isplitl [H12]; · iexact H12
  iintro %X H12; iframe⟩

def sxsb : Slot F B c S256x3584 .bf16 := ⟨B.a13, St.xsb, fun σ X => { σ with xsb := X }, fun _ => rfl, fun σ => by
  unfold own; iintro ⟨H1, H2, H3, H4, H5, H6, H7, H8, H9, H10, H11, H12, H13, H14, H15, H16⟩
  isplitl [H13]; · iexact H13
  iintro %X H13; iframe⟩

def sca : Slot F B c S2x128x3584 .fp8e4m3 := ⟨B.a14, St.ca, fun σ X => { σ with ca := X }, fun _ => rfl, fun σ => by
  unfold own; iintro ⟨H1, H2, H3, H4, H5, H6, H7, H8, H9, H10, H11, H12, H13, H14, H15, H16⟩
  isplitl [H14]; · iexact H14
  iintro %X H14; iframe⟩

def ssta : Slot F B c S2x128x128 .f32 := ⟨B.a15, St.sta, fun σ X => { σ with sta := X }, fun _ => rfl, fun σ => by
  unfold own; iintro ⟨H1, H2, H3, H4, H5, H6, H7, H8, H9, H10, H11, H12, H13, H14, H15, H16⟩
  isplitl [H15]; · iexact H15
  iintro %X H15; iframe⟩

def sstb : Slot F B c S2x128x128 .f32 := ⟨B.a16, St.stb, fun σ X => { σ with stb := X }, fun _ => rfl, fun σ => by
  unfold own; iintro ⟨H1, H2, H3, H4, H5, H6, H7, H8, H9, H10, H11, H12, H13, H14, H15, H16⟩
  isplitl [H16]; · iexact H16
  iintro %X H16; iframe⟩

variable {F}

/-! ## What a block of 128 columns is quantised to -/

/-- The block as 128 rows of 128 lanes in f32. -/
def wide (x : Vec F S1x128x128 .bf16) : FVec F S128x128 .f32 :=
  extf .f32 (shapeCast S128x128 x shapeCasts_S1x128x128_S128x128) bitsLt_bf16_f32

/-- Each row's largest magnitude, times the word nearest 1/448. -/
def rowMax (x : Vec F S1x128x128 .bf16) : FVec F S128x1 .f32 :=
  mulf (shapeCast S128x1 (multiReduction .maximumf [1] S128 (absf (wide x)) 0xFF800000#32 reduces_S128x128_S128 (.inl rfl) rfl)
    shapeCasts_S128_S128x1) (broadcast S128x1 (Scalar.ofBits .f32 0x3B124925#32))

/-- The exponent field of each row's number: how many of the 256 words `f <<< 23`, read as floats, it is not below, less
    one, put where the field stands. -/
def field (t : FVec F S128x1 .f32) : IVec S128x1 32 :=
  shli (subi (fptosi 32 (shapeCast S128x1 (multiReduction .add [1] S128
    (select (cmpf .olt (broadcastTo S128x256 t broadcasts_S128x1_S128x256)
        (bitcastToFloat (F := F) .f32 (shli (iota .tc S128x256 32 [1] iota_S128x256_d1_w32) (broadcast S128x256 23#32))))
      (broadcast S128x256 (Scalar.ofBits (F := F) .f32 0x00000000#32)) (broadcast S128x256 (Scalar.ofBits (F := F) .f32 0x3F800000#32)))
    0x00000000#32 reduces_S128x256_S128 (.inl rfl) rfl) shapeCasts_S128_S128x1)) (broadcast S128x1 1#32)) (broadcast S128x1 23#32)

/-- The scale: the power of two above, one for a field of zero. -/
def scaleOf (f : IVec S128x1 32) : FVec F S128x1 .f32 :=
  select (cmpi .eq f (broadcast S128x1 0#32)) (broadcast S128x1 (Scalar.ofBits .f32 0x3F800000#32))
    (bitcastToFloat .f32 (addi f (broadcast S128x1 8388608#32)))

/-- The scale's inverse. -/
def invOf (f : IVec S128x1 32) : FVec F S128x1 .f32 :=
  select (cmpi .eq f (broadcast S128x1 0#32)) (broadcast S128x1 (Scalar.ofBits .f32 0x3F800000#32))
    (bitcastToFloat .f32 (subi (broadcast S128x1 2122317824#32) f))

/-- The block's scales, row by row. -/
def scales (x : Vec F S1x128x128 .bf16) : FVec F S128x1 .f32 := scaleOf (field (rowMax x))

/-- The block's codes. -/
def codes8 (x : Vec F S1x128x128 .bf16) : FVec F S128x128 .fp8e4m3 :=
  truncf .fp8e4m3 (minimumf (broadcast S128x128 (Scalar.ofBits .f32 0x43E00000#32))
    (maximumf (broadcast S128x128 (Scalar.ofBits .f32 0xC3E00000#32))
      (mulf (wide x) (broadcastTo S128x128 (invOf (field (rowMax x))) broadcasts_S128x1_S128x128)))) bitsLt_fp8e4m3_f32

/-- The codes as they are stored. -/
def codesPay (x : Vec F S1x128x128 .bf16) : FVec F S1x128x128 .fp8e4m3 :=
  shapeCast S1x128x128 (codes8 x) shapeCasts_S128x128_S1x128x128

/-- The scaled activations the products are taken of: codes times scales in bf16. -/
def xsPay (x : Vec F S1x128x128 .bf16) : FVec F S128x128 .bf16 :=
  shapeCast S128x128 (mulf (extf .bf16 (codes8 x) bitsLt_fp8e4m3_bf16)
    (broadcastTo S128x128 (truncf .bf16 (scales x) bitsLt_bf16_f32) broadcasts_S128x1_S128x128)) shapeCasts_S128x128_S128x128

/-- The row's scales put in at lane `j` of the scales so far. -/
def accPay (j : Nat) (x : Vec F S1x128x128 .bf16) (acc : FVec F S128x128 .f32) : FVec F S128x128 .f32 :=
  select (cmpi .eq (iota .tc S128x128 32 [1] iota_S128x128_d1_w32) (broadcast S128x128 (BitVec.ofNat 32 j)))
    (broadcastTo S128x128 (shapeCast S128x1 (scales x) shapeCasts_S128x1_S128x1) broadcasts_S128x1_S128x128) acc

/-! ## The rectangles -/

theorem inbX : ∀ (b : Fin 2) (j : Fin 28) (a : Fin 3), (![b.val, 0, j.val * 128] : Fin 3 → Nat) a + S1x128x128.size a ≤ S2x128x3584.size a := by
  decide

/-- Half `b`'s rows, columns `128 j …`, of an array of two halves. -/
abbrev rX (b : Fin 2) (j : Fin 28) : Rect S2x128x3584 := Rect.unit (s := S2x128x3584) ![b.val, 0, j.val * 128] S1x128x128.size (inbX b j)

theorem inbS : ∀ (b : Fin 2) (j : Fin 28) (a : Fin 2), (![b.val * 128, j.val * 128] : Fin 2 → Nat) a + S128x128.size a ≤ S256x3584.size a := by
  decide

/-- The same of the scaled activations. -/
abbrev rS (b : Fin 2) (j : Fin 28) : Rect S256x3584 := Rect.unit (s := S256x3584) ![b.val * 128, j.val * 128] S128x128.size (inbS b j)

theorem inbT : ∀ (b : Fin 2) (a : Fin 3), (![b.val, 0, 0] : Fin 3 → Nat) a + S1x128x128.size a ≤ S2x128x128.size a := by decide

/-- Half `b` of the scales. -/
abbrev rT (b : Fin 2) : Rect S2x128x128 := Rect.unit (s := S2x128x128) ![b.val, 0, 0] S1x128x128.size (inbT b)

theorem inbC : ∀ (b : Fin 2) (j : Fin 28) (a : Fin 3), (![2 + b.val, 0, j.val * 128] : Fin 3 → Nat) a + S1x128x128.size a ≤ S4x128x3584.size a := by
  decide

/-- Rows `2 + b`, columns `128 j …`, of the resulting codes. -/
abbrev rC (b : Fin 2) (j : Fin 28) : Rect S4x128x3584 := Rect.unit (s := S4x128x3584) ![2 + b.val, 0, j.val * 128] S1x128x128.size (inbC b j)

theorem inbH : ∀ (a : Fin 3), (![2, 0, 0] : Fin 3 → Nat) a + S2x128x3584.size a ≤ S4x128x3584.size a := by decide

/-- The second two rows of the resulting codes. -/
abbrev rH : Rect S4x128x3584 := Rect.unit (s := S4x128x3584) ![2, 0, 0] S2x128x3584.size inbH

theorem inbD : ∀ (a : Fin 3), (![0, 0, 0] : Fin 3 → Nat) a + S2x128x3584.size a ≤ S4x128x3584.size a := by decide

/-- The first two. -/
abbrev rD : Rect S4x128x3584 := Rect.unit (s := S4x128x3584) ![0, 0, 0] S2x128x3584.size inbD

theorem inbW2 : ∀ (a : Fin 3), (![0, 0, 0] : Fin 3 → Nat) a + S2x128x3584.size a ≤ S2x128x3584.size a := by decide
theorem inbW1 : ∀ (a : Fin 2), (![0, 0] : Fin 2 → Nat) a + S256x3584.size a ≤ S256x3584.size a := by decide

/-- The whole of an array of two halves, and of the scaled activations. -/
abbrev rW2 : Rect S2x128x3584 := Rect.unit (s := S2x128x3584) ![0, 0, 0] S2x128x3584.size inbW2
abbrev rW1 : Rect S256x3584 := Rect.unit (s := S256x3584) ![0, 0] S256x3584.size inbW1

theorem inbG : ∀ (b : Fin 4) (a : Fin 3), (![0, b.val, 0] : Fin 3 → Nat) a + S28x1x128.size a ≤ S28x4x128.size a := by decide

/-- Row `b` of the resulting scales. -/
abbrev rG (b : Fin 4) : Rect S28x4x128 := Rect.unit (s := S28x4x128) ![0, b.val, 0] S28x1x128.size (inbG b)

theorem inbWn : ∀ (n : Fin 9) (a : Fin 2), (![0, n.val * 512] : Fin 2 → Nat) a + S3584x512.size a ≤ S3584x4608.size a := by decide
theorem inbBn : ∀ (n : Fin 9) (a : Fin 2), (![0, n.val * 512] : Fin 2 → Nat) a + S1x512.size a ≤ S1x4608.size a := by decide

/-- Columns `512 n …` of the weights, and of their scales and the bias. -/
abbrev rWn (n : Fin 9) : Rect S3584x4608 := Rect.unit (s := S3584x4608) ![0, n.val * 512] S3584x512.size (inbWn n)
abbrev rBn (n : Fin 9) : Rect S1x4608 := Rect.unit (s := S1x4608) ![0, n.val * 512] S1x512.size (inbBn n)

theorem inbQ : ∀ (r : Fin 4) (h : Fin 28) (a : Fin 4), (![r.val, h.val, 0, 0] : Fin 4 → Nat) a + S1x1x128x128.size a ≤ S4x28x128x128.size a := by
  decide

/-- Row `r`, head `h` of the queries. -/
abbrev rQ (r : Fin 4) (h : Fin 28) : Rect S4x28x128x128 := Rect.unit (s := S4x28x128x128) ![r.val, h.val, 0, 0] S1x1x128x128.size (inbQ r h)

theorem inbK1 : ∀ (r : Fin 4) (h : Fin 4) (a : Fin 4), (![r.val, 0, h.val, 0] : Fin 4 → Nat) a + S1x128x1x128.size a ≤ S4x128x4x128.size a := by
  decide
theorem inbK2 : ∀ (r : Fin 4) (h : Fin 4) (a : Fin 4), (![r.val, 0, h.val / 2 * 2, 0] : Fin 4 → Nat) a + S1x128x2x128.size a ≤ S4x128x4x128.size a := by
  decide

/-- Row `r`, head `h` of the keys or values, and the pair of heads it is one of. -/
abbrev rK1 (r h : Fin 4) : Rect S4x128x4x128 := Rect.unit (s := S4x128x4x128) ![r.val, 0, h.val, 0] S1x128x1x128.size (inbK1 r h)
abbrev rK2 (r h : Fin 4) : Rect S4x128x4x128 := Rect.unit (s := S4x128x4x128) ![r.val, 0, h.val / 2 * 2, 0] S1x128x2x128.size (inbK2 r h)

theorem slY : ∀ (b : Fin 2) (h : Fin 4), S256x512.Slices ![b.val * 128, h.val * 128] S128x128 := by decide
theorem slK : ∀ (h : Fin 4), S1x128x2x128.Slices ![0, 0, h.val % 2, 0] S1x128x1x128 := by decide

/-! ## Programs that take contents to contents -/

/-- Programs of the body. -/
abbrev P (F : FTy → Type) := Prog (TpuEff nD τ sig (Elt F) Λ₀ .tc) PUnit

/-- From the contents `σ` the program `p` runs to the end and leaves the contents `ρ`. -/
def Runs (σ : St F) (p : P F) (ρ : St F) : Prop :=
  ∀ (𝒱 : Variants) (Q : PUnit → sProp 𝕄), (own B c ρ ⊢ Q ⟨⟩) →
    (own B c σ ⊢ wp frame (wpE defs₀ 𝒱 (c : Thread nD τ) none) Set.univ p Q)

variable {B c}

/-- A load reads the slot's contents through its rectangle. -/
theorem runs_load {s : Shape} {e : EltTy} (L : Slot F B c s e) {r : Rect s} {hl : L.m.view.LoadsAt r.toLoadRect}
    {k : (r.shape.Idx → Elt F e) → P F} {σ ρ : St F} (h : Runs B c σ (k (ld r (L.get σ))) ρ) :
    Runs B c σ (.op (.load L.m r.toLoadRect hl) k) ρ := by
  intro 𝒱 Q hQ
  refine (L.law σ).trans ?_
  unfold owns
  iintro ⟨⟨%f, %hf, H⟩, Hk⟩
  iapply (wp_load_rect 𝒱 (c : Thread nD τ) none Set.univ (m := L.m) (r := r) (View.set_slice_subset _ _)) $$ H
  iintro H
  have e1 : (L.m.access r).read (Elt F) f = ld r (L.get σ) := by rw [← hf]; rfl
  rw [e1]
  have e2 := h 𝒱 Q hQ
  iapply e2
  have e3 : own B c σ = own B c (L.set σ (L.get σ)) := by rw [L.set_get]
  rw [e3]
  iapply Hk
  iexists f
  isplitr [H]
  · ipureintro; exact hf
  · iexact H

/-- A store writes the slot's contents through its rectangle. -/
theorem runs_store {s : Shape} {e : EltTy} (L : Slot F B c s e) {r : Rect s} {w : r.shape.Idx → Elt F e}
    {hx : (L.m.access r).Stores Finset.univ} {hm : (Finset.univ : Finset r.shape.Idx) = Finset.univ ∨ ∀ a, r.stride a = 1}
    {k : PUnit → P F} {σ ρ : St F} (h : Runs B c (L.set σ (st r (L.get σ) w)) (k ⟨⟩) ρ) :
    Runs B c σ (.op (.store L.m r w Finset.univ hx hm) k) ρ := by
  intro 𝒱 Q hQ
  refine (L.law σ).trans ?_
  unfold owns
  iintro ⟨⟨%f, %hf, H⟩, Hk⟩
  iapply (wp_store 𝒱 (c : Thread nD τ) none Set.univ (m := L.m) (r := r) (Mk := Finset.univ) (View.set_slice_subset _ _)) $$ H
  iintro H
  have e2 := h 𝒱 Q hQ
  iapply e2
  iapply Hk
  iexists _
  isplitr [H]
  · ipureintro
    funext y
    by_cases hy : ∃ x, r.emb x = y
    · obtain ⟨x, rfl⟩ := hy
      rw [st_emb]
      exact View.read_slice_write_emb r f w (Finset.mem_univ x)
    · rw [st_miss r _ w y (by simpa using hy), ← hf]
      exact View.read_slice_write_of_not_mem r f w Finset.univ (by
        intro hm'; obtain ⟨x, _, hx'⟩ := Finset.mem_map.mp hm'; exact hy ⟨x, hx'⟩)
  · iexact H

/-- A load through a part of the slot's buffer whose value goes unused. -/
theorem runs_dead {s : Shape} {e : EltTy} (L : Slot F B c s e) {r0 : Rect s} {h0 : ∀ a, r0.stride a = 1}
    {r : Rect r0.shape} {hl : (L.m.slice r0 h0).view.LoadsAt r.toLoadRect}
    {k : (r.shape.Idx → Elt F e) → P F} {σ ρ : St F} (h : ∀ v, Runs B c σ (k v) ρ) :
    Runs B c σ (.op (.load (L.m.slice r0 h0) r.toLoadRect hl) k) ρ := by
  intro 𝒱 Q hQ
  refine (L.law σ).trans ?_
  unfold owns
  iintro ⟨⟨%f, %hf, H⟩, Hk⟩
  have e1 := wp_load_rect 𝒱 (c : Thread nD τ) none Set.univ (defs := defs₀) (Γ := .empty) (m := L.m.slice r0 h0) (r := r) (hl := hl) (k := k) (Q := Q)
    (S := L.m.view.set) (q := fullShare) (f := f) ((View.set_slice_subset _ _).trans (View.set_slice_subset _ _))
  iapply e1 $$ H
  iintro H
  have e2 := h (((L.m.slice r0 h0).access r).read (Elt F) f) 𝒱 Q hQ
  iapply e2
  have e3 : own B c σ = own B c (L.set σ (L.get σ)) := by rw [L.set_get]
  rw [e3]
  iapply Hk
  iexists f
  isplitr [H]
  · ipureintro; exact hf
  · iexact H

end Cert.Kernel.Run

end
-- ==== Proof.WordSteps.lean ====
/-
  The body's steps: each a program with the rest of the body as its continuation, and what it does to the contents.
-/
module

public import proofs.«01_k».proof.Proof.WordBody

@[expose] public section

set_option maxRecDepth 16384

noncomputable section

namespace Cert.Kernel.Run

open Cert.Kernel Cert.Kernel.Facts₀
open Idealize.ShloMosaic Idealize.ShloMosaic.TcCoe Idealize.ShloMosaic.Tactic
open Idealize.SL Idealize.SL.RA Idealize.SL.BI
open Idealize.SL.Sem

variable {F : FTy → Type} [FloatOps F]

/-! ## Packed rows of the rectangles stored through -/

theorem pkX (b : Fin 2) (j : Fin 28) : (rX b j).PackedRows (EltTy.packing .fp8e4m3) :=
  Affine.packed_dvd (by decide) ⟨0, rfl⟩ ⟨32, rfl⟩
theorem pkC (b : Fin 2) (j : Fin 28) : (rC b j).PackedRows (EltTy.packing .fp8e4m3) :=
  Affine.packed_dvd (by decide) ⟨0, rfl⟩ ⟨32, rfl⟩
theorem pkD : rD.PackedRows (EltTy.packing .fp8e4m3) := Affine.packed_dvd (by decide) ⟨0, rfl⟩ ⟨32, rfl⟩
theorem pkS (b : Fin 2) (j : Fin 28) : (rS b j).PackedRows (EltTy.packing .bf16) :=
  Affine.packed_dvd (by decide) ⟨b.val * 64, by show b.val * 128 = 2 * (b.val * 64); omega⟩ ⟨64, rfl⟩
theorem pkQ (r : Fin 4) (h : Fin 28) : (rQ r h).PackedRows (EltTy.packing .bf16) :=
  Affine.packed_dvd (by decide) ⟨0, rfl⟩ ⟨64, rfl⟩
theorem pkK2 (r h : Fin 4) : (rK2 r h).PackedRows (EltTy.packing .bf16) :=
  Affine.packed_dvd (by decide) ⟨h.val / 2, by show h.val / 2 * 2 = 2 * (h.val / 2); omega⟩ ⟨1, rfl⟩

/-! ## The programs -/

/-- Quantise the blocks `js` of rows `b` of `X` into the first codes and scaled activations, the scales gathered in
    `acc`; then store them at rows `b` of `T`. -/
def quantA (X : Memref sig .tc .vmem S2x128x3584 .bf16) (C : Memref sig .tc .vmem S2x128x3584 .fp8e4m3) (hC : C.IsWhole)
    (S : Memref sig .tc .vmem S256x3584 .bf16) (hS : S.IsWhole) (T : Memref sig .tc .vmem S2x128x128 .f32) (b : Fin 2) :
    List (Fin 28) → FVec F S128x128 .f32 → (PUnit → P F) → P F
  | [], acc, k =>
      .op (.load T (rT b).toLoadRect (View.loadsAt_vmem h_S1x128x128)) fun _ =>
      .op (.store T (rT b) (shapeCast S1x128x128 acc shapeCasts_S128x128_S1x128x128) Finset.univ
        (View.stores_vmem_bits_univ h_S1x128x128 rfl) (.inl rfl)) k
  | j :: js, acc, k =>
      .op (.load X (rX b j).toLoadRect (View.loadsAt_vmem h_S1x128x128)) fun x =>
      .op (.load C (rX b j).toLoadRect (View.loadsAt_vmem h_S1x128x128)) fun _ =>
      .op (.store C (rX b j) (codesPay x) Finset.univ
        (View.stores_vmem h_S1x128x128 (hC.storeExact_slice rfl _ (pkX b j)) (fun _ => rfl)) (.inl rfl)) fun _ =>
      .op (.load S (rS b j).toLoadRect (View.loadsAt_vmem h_S128x128)) fun _ =>
      .op (.store S (rS b j) (xsPay x) Finset.univ
        (View.stores_vmem h_S128x128 (hS.storeExact_slice rfl _ (pkS b j)) (fun _ => rfl)) (.inl rfl)) fun _ =>
      quantA X C hC S hS T b js (accPay j.val x acc) k

/-- The same with the scales loaded from rows `b` of `T` first. -/
def groupA (X : Memref sig .tc .vmem S2x128x3584 .bf16) (C : Memref sig .tc .vmem S2x128x3584 .fp8e4m3) (hC : C.IsWhole)
    (S : Memref sig .tc .vmem S256x3584 .bf16) (hS : S.IsWhole) (T : Memref sig .tc .vmem S2x128x128 .f32) (b : Fin 2)
    (js : List (Fin 28)) (k : PUnit → P F) : P F :=
  .op (.load T (rT b).toLoadRect (View.loadsAt_vmem h_S1x128x128)) fun a =>
    quantA X C hC S hS T b js (shapeCast S128x128 a shapeCasts_S1x128x128_S128x128) k

/-- Quantise the blocks `js` of rows `b` of `X` straight into rows `2 + b` of the resulting codes. -/
def quantB (X : Memref sig .tc .vmem S2x128x3584 .bf16) (C : Memref sig .tc .vmem S4x128x3584 .fp8e4m3) (hC : C.IsWhole)
    (S : Memref sig .tc .vmem S256x3584 .bf16) (hS : S.IsWhole) (T : Memref sig .tc .vmem S2x128x128 .f32) (b : Fin 2) :
    List (Fin 28) → FVec F S128x128 .f32 → (PUnit → P F) → P F
  | [], acc, k =>
      .op (.load T (rT b).toLoadRect (View.loadsAt_vmem h_S1x128x128)) fun _ =>
      .op (.store T (rT b) (shapeCast S1x128x128 acc shapeCasts_S128x128_S1x128x128) Finset.univ
        (View.stores_vmem_bits_univ h_S1x128x128 rfl) (.inl rfl)) k
  | j :: js, acc, k =>
      .op (.load X (rX b j).toLoadRect (View.loadsAt_vmem h_S1x128x128)) fun x =>
      .op (.load (C.slice rH (fun _ => rfl)) (rX b j).toLoadRect (View.loadsAt_vmem h_S1x128x128)) fun _ =>
      .op (.store C (rC b j) (codesPay x) Finset.univ
        (View.stores_vmem h_S1x128x128 (hC.storeExact_slice rfl _ (pkC b j)) (fun _ => rfl)) (.inl rfl)) fun _ =>
      .op (.load S (rS b j).toLoadRect (View.loadsAt_vmem h_S128x128)) fun _ =>
      .op (.store S (rS b j) (xsPay x) Finset.univ
        (View.stores_vmem h_S128x128 (hS.storeExact_slice rfl _ (pkS b j)) (fun _ => rfl)) (.inl rfl)) fun _ =>
      quantB X C hC S hS T b js (accPay j.val x acc) k

/-- The same with the scales loaded from rows `b` of `T` first. -/
def groupB (X : Memref sig .tc .vmem S2x128x3584 .bf16) (C : Memref sig .tc .vmem S4x128x3584 .fp8e4m3) (hC : C.IsWhole)
    (S : Memref sig .tc .vmem S256x3584 .bf16) (hS : S.IsWhole) (T : Memref sig .tc .vmem S2x128x128 .f32) (b : Fin 2)
    (js : List (Fin 28)) (k : PUnit → P F) : P F :=
  .op (.load T (rT b).toLoadRect (View.loadsAt_vmem h_S1x128x128)) fun a =>
    quantB X C hC S hS T b js (shapeCast S128x128 a shapeCasts_S1x128x128_S128x128) k

/-- Copy the first codes to the first two rows of the resulting ones. -/
def codesOut (C : Memref sig .tc .vmem S2x128x3584 .fp8e4m3) (O : Memref sig .tc .vmem S4x128x3584 .fp8e4m3) (hO : O.IsWhole)
    (k : PUnit → P F) : P F :=
  .op (.load C rW2.toLoadRect (View.loadsAt_vmem h_S2x128x3584)) fun x =>
  .op (.load O rD.toLoadRect (View.loadsAt_vmem h_S2x128x3584)) fun _ =>
  .op (.store O rD x Finset.univ (View.stores_vmem h_S2x128x3584 (hO.storeExact_slice rfl _ pkD) (fun _ => rfl)) (.inl rfl)) k

/-- The scales of rows `b`, turned over and cut to the blocks there are. -/
def scalePay (x : Vec F S1x128x128 .f32) : FVec F S28x1x128 .f32 :=
  shapeCast S28x1x128 (extractStridedSlice S28x128 ![0, 0] (transpose S128x128 [1, 0]
    (shapeCast S128x128 x shapeCasts_S1x128x128_S128x128) transposes_S128x128_p1_0_S128x128) slices_S128x128_o0_0_S28x128)
    shapeCasts_S28x128_S28x1x128

/-- Copy the scales of rows `b` of `T` to row `g` of the resulting ones. -/
def scaleOut (T : Memref sig .tc .vmem S2x128x128 .f32) (O : Memref sig .tc .vmem S28x4x128 .f32) (b : Fin 2) (g : Fin 4)
    (k : PUnit → P F) : P F :=
  .op (.load T (rT b).toLoadRect (View.loadsAt_vmem h_S1x128x128)) fun x =>
  .op (.load O (rG g).toLoadRect (View.loadsAt_vmem h_S28x1x128)) fun _ =>
  .op (.store O (rG g) (scalePay x) Finset.univ (View.stores_vmem_bits_univ h_S28x1x128 rfl) (.inl rfl)) k

/-- The projection onto 512 columns, scaled, with its bias, in bf16. -/
def yPay (xs : Vec F S256x3584 .bf16) (w : Vec F S3584x512 .fp8e4m3) (ws : Vec F S1x512 .f32) (bi : Vec F S1x512 .bf16) :
    FVec F S256x512 .bf16 :=
  truncf .bf16 (addf (mulf (matmul dot_S256x3584_S3584x512_S256x512_1_0_0_1_n_n none xs w (constant S256x512 .f32 0#32))
      (broadcastTo S256x512 (shapeCast S1x512 ws shapeCasts_S1x512_S1x512) broadcasts_S1x512_S256x512))
    (broadcastTo S256x512 (extf .f32 (shapeCast S1x512 bi shapeCasts_S1x512_S1x512) bitsLt_bf16_f32) broadcasts_S1x512_S256x512))
    bitsLt_bf16_f32

/-- Rows `b`, head `h` of a projection. -/
def cut (b : Fin 2) (h : Fin 4) (y : FVec F S256x512 .bf16) : FVec F S128x128 .bf16 :=
  extractStridedSlice S128x128 ![b.val * 128, h.val * 128] y (slY b h)

/-- Row `b` of half `g`. -/
abbrev rowOf (g b : Fin 2) : Fin 4 := ⟨g.val * 2 + b.val, by omega⟩

/-- Head `c` of tile `n` of the queries. -/
abbrev headOf (n : Fin 7) (c : Fin 4) : Fin 28 := ⟨n.val * 4 + c.val, by omega⟩

/-- Store the heads of a projection as queries. -/
def storesQ (O : Memref sig .tc .vmem S4x28x128x128 .bf16) (hO : O.IsWhole) (g : Fin 2) (n : Fin 7) (y : FVec F S256x512 .bf16) :
    List (Fin 4 × Fin 2) → (PUnit → P F) → PUnit → P F
  | [], k, u => k u
  | p :: ps, k, _ =>
      .op (.load O (rQ (rowOf g p.2) (headOf n p.1)).toLoadRect (View.loadsAt_vmem h_S1x1x128x128)) fun _ =>
      .op (.store O (rQ (rowOf g p.2) (headOf n p.1)) (shapeCast S1x1x128x128 (cut p.2 p.1 y) shapeCasts_S128x128_S1x1x128x128)
        Finset.univ (View.stores_vmem h_S1x1x128x128 (hO.storeExact_slice rfl _ (pkQ _ _)) (fun _ => rfl)) (.inl rfl)) fun u =>
      storesQ O hO g n y ps k u

/-- One head put in its place in its pair. -/
def pairPut (h : Fin 4) (v : FVec F S128x128 .bf16) (old : Vec F S1x128x2x128 .bf16) : Vec F S1x128x2x128 .bf16 :=
  updateSlice old (shapeCast S1x128x1x128 v shapeCasts_S128x128_S1x128x1x128) ![0, 0, h.val % 2, 0] (slK h)

/-- Store the heads of a projection as keys or values. -/
def storesK (O : Memref sig .tc .vmem S4x128x4x128 .bf16) (hO : O.IsWhole) (g : Fin 2) (y : FVec F S256x512 .bf16) :
    List (Fin 4 × Fin 2) → (PUnit → P F) → PUnit → P F
  | [], k, u => k u
  | p :: ps, k, _ =>
      .op (.load O (rK1 (rowOf g p.2) p.1).toLoadRect (View.loadsAt_vmem h_S1x128x1x128)) fun _ =>
      .op (.load O (rK2 (rowOf g p.2) p.1).toLoadRect (View.loadsAt_vmem h_S1x128x2x128)) fun old =>
      .op (.store O (rK2 (rowOf g p.2) p.1) (pairPut p.1 (cut p.2 p.1 y) old)
        Finset.univ (View.stores_vmem h_S1x128x2x128 (hO.storeExact_slice rfl _ (pkK2 _ _)) (fun _ => rfl)) (.inl rfl)) fun u =>
      storesK O hO g y ps k u

/-- The heads in the order they are stored. -/
abbrev heads : List (Fin 4 × Fin 2) := [(0, 0), (0, 1), (1, 0), (1, 1), (2, 0), (2, 1), (3, 0), (3, 1)]

/-- Project onto tile `n` and store by `ss`. -/
def project (S : Memref sig .tc .vmem S256x3584 .bf16) (W : Memref sig .tc .vmem S3584x4608 .fp8e4m3)
    (WS : Memref sig .tc .vmem S1x4608 .f32) (BI : Memref sig .tc .vmem S1x4608 .bf16) (n : Fin 9)
    (ss : FVec F S256x512 .bf16 → P F) : P F :=
  .op (.load S rW1.toLoadRect (View.loadsAt_vmem h_S256x3584)) fun xs =>
  .op (.load W (rWn n).toLoadRect (View.loadsAt_vmem h_S3584x512)) fun w =>
  .op (.load WS (rBn n).toLoadRect (View.loadsAt_vmem h_S1x512)) fun ws =>
  .op (.load BI (rBn n).toLoadRect (View.loadsAt_vmem h_S1x512)) fun bi => ss (yPay xs w ws bi)

end Cert.Kernel.Run

end
-- ==== Proof.WordActs.lean ====
/-
  The steps as functions of the contents, and that the programs of the steps do them.
-/
module

public import proofs.«01_k».proof.Proof.WordSteps

@[expose] public section

set_option maxRecDepth 16384

noncomputable section

namespace Cert.Kernel.Run

open Cert.Kernel Cert.Kernel.Facts₀
open Idealize.ShloMosaic Idealize.ShloMosaic.TcCoe Idealize.ShloMosaic.Tactic
open Idealize.SL Idealize.SL.RA Idealize.SL.BI
open Idealize.SL.Sem

variable {F : FTy → Type} [FloatOps F]

/-! ## What a step makes of an array -/

/-- The codes of the blocks `js` of rows `b` of `x` put into `C`. -/
def fillC (x : S2x128x3584.Idx → Elt F .bf16) (b : Fin 2) (js : List (Fin 28)) (C : S2x128x3584.Idx → Elt F .fp8e4m3) :
    S2x128x3584.Idx → Elt F .fp8e4m3 :=
  js.foldl (fun C j => st (rX b j) C (codesPay (ld (rX b j) x))) C

/-- The same put into rows `2 + b` of the resulting codes. -/
def fillO (x : S2x128x3584.Idx → Elt F .bf16) (b : Fin 2) (js : List (Fin 28)) (C : S4x128x3584.Idx → Elt F .fp8e4m3) :
    S4x128x3584.Idx → Elt F .fp8e4m3 :=
  js.foldl (fun C j => st (rC b j) C (codesPay (ld (rX b j) x))) C

/-- The scaled activations of those blocks put into `S`. -/
def fillS (x : S2x128x3584.Idx → Elt F .bf16) (b : Fin 2) (js : List (Fin 28)) (S : S256x3584.Idx → Elt F .bf16) :
    S256x3584.Idx → Elt F .bf16 :=
  js.foldl (fun S j => st (rS b j) S (xsPay (ld (rX b j) x))) S

/-- The scales of those blocks put into the lanes of `acc`. -/
def accs (x : S2x128x3584.Idx → Elt F .bf16) (b : Fin 2) (js : List (Fin 28)) (acc : FVec F S128x128 .f32) : FVec F S128x128 .f32 :=
  js.foldl (fun acc j => accPay j.val (ld (rX b j) x) acc) acc

/-- And from rows `b` of `T` back to them. -/
def fillT (x : S2x128x3584.Idx → Elt F .bf16) (b : Fin 2) (js : List (Fin 28)) (T : S2x128x128.Idx → Elt F .f32) :
    S2x128x128.Idx → Elt F .f32 :=
  st (rT b) T (shapeCast S1x128x128 (accs x b js (shapeCast S128x128 (ld (rT b) T) shapeCasts_S1x128x128_S128x128))
    shapeCasts_S128x128_S1x128x128)

/-- Tile `n` of the projection of `xs`. -/
def tile (xs : S256x3584.Idx → Elt F .bf16) (w : S3584x4608.Idx → Elt F .fp8e4m3) (ws : S1x4608.Idx → Elt F .f32)
    (bi : S1x4608.Idx → Elt F .bf16) (n : Fin 9) : FVec F S256x512 .bf16 :=
  yPay (ld rW1 xs) (ld (rWn n) w) (ld (rBn n) ws) (ld (rBn n) bi)

/-- The heads of a tile put into the queries. -/
def fillQ (g : Fin 2) (n : Fin 7) (y : FVec F S256x512 .bf16) (ps : List (Fin 4 × Fin 2)) (O : S4x28x128x128.Idx → Elt F .bf16) :
    S4x28x128x128.Idx → Elt F .bf16 :=
  ps.foldl (fun O p => st (rQ (rowOf g p.2) (headOf n p.1)) O (shapeCast S1x1x128x128 (cut p.2 p.1 y) shapeCasts_S128x128_S1x1x128x128)) O

/-- The heads of a tile put into the keys or values. -/
def fillK (g : Fin 2) (y : FVec F S256x512 .bf16) (ps : List (Fin 4 × Fin 2)) (O : S4x128x4x128.Idx → Elt F .bf16) :
    S4x128x4x128.Idx → Elt F .bf16 :=
  ps.foldl (fun O p => st (rK2 (rowOf g p.2) p.1) O (pairPut p.1 (cut p.2 p.1 y) (ld (rK2 (rowOf g p.2) p.1) O))) O

theorem fillQ_cons (g : Fin 2) (n : Fin 7) (y : FVec F S256x512 .bf16) (p : Fin 4 × Fin 2) (ps : List (Fin 4 × Fin 2))
    (O : S4x28x128x128.Idx → Elt F .bf16) : fillQ g n y (p :: ps) O = fillQ g n y ps
      (st (rQ (rowOf g p.2) (headOf n p.1)) O (shapeCast S1x1x128x128 (cut p.2 p.1 y) shapeCasts_S128x128_S1x1x128x128)) := by
  unfold fillQ; rw [List.foldl_cons]

theorem fillK_cons (g : Fin 2) (y : FVec F S256x512 .bf16) (p : Fin 4 × Fin 2) (ps : List (Fin 4 × Fin 2))
    (O : S4x128x4x128.Idx → Elt F .bf16) : fillK g y (p :: ps) O = fillK g y ps
      (st (rK2 (rowOf g p.2) p.1) O (pairPut p.1 (cut p.2 p.1 y) (ld (rK2 (rowOf g p.2) p.1) O))) := by
  unfold fillK; rw [List.foldl_cons]

/-! ## The steps -/

/-- The body's steps: quantise blocks of rows `b` (of the first block of activations, of the next point's first half,
    of this point's second half), copy the codes, copy the scales of rows `b`, project a tile of half `g`. -/
inductive Act
  | q0 (b : Fin 2) (js : List (Fin 28))
  | qa (b : Fin 2) (js : List (Fin 28))
  | qb (b : Fin 2) (js : List (Fin 28))
  | cOut
  | sa (b : Fin 2)
  | sb (b : Fin 2)
  | pa (n : Fin 7)
  | pak
  | pav
  | pb (n : Fin 7)
  | pbk
  | pbv

/-- The tile of the queries as one of all. -/
abbrev up (n : Fin 7) : Fin 9 := ⟨n.val, by omega⟩

/-- What a step does to the contents. -/
def exec : Act → St F → St F
  | .q0 b js, σ => { σ with ca := fillC σ.x0 b js σ.ca, xsa := fillS σ.x0 b js σ.xsa, sta := fillT σ.x0 b js σ.sta }
  | .qa b js, σ => { σ with ca := fillC σ.xa b js σ.ca, xsa := fillS σ.xa b js σ.xsa, sta := fillT σ.xa b js σ.sta }
  | .qb b js, σ => { σ with codes := fillO σ.xb b js σ.codes, xsb := fillS σ.xb b js σ.xsb, stb := fillT σ.xb b js σ.stb }
  | .cOut, σ => { σ with codes := st rD σ.codes (ld rW2 σ.ca) }
  | .sa b, σ => { σ with scale := st (rG (rowOf 0 b)) σ.scale (scalePay (ld (rT b) σ.sta)) }
  | .sb b, σ => { σ with scale := st (rG (rowOf 1 b)) σ.scale (scalePay (ld (rT b) σ.stb)) }
  | .pa n, σ => { σ with q := fillQ 0 n (tile σ.xsa σ.w σ.ws σ.bi (up n)) heads σ.q }
  | .pak, σ => { σ with k := fillK 0 (tile σ.xsa σ.w σ.ws σ.bi 7) heads σ.k }
  | .pav, σ => { σ with v := fillK 0 (tile σ.xsa σ.w σ.ws σ.bi 8) heads σ.v }
  | .pb n, σ => { σ with q := fillQ 1 n (tile σ.xsb σ.w σ.ws σ.bi (up n)) heads σ.q }
  | .pbk, σ => { σ with k := fillK 1 (tile σ.xsb σ.w σ.ws σ.bi 7) heads σ.k }
  | .pbv, σ => { σ with v := fillK 1 (tile σ.xsb σ.w σ.ws σ.bi 8) heads σ.v }

/-- What a list of steps does, the first one first. -/
def execs (L : List Act) (σ : St F) : St F := L.foldl (fun σ a => exec a σ) σ

variable (B : Bufs) (c : Dev nD)

/-- The program does the steps from any contents. -/
def Does (L : List Act) (p : P F) : Prop := ∀ σ, Runs B c σ p (execs L σ)

variable {B c}

/-- One step, then the others. -/
theorem does_step {a : Act} {L : List Act} {p : P F} {k : PUnit → P F}
    (hp : ∀ σ ρ, Runs B c (exec a σ) (k ⟨⟩) ρ → Runs B c σ p ρ) (h : ∀ u, Does B c L (k u)) : Does B c (a :: L) p :=
  fun σ => hp σ _ (h ⟨⟩ _)

/-- A finished program does nothing. -/
theorem does_nil : Does B c [] (.ret ⟨⟩ : P F) := fun σ 𝒱 Q hQ => hQ.trans (by rw [Idealize.SL.Sem.wp_ret]; exact fupd_intro)

theorem runs_quantA (X : Slot F B c S2x128x3584 .bf16) (x : S2x128x3584.Idx → Elt F .bf16)
    (hX : ∀ (σ : St F) C D, X.get { σ with ca := C, xsa := D } = X.get σ) (b : Fin 2) (js : List (Fin 28)) :
    ∀ (acc : FVec F S128x128 .f32) (k : PUnit → P F) (σ ρ : St F), X.get σ = x →
      Runs B c { σ with ca := fillC x b js σ.ca, xsa := fillS x b js σ.xsa, sta := st (rT b) σ.sta (shapeCast S1x128x128 (accs x b js acc) shapeCasts_S128x128_S1x128x128) } (k ⟨⟩) ρ →
      Runs B c σ (quantA X.m B.a14 B.h14 B.a12 B.h12 B.a15 b js acc k) ρ := by
  induction js with
  | nil =>
    intro acc k σ ρ hx h
    exact runs_load (ssta F B c) (runs_store (ssta F B c) h)
  | cons j js ih =>
    intro acc k σ ρ hx h
    subst hx
    refine runs_load X (runs_load (sca F B c) (runs_store (sca F B c) (runs_load (sxsa F B c) (runs_store (sxsa F B c) ?_))))
    exact ih _ _ _ _ (hX σ _ _) h

theorem runs_quantB (x : S2x128x3584.Idx → Elt F .bf16) (b : Fin 2) (js : List (Fin 28)) :
    ∀ (acc : FVec F S128x128 .f32) (k : PUnit → P F) (σ ρ : St F), σ.xb = x →
      Runs B c { σ with codes := fillO x b js σ.codes, xsb := fillS x b js σ.xsb, stb := st (rT b) σ.stb (shapeCast S1x128x128 (accs x b js acc) shapeCasts_S128x128_S1x128x128) } (k ⟨⟩) ρ →
      Runs B c σ (quantB B.a3 B.a10 B.h10 B.a13 B.h13 B.a16 b js acc k) ρ := by
  induction js with
  | nil =>
    intro acc k σ ρ hx h
    exact runs_load (sstb F B c) (runs_store (sstb F B c) h)
  | cons j js ih =>
    intro acc k σ ρ hx h
    subst hx
    refine runs_load (sxb F B c) (runs_dead (scodes F B c) fun _ => runs_store (scodes F B c)
      (runs_load (sxsb F B c) (runs_store (sxsb F B c) ?_)))
    exact ih _ _ _ _ rfl h

theorem does_q0 (b : Fin 2) (js : List (Fin 28)) {L : List Act} {k : PUnit → P F} (h : ∀ u, Does B c L (k u)) :
    Does B c (.q0 b js :: L) (groupA B.a1 B.a14 B.h14 B.a12 B.h12 B.a15 b js k) :=
  does_step (fun σ ρ h' =>   runs_load (ssta F B c) (runs_quantA (sx0 F B c) σ.x0 (fun _ _ _ => rfl) b js _ _ _ _ rfl h')) h

theorem does_qa (b : Fin 2) (js : List (Fin 28)) {L : List Act} {k : PUnit → P F} (h : ∀ u, Does B c L (k u)) :
    Does B c (.qa b js :: L) (groupA B.a2 B.a14 B.h14 B.a12 B.h12 B.a15 b js k) :=
  does_step (fun σ ρ h' =>   runs_load (ssta F B c) (runs_quantA (sxa F B c) σ.xa (fun _ _ _ => rfl) b js _ _ _ _ rfl h')) h

theorem does_qb (b : Fin 2) (js : List (Fin 28)) {L : List Act} {k : PUnit → P F} (h : ∀ u, Does B c L (k u)) :
    Does B c (.qb b js :: L) (groupB B.a3 B.a10 B.h10 B.a13 B.h13 B.a16 b js k) :=
  does_step (fun σ ρ h' =>   runs_load (sstb F B c) (runs_quantB σ.xb b js _ _ _ _ rfl h')) h

theorem does_cOut {L : List Act} {k : PUnit → P F} (h : ∀ u, Does B c L (k u)) :
    Does B c (.cOut :: L) (codesOut B.a14 B.a10 B.h10 k) :=
  does_step (fun σ ρ h' =>   runs_load (sca F B c) (runs_load (scodes F B c) (runs_store (scodes F B c) h'))) h

theorem does_sa (b : Fin 2) {L : List Act} {k : PUnit → P F} (h : ∀ u, Does B c L (k u)) :
    Does B c (.sa b :: L) (scaleOut B.a15 B.a11 b (rowOf 0 b) k) :=
  does_step (fun σ ρ h' =>   runs_load (ssta F B c) (runs_load (sscale F B c) (runs_store (sscale F B c) h'))) h

theorem does_sb (b : Fin 2) {L : List Act} {k : PUnit → P F} (h : ∀ u, Does B c L (k u)) :
    Does B c (.sb b :: L) (scaleOut B.a16 B.a11 b (rowOf 1 b) k) :=
  does_step (fun σ ρ h' =>   runs_load (sstb F B c) (runs_load (sscale F B c) (runs_store (sscale F B c) h'))) h

theorem runs_storesQ (g : Fin 2) (n : Fin 7) (y : FVec F S256x512 .bf16) (ps : List (Fin 4 × Fin 2)) :
    ∀ (k : PUnit → P F) (u : PUnit) (σ ρ : St F), Runs B c { σ with q := fillQ g n y ps σ.q } (k ⟨⟩) ρ →
      Runs B c σ (storesQ B.a7 B.h7 g n y ps k u) ρ := by
  induction ps with
  | nil => intro k u σ ρ h; exact h
  | cons p ps ih =>
    intro k u σ ρ h
    rw [fillQ_cons] at h
    refine runs_load (sq F B c) (runs_store (sq F B c) ?_)
    exact ih k ⟨⟩ _ ρ h

theorem runs_storesK (O : Slot F B c S4x128x4x128 .bf16) (hO : O.m.IsWhole)
    (hs : ∀ σ X Y, O.set (O.set σ X) Y = O.set σ Y) (hg : ∀ σ X, O.get (O.set σ X) = X)
    (g : Fin 2) (y : FVec F S256x512 .bf16) (ps : List (Fin 4 × Fin 2)) :
    ∀ (k : PUnit → P F) (u : PUnit) (σ ρ : St F), Runs B c (O.set σ (fillK g y ps (O.get σ))) (k ⟨⟩) ρ →
      Runs B c σ (storesK O.m hO g y ps k u) ρ := by
  induction ps with
  | nil =>
    intro k u σ ρ h
    have e : O.set σ (fillK g y [] (O.get σ)) = σ := O.set_get σ
    rw [e] at h; exact h
  | cons p ps ih =>
    intro k u σ ρ h
    rw [fillK_cons] at h
    refine runs_load O (runs_load O (runs_store O ?_))
    refine ih k ⟨⟩ _ ρ ?_
    rw [hs, hg]; exact h

/-- A projection whose heads are stored as queries, from the scaled activations `S`. -/
def projQ (S : Memref sig .tc .vmem S256x3584 .bf16) (B : Bufs) (g : Fin 2) (n : Fin 7) (k : PUnit → P F) : P F :=
  project S B.a4 B.a5 B.a6 (up n) fun y => storesQ B.a7 B.h7 g n y heads k ⟨⟩

/-- A projection whose heads are stored as keys or values. -/
def projK (S : Memref sig .tc .vmem S256x3584 .bf16) (B : Bufs) (O : Memref sig .tc .vmem S4x128x4x128 .bf16) (hO : O.IsWhole)
    (g : Fin 2) (n : Fin 9) (k : PUnit → P F) : P F :=
  project S B.a4 B.a5 B.a6 n fun y => storesK O hO g y heads k ⟨⟩

theorem does_pa (n : Fin 7) {L : List Act} {k : PUnit → P F} (h : ∀ u, Does B c L (k u)) :
    Does B c (.pa n :: L) (projQ B.a12 B 0 n k) :=
  does_step (fun σ ρ h' =>   runs_load (sxsa F B c) (runs_load (sw F B c) (runs_load (sws F B c) (runs_load (sbi F B c)
    (runs_storesQ 0 n _ heads _ _ _ _ h'))))) h

theorem does_pb (n : Fin 7) {L : List Act} {k : PUnit → P F} (h : ∀ u, Does B c L (k u)) :
    Does B c (.pb n :: L) (projQ B.a13 B 1 n k) :=
  does_step (fun σ ρ h' =>   runs_load (sxsb F B c) (runs_load (sw F B c) (runs_load (sws F B c) (runs_load (sbi F B c)
    (runs_storesQ 1 n _ heads _ _ _ _ h'))))) h

theorem does_pak {L : List Act} {k : PUnit → P F} (h : ∀ u, Does B c L (k u)) :
    Does B c (.pak :: L) (projK B.a12 B B.a8 B.h8 0 7 k) :=
  does_step (fun σ ρ h' =>   runs_load (sxsa F B c) (runs_load (sw F B c) (runs_load (sws F B c) (runs_load (sbi F B c)
    (runs_storesK (sk F B c) B.h8 (fun _ _ _ => rfl) (fun _ _ => rfl) 0 _ heads _ _ _ _ h'))))) h

theorem does_pav {L : List Act} {k : PUnit → P F} (h : ∀ u, Does B c L (k u)) :
    Does B c (.pav :: L) (projK B.a12 B B.a9 B.h9 0 8 k) :=
  does_step (fun σ ρ h' =>   runs_load (sxsa F B c) (runs_load (sw F B c) (runs_load (sws F B c) (runs_load (sbi F B c)
    (runs_storesK (sv F B c) B.h9 (fun _ _ _ => rfl) (fun _ _ => rfl) 0 _ heads _ _ _ _ h'))))) h

theorem does_pbk {L : List Act} {k : PUnit → P F} (h : ∀ u, Does B c L (k u)) :
    Does B c (.pbk :: L) (projK B.a13 B B.a8 B.h8 1 7 k) :=
  does_step (fun σ ρ h' =>   runs_load (sxsb F B c) (runs_load (sw F B c) (runs_load (sws F B c) (runs_load (sbi F B c)
    (runs_storesK (sk F B c) B.h8 (fun _ _ _ => rfl) (fun _ _ => rfl) 1 _ heads _ _ _ _ h'))))) h

theorem does_pbv {L : List Act} {k : PUnit → P F} (h : ∀ u, Does B c L (k u)) :
    Does B c (.pbv :: L) (projK B.a13 B B.a9 B.h9 1 8 k) :=
  does_step (fun σ ρ h' =>   runs_load (sxsb F B c) (runs_load (sw F B c) (runs_load (sws F B c) (runs_load (sbi F B c)
    (runs_storesK (sv F B c) B.h9 (fun _ _ _ => rfl) (fun _ _ => rfl) 1 _ heads _ _ _ _ h'))))) h

end Cert.Kernel.Run

end
-- ==== Proof.WordWalk.lean ====
/-
  The printed body is the steps, one after another.
-/
module

public import proofs.«01_k».proof.Proof.WordActs

@[expose] public section

set_option maxRecDepth 16384

noncomputable section

namespace Cert.Kernel.Run

open Cert.Kernel Cert.Kernel.Facts₀
open Idealize.ShloMosaic Idealize.ShloMosaic.TcCoe Idealize.ShloMosaic.Tactic
open Idealize.SL Idealize.SL.RA Idealize.SL.BI
open Idealize.SL.Sem

variable {F : FTy → Type} [FloatOps F] {B : Bufs} {c : Dev nD}

/-- A choice at the head of the body, whose other side is what follows. -/
theorem does_dite {p : Prop} [Decidable p] {L L' : List Act} {β : Type} {t : p → Prog (TpuEff nD τ sig (Elt F) Λ₀ .tc) β}
    {e : Prog (TpuEff nD τ sig (Elt F) Λ₀ .tc) β} {f : β → P F} (he : Does B c L' (Prog.bind e f))
    (ht : Does B c L' (Prog.bind e f) → ∀ h : p, Does B c L (Prog.bind (t h) f)) :
    Does B c (if p then L else L') (Prog.bind (if h : p then t h else e) f) := by
  by_cases h : p
  · rw [if_pos h, dif_pos h]; exact ht he h
  · rw [if_neg h, dif_neg h]; exact he

/-- Binding twice in a row is binding once. -/
theorem does_assoc {L : List Act} {α β : Type} {a : Prog (TpuEff nD τ sig (Elt F) Λ₀ .tc) α}
    {g : α → Prog (TpuEff nD τ sig (Elt F) Λ₀ .tc) β} {f : β → P F} (h : Does B c L (Prog.bind a fun x => Prog.bind (g x) f)) :
    Does B c L (Prog.bind (Prog.bind a g) f) := by
  rw [show Prog.bind (Prog.bind a g) f = Prog.bind a fun x => Prog.bind (g x) f from bind_assoc a g f]; exact h

/-- The word that says whether the point is the first. -/
abbrev isFirst (i : grid0.Coords) : BitVec 1 :=
  Scalar.cmpi .ne (Scalar.extui (Scalar.cmpi .eq (BitVec.ofNat 32 (i 0).val) 0#32)) 0#32

/-- The four blocks quantised after tile `n`. -/
abbrev four (n : Fin 7) : List (Fin 28) := [headOf n 0, headOf n 1, headOf n 2, headOf n 3]

/-- The steps taken at the first point only: quantise its first half. -/
abbrev initActs : List Act := [.q0 0 (List.finRange 28), .q0 1 (List.finRange 28)]

/-- The steps of tile `n` of the first half, and of the second. -/
abbrev tileA (n : Fin 7) : List Act := [.pa n, .qb 0 (four n), .qb 1 (four n)]
abbrev tileB (n : Fin 7) : List Act := [.pb n, .qa 0 (four n), .qa 1 (four n)]

/-- The steps taken at every point. -/
abbrev bodyActs : List Act := [.cOut, .sa 0, .sa 1] ++ tileA 0 ++ tileA 1 ++ tileA 2 ++ tileA 3 ++ tileA 4 ++ tileA 5 ++ tileA 6
  ++ [.pak, .qb 0 [], .qb 1 [], .pav, .qb 0 [], .qb 1 [], .sb 0, .sb 1]
  ++ tileB 0 ++ tileB 1 ++ tileB 2 ++ tileB 3 ++ tileB 4 ++ tileB 5 ++ tileB 6
  ++ [.pbk, .qa 0 [], .qa 1 [], .pbv, .qa 0 [], .qa 1 []]

set_option maxHeartbeats 4000000 in
/-- The body at a point does its steps, and at the first point those of the first half before. -/
theorem does_body (i : grid0.Coords) :
    Does B c (if isFirst i = 1#1 then initActs ++ bodyActs else bodyActs) (cc0_qkv_fp8_block (F := F) i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16) := by
  refine does_assoc ?_
  refine does_dite ?_ ?_
  · refine does_cOut fun _ => does_sa 0 fun _ => does_sa 1 fun _ => ?_
    refine does_pa 0 fun _ => ?_
    refine does_qb 0 _ fun _ => ?_
    refine does_qb 1 _ fun _ => ?_
    refine does_pa 1 fun _ => ?_
    refine does_qb 0 _ fun _ => ?_
    refine does_qb 1 _ fun _ => ?_
    refine does_pa 2 fun _ => ?_
    refine does_qb 0 _ fun _ => ?_
    refine does_qb 1 _ fun _ => ?_
    refine does_pa 3 fun _ => ?_
    refine does_qb 0 _ fun _ => ?_
    refine does_qb 1 _ fun _ => ?_
    refine does_pa 4 fun _ => ?_
    refine does_qb 0 _ fun _ => ?_
    refine does_qb 1 _ fun _ => ?_
    refine does_pa 5 fun _ => ?_
    refine does_qb 0 _ fun _ => ?_
    refine does_qb 1 _ fun _ => ?_
    refine does_pa 6 fun _ => ?_
    refine does_qb 0 _ fun _ => ?_
    refine does_qb 1 _ fun _ => ?_
    refine does_pak fun _ => ?_
    refine does_qb 0 _ fun _ => ?_
    refine does_qb 1 _ fun _ => ?_
    refine does_pav fun _ => ?_
    refine does_qb 0 _ fun _ => ?_
    refine does_qb 1 _ fun _ => ?_
    refine does_sb 0 fun _ => ?_
    refine does_sb 1 fun _ => ?_
    refine does_pb 0 fun _ => ?_
    refine does_qa 0 _ fun _ => ?_
    refine does_qa 1 _ fun _ => ?_
    refine does_pb 1 fun _ => ?_
    refine does_qa 0 _ fun _ => ?_
    refine does_qa 1 _ fun _ => ?_
    refine does_pb 2 fun _ => ?_
    refine does_qa 0 _ fun _ => ?_
    refine does_qa 1 _ fun _ => ?_
    refine does_pb 3 fun _ => ?_
    refine does_qa 0 _ fun _ => ?_
    refine does_qa 1 _ fun _ => ?_
    refine does_pb 4 fun _ => ?_
    refine does_qa 0 _ fun _ => ?_
    refine does_qa 1 _ fun _ => ?_
    refine does_pb 5 fun _ => ?_
    refine does_qa 0 _ fun _ => ?_
    refine does_qa 1 _ fun _ => ?_
    refine does_pb 6 fun _ => ?_
    refine does_qa 0 _ fun _ => ?_
    refine does_qa 1 _ fun _ => ?_
    refine does_pbk fun _ => ?_
    refine does_qa 0 _ fun _ => ?_
    refine does_qa 1 _ fun _ => ?_
    refine does_pbv fun _ => ?_
    refine does_qa 0 _ fun _ => ?_
    refine does_qa 1 _ fun _ => ?_
    exact does_nil
  · intro he _
    refine does_q0 0 _ fun _ => ?_
    refine does_q0 1 _ fun _ => ?_
    exact he

end Cert.Kernel.Run

end
-- ==== Proof.WordEffect.lean ====
/-
  What the body's steps make of the contents: every element of the results and of the scratch arrays as a function of
  the inputs.
-/
module

public import proofs.«01_k».proof.Proof.WordWalk
public import Idealize.ShloMosaic.Lib.Pointwise

@[expose] public section

set_option maxRecDepth 16384

noncomputable section

namespace Cert.Kernel.Run

open Cert.Kernel Cert.Kernel.Facts₀
open Idealize.ShloMosaic Idealize.ShloMosaic.TcCoe Idealize.ShloMosaic.Tactic
open Idealize.ShloMosaic.Pointwise

variable {F : FTy → Type} [FloatOps F]

/-- A property that each step keeps, and that some step establishes, holds after all the steps. -/
theorem chain_or {α ι : Type} {f : α → ι → α} {P : α → Prop} {hit : ι → Prop} (h : ∀ X i, hit i ∨ P X → P (f X i)) :
    ∀ (gs : List ι) (X : α), (∃ g ∈ gs, hit g) ∨ P X → P (gs.foldl f X)
  | [], X, h' => by
    rcases h' with ⟨g, hg, _⟩ | h'
    · cases hg
    · exact h'
  | g :: gs, X, h' => by
    rw [List.foldl_cons]
    refine chain_or h gs _ ?_
    rcases h' with ⟨g', hg, hh⟩ | h'
    · rcases List.mem_cons.mp hg with rfl | hg
      · exact .inr (h _ _ (.inl hh))
      · exact .inl ⟨g', hg, hh⟩
    · exact .inr (h _ _ (.inr h'))

/-- A store puts the payload's element at `y`, or leaves what was there. -/
theorem st_or {s : Shape} {α : Type} (r : Rect s) (X : s.Idx → α) (w : r.shape.Idx → α) (y : s.Idx) (v : α)
    (hw : ∀ x, r.emb x = y → w x = v) (h : (∃ x, r.emb x = y) ∨ X y = v) : st r X w y = v := by
  by_cases hy : ∃ x, r.emb x = y
  · obtain ⟨x, hx⟩ := hy
    rw [st_hit r X w x y hx]; exact hw x hx
  · rw [st_miss r X w y (by simpa using hy)]
    exact h.resolve_left hy

/-! ## The groups of blocks -/

/-- The groups of blocks the body quantises, in order. -/
abbrev order : List (Fin 2 × List (Fin 28)) :=
  [(0, four 0), (1, four 0), (0, four 1), (1, four 1), (0, four 2), (1, four 2), (0, four 3), (1, four 3), (0, four 4), (1, four 4),
    (0, four 5), (1, four 5), (0, four 6), (1, four 6), (0, []), (1, []), (0, []), (1, [])]

/-- The groups the first point quantises before. -/
abbrev order0 : List (Fin 2 × List (Fin 28)) := [(0, List.finRange 28), (1, List.finRange 28)]

/-- Every block of both rows is in some group. -/
theorem order_all : ∀ (b : Fin 2) (j : Fin 28), ∃ g ∈ order, g.1 = b ∧ j ∈ g.2 := by decide
theorem order0_all : ∀ (b : Fin 2) (j : Fin 28), ∃ g ∈ order0, g.1 = b ∧ j ∈ g.2 := by
  intro b j
  refine ⟨(b, List.finRange 28), ?_, rfl, List.mem_finRange j⟩
  fin_cases b <;> simp

/-! ## What the arrays come to hold -/

/-- Block `j` of rows `b`. -/
abbrev blk (x : S2x128x3584.Idx → Elt F .bf16) (b : Fin 2) (j : Fin 28) : Vec F S1x128x128 .bf16 := ld (rX b j) x

/-- The block a column is of, and its place there; the half a line is of, and its row there. -/
abbrev bk (n : Fin 3584) : Fin 28 := ⟨n.val / 128, by omega⟩
abbrev ln (n : Nat) : Fin 128 := ⟨n % 128, by omega⟩
abbrev hf (n : Fin 256) : Fin 2 := ⟨n.val / 128, by omega⟩

/-- The codes of an array of two halves. -/
def specC (x : S2x128x3584.Idx → Elt F .bf16) : S2x128x3584.Idx → Elt F .fp8e4m3 := fun y =>
  codesPay (blk x (y 0) (bk (y 2))) (ix3 (n0 := 1) (n1 := 128) (n2 := 128) 0 (y 1) (ln (y 2).val))

/-- Its scaled activations, the halves one under the other. -/
def specS (x : S2x128x3584.Idx → Elt F .bf16) : S256x3584.Idx → Elt F .bf16 := fun y =>
  xsPay (blk x (hf (y 0)) (bk (y 1))) (ix2 (n0 := 128) (n1 := 128) (ln (y 0).val) (ln (y 1).val))

/-- Its scales. -/
def specT (x : S2x128x3584.Idx → Elt F .bf16) (b : Fin 2) (j : Fin 28) (r : Fin 128) : Elt F .f32 :=
  scales (blk x b j) (ix2 (n0 := 128) (n1 := 1) r 0)

/-- The resulting codes: `C` for the first two rows, then those of `x`. -/
def specO (C : S2x128x3584.Idx → Elt F .fp8e4m3) (x : S2x128x3584.Idx → Elt F .bf16) : S4x128x3584.Idx → Elt F .fp8e4m3 := fun y =>
  if h : (y 0).val < 2 then C (ix3 (n0 := 2) (n1 := 128) (n2 := 3584) ⟨(y 0).val, h⟩ (y 1) (y 2))
  else specC x (ix3 (n0 := 2) (n1 := 128) (n2 := 3584) ⟨(y 0).val - 2, by have := (y 0).isLt; change (y 0).val < 4 at this; omega⟩ (y 1) (y 2))

/-- The groups' codes put into `C`, their scaled activations into `S`, their scales into `T`. -/
def chainC (x : S2x128x3584.Idx → Elt F .bf16) (gs : List (Fin 2 × List (Fin 28))) (C : S2x128x3584.Idx → Elt F .fp8e4m3) :
    S2x128x3584.Idx → Elt F .fp8e4m3 := gs.foldl (fun C g => fillC x g.1 g.2 C) C
def chainO (x : S2x128x3584.Idx → Elt F .bf16) (gs : List (Fin 2 × List (Fin 28))) (C : S4x128x3584.Idx → Elt F .fp8e4m3) :
    S4x128x3584.Idx → Elt F .fp8e4m3 := gs.foldl (fun C g => fillO x g.1 g.2 C) C
def chainS (x : S2x128x3584.Idx → Elt F .bf16) (gs : List (Fin 2 × List (Fin 28))) (S : S256x3584.Idx → Elt F .bf16) :
    S256x3584.Idx → Elt F .bf16 := gs.foldl (fun S g => fillS x g.1 g.2 S) S
def chainT (x : S2x128x3584.Idx → Elt F .bf16) (gs : List (Fin 2 × List (Fin 28))) (T : S2x128x128.Idx → Elt F .f32) :
    S2x128x128.Idx → Elt F .f32 := gs.foldl (fun T g => fillT x g.1 g.2 T) T

/-- A store of what `G` says everywhere of its rectangle keeps `G`'s element where it was, and puts it where it stores. -/
theorem st_spec {s : Shape} {α : Type} (r : Rect s) (X G : s.Idx → α) (w : r.shape.Idx → α) (y : s.Idx)
    (hw : ∀ x, w x = G (r.emb x)) (h : (∃ x, r.emb x = y) ∨ X y = G y) : st r X w y = G y :=
  st_or r X w y (G y) (fun x hx => by rw [hw, hx]) h

/-- What is stored of block `j` of rows `b` is what the array's own codes are there. -/
theorem specC_at (x : S2x128x3584.Idx → Elt F .bf16) (b : Fin 2) (j : Fin 28) (z : S1x128x128.Idx) (y : S2x128x3584.Idx)
    (h0 : (y 0).val = b.val) (h1 : (y 1).val = (z 1).val) (h2 : (y 2).val = j.val * 128 + (z 2).val) :
    codesPay (blk x b j) z = specC x y := by
  have hz2 : (z 2).val < 128 := (z 2).isLt
  unfold specC
  have e0 : y 0 = b := Fin.ext h0
  have e2 : bk (y 2) = j := Fin.ext (by show (y 2).val / 128 = j.val; omega)
  rw [e0, e2]
  congr 1
  funext a
  match a with
  | ⟨0, _⟩ => exact Subsingleton.elim (α := Fin 1) _ _
  | ⟨1, _⟩ => exact Fin.ext h1.symm
  | ⟨2, _⟩ => exact Fin.ext (by show (z 2).val = (y 2).val % 128; omega)

theorem specS_at (x : S2x128x3584.Idx → Elt F .bf16) (b : Fin 2) (j : Fin 28) (z : S128x128.Idx) (y : S256x3584.Idx)
    (h0 : (y 0).val = b.val * 128 + (z 0).val) (h1 : (y 1).val = j.val * 128 + (z 1).val) :
    xsPay (blk x b j) z = specS x y := by
  have hz0 : (z 0).val < 128 := (z 0).isLt
  have hz1 : (z 1).val < 128 := (z 1).isLt
  unfold specS
  have e0 : hf (y 0) = b := Fin.ext (by show (y 0).val / 128 = b.val; omega)
  have e2 : bk (y 1) = j := Fin.ext (by show (y 1).val / 128 = j.val; omega)
  rw [e0, e2]
  congr 1
  funext a
  match a with
  | ⟨0, _⟩ => exact Fin.ext (by show (z 0).val = (y 0).val % 128; omega)
  | ⟨1, _⟩ => exact Fin.ext (by show (z 1).val = (y 1).val % 128; omega)

/-- Steps that keep or establish `G y` one by one keep or establish it together. -/
theorem fold_spec {s : Shape} {α ι : Type} {f : (s.Idx → α) → ι → (s.Idx → α)} (G : s.Idx → α) (y : s.Idx) (hit : ι → Prop)
    (h : ∀ X i, hit i ∨ X y = G y → f X i y = G y) (gs : List ι) (X : s.Idx → α) (h' : (∃ g ∈ gs, hit g) ∨ X y = G y) :
    gs.foldl f X y = G y :=
  chain_or (P := fun X => X y = G y) (hit := hit) h gs X h'

theorem fillC_spec (x : S2x128x3584.Idx → Elt F .bf16) (b : Fin 2) (js : List (Fin 28)) (C : S2x128x3584.Idx → Elt F .fp8e4m3)
    (y : S2x128x3584.Idx) (h : (b = y 0 ∧ bk (y 2) ∈ js) ∨ C y = specC x y) : fillC x b js C y = specC x y := by
  unfold fillC
  refine fold_spec (specC x) y (fun j => b = y 0 ∧ j = bk (y 2)) (fun C j hj => ?_) js C ?_
  · refine st_spec (rX b j) C (specC x) _ y (fun z => specC_at x b j z _ ?_ ?_ ?_) ?_
    · show b.val + 1 * (z 0).val = b.val
      have z0 : (z 0).val < 1 := (z 0).isLt
      omega
    · show 0 + 1 * (z 1).val = (z 1).val; omega
    · show j.val * 128 + 1 * (z 2).val = _; omega
    · rcases hj with ⟨h0, h2⟩ | hj
      · refine .inl ⟨ix3 (n0 := 1) (n1 := 128) (n2 := 128) 0 (y 1) (ln (y 2).val), ?_⟩
        subst h0 h2
        funext a
        match a with
        | ⟨0, _⟩ => exact Fin.ext (by show (y 0).val + 1 * 0 = (y 0).val; omega)
        | ⟨1, _⟩ => exact Fin.ext (by show 0 + 1 * (y 1).val = (y 1).val; omega)
        | ⟨2, _⟩ => exact Fin.ext (by show (y 2).val / 128 * 128 + 1 * ((y 2).val % 128) = (y 2).val; omega)
      · exact .inr hj
  · rcases h with ⟨h1, h2⟩ | h1
    · exact .inl ⟨_, h2, h1, rfl⟩
    · exact .inr h1

theorem fillO_spec (D : S2x128x3584.Idx → Elt F .fp8e4m3) (x : S2x128x3584.Idx → Elt F .bf16) (b : Fin 2) (js : List (Fin 28))
    (C : S4x128x3584.Idx → Elt F .fp8e4m3) (y : S4x128x3584.Idx)
    (h : (2 + b.val = (y 0).val ∧ bk (y 2) ∈ js) ∨ C y = specO D x y) : fillO x b js C y = specO D x y := by
  unfold fillO
  refine fold_spec (specO D x) y (fun j => 2 + b.val = (y 0).val ∧ j = bk (y 2)) (fun C j hj => ?_) js C ?_
  · refine st_spec (rC b j) C (specO D x) _ y (fun z => ?_) ?_
    · have z0 : (z 0).val < 1 := (z 0).isLt
      unfold specO
      rw [dif_neg (show ¬ ((rC b j).emb z 0).val < 2 by show ¬ 2 + b.val + 1 * (z 0).val < 2; omega)]
      refine specC_at x b j z _ ?_ ?_ ?_
      · show 2 + b.val + 1 * (z 0).val - 2 = b.val; omega
      · show 0 + 1 * (z 1).val = (z 1).val; omega
      · show j.val * 128 + 1 * (z 2).val = _; omega
    · rcases hj with ⟨h0, h2⟩ | hj
      · refine .inl ⟨ix3 (n0 := 1) (n1 := 128) (n2 := 128) 0 (y 1) (ln (y 2).val), ?_⟩
        subst h2
        funext a
        match a with
        | ⟨0, _⟩ => exact Fin.ext (by show 2 + b.val + 1 * 0 = (y 0).val; omega)
        | ⟨1, _⟩ => exact Fin.ext (by show 0 + 1 * (y 1).val = (y 1).val; omega)
        | ⟨2, _⟩ => exact Fin.ext (by show (y 2).val / 128 * 128 + 1 * ((y 2).val % 128) = (y 2).val; omega)
      · exact .inr hj
  · rcases h with ⟨h1, h2⟩ | h1
    · exact .inl ⟨_, h2, h1, rfl⟩
    · exact .inr h1

theorem fillS_spec (x : S2x128x3584.Idx → Elt F .bf16) (b : Fin 2) (js : List (Fin 28)) (S : S256x3584.Idx → Elt F .bf16)
    (y : S256x3584.Idx) (h : (b = hf (y 0) ∧ bk (y 1) ∈ js) ∨ S y = specS x y) : fillS x b js S y = specS x y := by
  unfold fillS
  refine fold_spec (specS x) y (fun j => b = hf (y 0) ∧ j = bk (y 1)) (fun C j hj => ?_) js S ?_
  · refine st_spec (rS b j) C (specS x) _ y (fun z => specS_at x b j z _ ?_ ?_) ?_
    · show b.val * 128 + 1 * (z 0).val = b.val * 128 + (z 0).val; omega
    · show j.val * 128 + 1 * (z 1).val = j.val * 128 + (z 1).val; omega
    · rcases hj with ⟨h0, h2⟩ | hj
      · refine .inl ⟨ix2 (n0 := 128) (n1 := 128) (ln (y 0).val) (ln (y 1).val), ?_⟩
        subst h0 h2
        funext a
        match a with
        | ⟨0, _⟩ => exact Fin.ext (by show (y 0).val / 128 * 128 + 1 * ((y 0).val % 128) = (y 0).val; omega)
        | ⟨1, _⟩ => exact Fin.ext (by show (y 1).val / 128 * 128 + 1 * ((y 1).val % 128) = (y 1).val; omega)
      · exact .inr hj
  · rcases h with ⟨h1, h2⟩ | h1
    · exact .inl ⟨_, h2, h1, rfl⟩
    · exact .inr h1

theorem chainC_spec (x : S2x128x3584.Idx → Elt F .bf16) (gs : List (Fin 2 × List (Fin 28)))
    (hg : ∀ (b : Fin 2) (j : Fin 28), ∃ g ∈ gs, g.1 = b ∧ j ∈ g.2) (C : S2x128x3584.Idx → Elt F .fp8e4m3) : chainC x gs C = specC x := by
  funext y
  unfold chainC
  exact fold_spec (specC x) y (fun g => g.1 = y 0 ∧ bk (y 2) ∈ g.2) (fun C g => fillC_spec x g.1 g.2 C y) gs C (.inl (hg _ _))

theorem chainS_spec (x : S2x128x3584.Idx → Elt F .bf16) (gs : List (Fin 2 × List (Fin 28)))
    (hg : ∀ (b : Fin 2) (j : Fin 28), ∃ g ∈ gs, g.1 = b ∧ j ∈ g.2) (S : S256x3584.Idx → Elt F .bf16) : chainS x gs S = specS x := by
  funext y
  unfold chainS
  exact fold_spec (specS x) y (fun g => g.1 = hf (y 0) ∧ bk (y 1) ∈ g.2) (fun C g => fillS_spec x g.1 g.2 C y) gs S (.inl (hg _ _))

theorem chainO_spec (D : S2x128x3584.Idx → Elt F .fp8e4m3) (x : S2x128x3584.Idx → Elt F .bf16) (gs : List (Fin 2 × List (Fin 28)))
    (hg : ∀ (b : Fin 2) (j : Fin 28), ∃ g ∈ gs, g.1 = b ∧ j ∈ g.2) (C : S4x128x3584.Idx → Elt F .fp8e4m3) :
    chainO x gs (st rD C (ld rW2 D)) = specO D x := by
  funext y
  have hy0 : (y 0).val < 4 := (y 0).isLt
  unfold chainO
  refine fold_spec (specO D x) y (fun g => 2 + g.1.val = (y 0).val ∧ bk (y 2) ∈ g.2) (fun C g => fillO_spec D x g.1 g.2 C y) gs _ ?_
  by_cases h : (y 0).val < 2
  · refine .inr (st_spec rD C (specO D x) _ y (fun z => ?_) (.inl ⟨ix3 (n0 := 2) (n1 := 128) (n2 := 3584) ⟨(y 0).val, h⟩ (y 1) (y 2), ?_⟩))
    · have z0 : (z 0).val < 2 := (z 0).isLt
      unfold specO
      rw [dif_pos (show (rD.emb z 0).val < 2 by show 0 + 1 * (z 0).val < 2; omega)]
      show D (rW2.emb z) = _
      congr 1
      funext a
      match a with
      | ⟨0, _⟩ => rfl
      | ⟨1, _⟩ => rfl
      | ⟨2, _⟩ => rfl
    · funext a
      match a with
      | ⟨0, _⟩ => exact Fin.ext (by show 0 + 1 * (y 0).val = (y 0).val; omega)
      | ⟨1, _⟩ => exact Fin.ext (by show 0 + 1 * (y 1).val = (y 1).val; omega)
      | ⟨2, _⟩ => exact Fin.ext (by show 0 + 1 * (y 2).val = (y 2).val; omega)
  · obtain ⟨g, hg1, hg2, hg3⟩ := hg ⟨(y 0).val - 2, by omega⟩ (bk (y 2))
    exact .inl ⟨g, hg1, by rw [hg2]; show 2 + ((y 0).val - 2) = (y 0).val; omega, hg3⟩

/-! ## The scales -/

/-- A cast reads the element whose row-major position is the same. -/
theorem cast_at {s t : Shape} {α : Type} (x : s.Idx → α) (h : s.ShapeCasts t) (j : t.Idx) (i : s.Idx)
    (e : (s.rowMajor i : Nat) = (t.rowMajor j : Nat)) : shapeCast t x h j = x i :=
  congrArg x (Shape.reshapeEquiv_eq_of_rowMajor h e)

/-- Dropping or adding a leading axis of one. -/
theorem cast_drop {α : Type} (x : S1x128x128.Idx → α) (h : S1x128x128.ShapeCasts S128x128) (r l : Fin 128) :
    shapeCast S128x128 x h (ix2 (n0 := 128) (n1 := 128) r l) = x (ix3 (n0 := 1) (n1 := 128) (n2 := 128) 0 r l) :=
  cast_at x h _ _ (by
    rw [rowMajor_val3 _ (128 * 128) 128 rfl rfl, rowMajor_val2 _ 128 rfl]
    show 0 * (128 * 128) + r.val * 128 + l.val = r.val * 128 + l.val; omega)
theorem cast_add {α : Type} (x : S128x128.Idx → α) (h : S128x128.ShapeCasts S1x128x128) (z : S1x128x128.Idx) :
    shapeCast S1x128x128 x h z = x (ix2 (n0 := 128) (n1 := 128) (z 1) (z 2)) :=
  cast_at x h _ _ (by
    rw [rowMajor_val3 _ (128 * 128) 128 rfl rfl, rowMajor_val2 _ 128 rfl]
    have z0 : (z 0).val < 1 := (z 0).isLt
    show (z 1).val * 128 + (z 2).val = (z 0).val * (128 * 128) + (z 1).val * 128 + (z 2).val; omega)

theorem embT (b : Fin 2) (z : Fin 1) (r l : Fin 128) :
    (rT b).emb (ix3 z r l) = ix3 (n0 := 2) (n1 := 128) (n2 := 128) b r l := by
  funext a
  match a with
  | ⟨0, _⟩ => exact Fin.ext (by show b.val + 1 * z.val = b.val; omega)
  | ⟨1, _⟩ => exact Fin.ext (by show 0 + 1 * r.val = r.val; omega)
  | ⟨2, _⟩ => exact Fin.ext (by show 0 + 1 * l.val = l.val; omega)

/-- The lane a block's scale goes to. -/
abbrev lane (j : Fin 28) : Fin 128 := ⟨j.val, by omega⟩

/-- A column spread over the lanes. -/
theorem spread_at {α : Type} (x : S128x1.Idx → α) (h : S128x1.Broadcasts S128x128) (r l : Fin 128) :
    broadcastTo S128x128 x h (ix2 (n0 := 128) (n1 := 128) r l) = x (ix2 (n0 := 128) (n1 := 1) r 0) := by
  rw [Pointwise.broadcastTo_apply]
  congr 1
  funext a
  match a with
  | ⟨0, _⟩ => rfl
  | ⟨1, _⟩ => rfl

/-- Putting block `j'`'s scales in at its lane. -/
theorem accPay_at (x : Vec F S1x128x128 .bf16) (j' j : Fin 28) (acc : FVec F S128x128 .f32) (r : Fin 128) :
    accPay j'.val x acc (ix2 (n0 := 128) (n1 := 128) r (lane j)) = if j' = j then scales x (ix2 (n0 := 128) (n1 := 1) r 0) else acc (ix2 (n0 := 128) (n1 := 128) r (lane j)) := by
  have e1 : accPay j'.val x acc (ix2 (n0 := 128) (n1 := 128) r (lane j)) =
      Scalar.select (IntOp.cmpi .eq (BitVec.ofNat 32 (0 * 128 + j.val)) (BitVec.ofNat 32 j'.val))
        (broadcastTo S128x128 (shapeCast S128x1 (scales x) shapeCasts_S128x1_S128x1) broadcasts_S128x1_S128x128 (ix2 (n0 := 128) (n1 := 128) r (lane j)))
        (acc (ix2 (n0 := 128) (n1 := 128) r (lane j))) := rfl
  rw [e1, spread_at, shapeCast_id, Nat.zero_mul, Nat.zero_add]
  have hj := j.isLt
  have hj' := j'.isLt
  by_cases h : j' = j
  · subst h; simp [Scalar.select, IntOp.cmpi]
  · rw [if_neg h]
    have hne : ¬ BitVec.ofNat 32 j.val = BitVec.ofNat 32 j'.val := fun e => h (Fin.ext (by
      have := congrArg BitVec.toNat e
      simp only [BitVec.toNat_ofNat] at this
      omega))
    have hb : (BitVec.ofNat 32 j.val == BitVec.ofNat 32 j'.val) = false := by simpa using hne
    simp [Scalar.select, IntOp.cmpi, hb]

theorem accs_spec (x : S2x128x3584.Idx → Elt F .bf16) (b : Fin 2) (js : List (Fin 28)) (acc : FVec F S128x128 .f32) (j : Fin 28) (r : Fin 128)
    (h : j ∈ js ∨ acc (ix2 (n0 := 128) (n1 := 128) r (lane j)) = specT x b j r) :
    accs x b js acc (ix2 (n0 := 128) (n1 := 128) r (lane j)) = specT x b j r := by
  unfold accs
  refine chain_or (P := fun acc : FVec F S128x128 .f32 => acc (ix2 (n0 := 128) (n1 := 128) r (lane j)) = specT x b j r) (hit := fun j' => j' = j)
    (fun acc j' hj => ?_) js acc (h.imp (fun h => ⟨j, h, rfl⟩) id)
  rw [accPay_at]
  split
  · rename_i e; subst e; rfl
  · rename_i e; exact hj.resolve_left e

theorem fillT_spec (x : S2x128x3584.Idx → Elt F .bf16) (b' : Fin 2) (js : List (Fin 28)) (T : S2x128x128.Idx → Elt F .f32) (b : Fin 2)
    (j : Fin 28) (r : Fin 128)
    (h : (b' = b ∧ j ∈ js) ∨ T (ix3 (n0 := 2) (n1 := 128) (n2 := 128) b r (lane j)) = specT x b j r) :
    fillT x b' js T (ix3 (n0 := 2) (n1 := 128) (n2 := 128) b r (lane j)) = specT x b j r := by
  unfold fillT
  by_cases hb : b' = b
  · subst hb
    rw [st_hit (rT b') T _ (ix3 (n0 := 1) (n1 := 128) (n2 := 128) 0 r (lane j)) _ (embT b' 0 r (lane j)), cast_add]
    refine accs_spec x b' js _ j r (h.imp (fun h => h.2) fun h => ?_)
    rw [cast_drop]
    show T ((rT b').emb _) = _
    rw [embT]; exact h
  · rw [st_miss]
    · exact h.resolve_left fun h => hb h.1
    · intro z hz
      have z0 : (z 0).val < 1 := (z 0).isLt
      have h0 := congrArg Fin.val (congrFun hz 0)
      change b'.val + 1 * (z 0).val = b.val at h0
      exact hb (Fin.ext (by omega))

theorem chainT_spec (x : S2x128x3584.Idx → Elt F .bf16) (gs : List (Fin 2 × List (Fin 28)))
    (hg : ∀ (b : Fin 2) (j : Fin 28), ∃ g ∈ gs, g.1 = b ∧ j ∈ g.2) (T : S2x128x128.Idx → Elt F .f32) (b : Fin 2) (j : Fin 28) (r : Fin 128) :
    chainT x gs T (ix3 (n0 := 2) (n1 := 128) (n2 := 128) b r (lane j)) = specT x b j r := by
  unfold chainT
  exact chain_or (P := fun T : S2x128x128.Idx → Elt F .f32 => T (ix3 (n0 := 2) (n1 := 128) (n2 := 128) b r (lane j)) = specT x b j r)
    (hit := fun g => g.1 = b ∧ j ∈ g.2) (fun T g h => fillT_spec x g.1 g.2 T b j r h) gs T (.inl (hg b j))

/-- The scales as they are written out: blocks first, tokens last. -/
theorem scalePay_at (x : Vec F S1x128x128 .f32) (z : S28x1x128.Idx) :
    scalePay x z = x (ix3 (n0 := 1) (n1 := 128) (n2 := 128) 0 (z 2) (lane (z 0))) := by
  have z1 : (z 1).val < 1 := (z 1).isLt
  unfold scalePay
  rw [cast_at _ shapeCasts_S28x128_S28x1x128 z (ix2 (n0 := 28) (n1 := 128) (z 0) (z 2)) (by
    rw [rowMajor_val3 _ (1 * 128) 128 rfl rfl, rowMajor_val2 _ 128 rfl]
    show (z 0).val * 128 + (z 2).val = (z 0).val * (1 * 128) + (z 1).val * 128 + (z 2).val; omega)]
  rw [Pointwise.extractStridedSlice_apply, Pointwise.transpose_apply]
  refine Eq.trans ?_ (cast_drop x shapeCasts_S1x128x128_S128x128 (z 2) (lane (z 0)))
  congr 1
  funext a
  match a with
  | ⟨0, _⟩ => exact Fin.ext (by show 0 + (z 2).val = (z 2).val; omega)
  | ⟨1, _⟩ => exact Fin.ext (by show 0 + (z 0).val = (z 0).val; omega)

/-- The resulting scales, of two halves. -/
def specG (X : Fin 2 → S2x128x3584.Idx → Elt F .bf16) : S28x4x128.Idx → Elt F .f32 := fun y =>
  specT (X ⟨(y 1).val / 2, by have := (y 1).isLt; change (y 1).val < 4 at this; omega⟩) ⟨(y 1).val % 2, by omega⟩ (y 0) (y 2)

/-- Storing the scales of rows `b` of half `g` stores what the resulting ones are. -/
theorem stG_spec (X : Fin 2 → S2x128x3584.Idx → Elt F .bf16) (g b : Fin 2) (T : S2x128x128.Idx → Elt F .f32) (G : S28x4x128.Idx → Elt F .f32)
    (hT : ∀ j r, T (ix3 (n0 := 2) (n1 := 128) (n2 := 128) b r (lane j)) = specT (X g) b j r) (y : S28x4x128.Idx)
    (h : rowOf g b = y 1 ∨ G y = specG X y) : st (rG (rowOf g b)) G (scalePay (ld (rT b) T)) y = specG X y := by
  refine st_spec (rG (rowOf g b)) G (specG X) _ y (fun z => ?_) (h.imp (fun h => ⟨ix3 (n0 := 28) (n1 := 1) (n2 := 128) (y 0) 0 (y 2), ?_⟩) id)
  · have z1 : (z 1).val < 1 := (z 1).isLt
    have hg := g.isLt
    have hb := b.isLt
    rw [scalePay_at]
    refine ((congrArg T (embT b 0 (z 2) (lane (z 0)))).trans (hT (z 0) (z 2))).trans ?_
    unfold specG
    have e0 : (⟨((rG (rowOf g b)).emb z 1).val / 2, by have := ((rG (rowOf g b)).emb z 1).isLt; change ((rG (rowOf g b)).emb z 1).val < 4 at this; omega⟩ : Fin 2) = g :=
      Fin.ext (by show (g.val * 2 + b.val + 1 * (z 1).val) / 2 = g.val; omega)
    have e1 : (⟨((rG (rowOf g b)).emb z 1).val % 2, by omega⟩ : Fin 2) = b :=
      Fin.ext (by show (g.val * 2 + b.val + 1 * (z 1).val) % 2 = b.val; omega)
    have e2 : (rG (rowOf g b)).emb z 0 = z 0 := Fin.ext (by show 0 + 1 * (z 0).val = (z 0).val; omega)
    have e3 : (rG (rowOf g b)).emb z 2 = z 2 := Fin.ext (by show 0 + 1 * (z 2).val = (z 2).val; omega)
    rw [e0, e1, e2, e3]
  · funext a
    match a with
    | ⟨0, _⟩ => exact Fin.ext (by show 0 + 1 * (y 0).val = (y 0).val; omega)
    | ⟨1, _⟩ => exact Fin.ext (by have e : g.val * 2 + b.val = (y 1).val := congrArg Fin.val h; show g.val * 2 + b.val + 1 * 0 = (y 1).val; omega)
    | ⟨2, _⟩ => exact Fin.ext (by show 0 + 1 * (y 2).val = (y 2).val; omega)

/-! ## The projections -/

/-- The row of half `g` that line `b`, token `t` is. -/
abbrev rw256 (b : Fin 2) (t : Fin 128) : Fin 256 := ⟨b.val * 128 + t.val, by omega⟩
abbrev cl512 (h : Fin 4) (l : Fin 128) : Fin 512 := ⟨h.val * 128 + l.val, by omega⟩

/-- The halves' rows: half and row of a line. -/
abbrev gOf (n : Fin 4) : Fin 2 := ⟨n.val / 2, by omega⟩
abbrev bOf (n : Fin 4) : Fin 2 := ⟨n.val % 2, by omega⟩
abbrev nOf (n : Fin 28) : Fin 7 := ⟨n.val / 4, by omega⟩
abbrev cOf (n : Fin 28) : Fin 4 := ⟨n.val % 4, by omega⟩

/-- The resulting queries, from the halves' scaled activations. -/
def specQ (S : Fin 2 → S256x3584.Idx → Elt F .bf16) (w : S3584x4608.Idx → Elt F .fp8e4m3) (ws : S1x4608.Idx → Elt F .f32)
    (bi : S1x4608.Idx → Elt F .bf16) : S4x28x128x128.Idx → Elt F .bf16 := fun y =>
  tile (S (gOf (y 0))) w ws bi (up (nOf (y 1))) (ix2 (n0 := 256) (n1 := 512) (rw256 (bOf (y 0)) (y 2)) (cl512 (cOf (y 1)) (y 3)))

/-- The resulting keys or values, of tile `n`. -/
def specK (S : Fin 2 → S256x3584.Idx → Elt F .bf16) (w : S3584x4608.Idx → Elt F .fp8e4m3) (ws : S1x4608.Idx → Elt F .f32)
    (bi : S1x4608.Idx → Elt F .bf16) (n : Fin 9) : S4x128x4x128.Idx → Elt F .bf16 := fun y =>
  tile (S (gOf (y 0))) w ws bi n (ix2 (n0 := 256) (n1 := 512) (rw256 (bOf (y 0)) (y 1)) (cl512 (y 2) (y 3)))

/-- Rows `b`, head `h` of a projection, element by element. -/
theorem cut_at (b : Fin 2) (h : Fin 4) (y : FVec F S256x512 .bf16) (t l : Fin 128) :
    cut b h y (ix2 (n0 := 128) (n1 := 128) t l) = y (ix2 (n0 := 256) (n1 := 512) (rw256 b t) (cl512 h l)) := by
  unfold cut
  rw [Pointwise.extractStridedSlice_apply]
  congr 1
  funext a
  match a with
  | ⟨0, _⟩ => rfl
  | ⟨1, _⟩ => rfl

theorem heads_all : ∀ (b : Fin 2) (h : Fin 4), (h, b) ∈ heads := by decide

theorem fillQ_spec (S : Fin 2 → S256x3584.Idx → Elt F .bf16) (w : S3584x4608.Idx → Elt F .fp8e4m3) (ws : S1x4608.Idx → Elt F .f32)
    (bi : S1x4608.Idx → Elt F .bf16) (g : Fin 2) (n : Fin 7) (O : S4x28x128x128.Idx → Elt F .bf16) (y : S4x28x128x128.Idx)
    (h : (g = gOf (y 0) ∧ n = nOf (y 1)) ∨ O y = specQ S w ws bi y) :
    fillQ g n (tile (S g) w ws bi (up n)) heads O y = specQ S w ws bi y := by
  have hg := g.isLt
  have hn := n.isLt
  unfold fillQ
  refine fold_spec (specQ S w ws bi) y (fun p => rowOf g p.2 = y 0 ∧ headOf n p.1 = y 1) (fun O p hp => ?_) heads O ?_
  · have hp1 := p.1.isLt
    have hp2 := p.2.isLt
    refine st_spec (rQ (rowOf g p.2) (headOf n p.1)) O (specQ S w ws bi) _ y (fun z => ?_) (hp.imp (fun h => ⟨ix4 (n0 := 1) (n1 := 1) (n2 := 128) (n3 := 128) 0 0 (y 2) (y 3), ?_⟩) id)
    · have z0 : (z 0).val < 1 := (z 0).isLt
      have z1 : (z 1).val < 1 := (z 1).isLt
      rw [cast_at _ shapeCasts_S128x128_S1x1x128x128 z (ix2 (n0 := 128) (n1 := 128) (z 2) (z 3)) (by
        rw [rowMajor_val4 _ (1 * (128 * 128)) (128 * 128) 128 rfl rfl rfl, rowMajor_val2 _ 128 rfl]
        show (z 2).val * 128 + (z 3).val = (z 0).val * (1 * (128 * 128)) + (z 1).val * (128 * 128) + (z 2).val * 128 + (z 3).val; omega)]
      refine (cut_at p.2 p.1 _ (z 2) (z 3)).trans ?_
      unfold specQ
      have e0 : gOf ((rQ (rowOf g p.2) (headOf n p.1)).emb z 0) = g := Fin.ext (by show (g.val * 2 + p.2.val + 1 * (z 0).val) / 2 = g.val; omega)
      have e1 : bOf ((rQ (rowOf g p.2) (headOf n p.1)).emb z 0) = p.2 := Fin.ext (by show (g.val * 2 + p.2.val + 1 * (z 0).val) % 2 = p.2.val; omega)
      have e2 : nOf ((rQ (rowOf g p.2) (headOf n p.1)).emb z 1) = n := Fin.ext (by show (n.val * 4 + p.1.val + 1 * (z 1).val) / 4 = n.val; omega)
      have e3 : cOf ((rQ (rowOf g p.2) (headOf n p.1)).emb z 1) = p.1 := Fin.ext (by show (n.val * 4 + p.1.val + 1 * (z 1).val) % 4 = p.1.val; omega)
      have e4 : (rQ (rowOf g p.2) (headOf n p.1)).emb z 2 = z 2 := Fin.ext (by show 0 + 1 * (z 2).val = (z 2).val; omega)
      have e5 : (rQ (rowOf g p.2) (headOf n p.1)).emb z 3 = z 3 := Fin.ext (by show 0 + 1 * (z 3).val = (z 3).val; omega)
      rw [e0, e1, e2, e3, e4, e5]
    · funext a
      match a with
      | ⟨0, _⟩ => exact Fin.ext (by have e : g.val * 2 + p.2.val = (y 0).val := congrArg Fin.val h.1; show g.val * 2 + p.2.val + 1 * 0 = (y 0).val; omega)
      | ⟨1, _⟩ => exact Fin.ext (by have e : n.val * 4 + p.1.val = (y 1).val := congrArg Fin.val h.2; show n.val * 4 + p.1.val + 1 * 0 = (y 1).val; omega)
      | ⟨2, _⟩ => exact Fin.ext (by show 0 + 1 * (y 2).val = (y 2).val; omega)
      | ⟨3, _⟩ => exact Fin.ext (by show 0 + 1 * (y 3).val = (y 3).val; omega)
  · refine h.imp (fun h => ⟨(cOf (y 1), bOf (y 0)), heads_all _ _, ?_, ?_⟩) id
    · rw [h.1]; exact Fin.ext (by show (y 0).val / 2 * 2 + (y 0).val % 2 = (y 0).val; omega)
    · rw [h.2]; exact Fin.ext (by show (y 1).val / 4 * 4 + (y 1).val % 4 = (y 1).val; omega)

theorem fillK_spec (S : Fin 2 → S256x3584.Idx → Elt F .bf16) (w : S3584x4608.Idx → Elt F .fp8e4m3) (ws : S1x4608.Idx → Elt F .f32)
    (bi : S1x4608.Idx → Elt F .bf16) (g : Fin 2) (n : Fin 9) (O : S4x128x4x128.Idx → Elt F .bf16) (y : S4x128x4x128.Idx)
    (h : g = gOf (y 0) ∨ O y = specK S w ws bi n y) :
    fillK g (tile (S g) w ws bi n) heads O y = specK S w ws bi n y := by
  have hg := g.isLt
  unfold fillK
  refine fold_spec (specK S w ws bi n) y (fun p => rowOf g p.2 = y 0 ∧ p.1 = y 2) (fun O p hp => ?_) heads O ?_
  · have hp1 := p.1.isLt
    have hp2 := p.2.isLt
    have hy2 : (y 2).val < 4 := (y 2).isLt
    by_cases hy : ∃ z, (rK2 (rowOf g p.2) p.1).emb z = y
    · obtain ⟨z, hz⟩ := hy
      have z0 : (z 0).val < 1 := (z 0).isLt
      have z1 : (z 1).val < 128 := (z 1).isLt
      have z2 : (z 2).val < 2 := (z 2).isLt
      have z3 : (z 3).val < 128 := (z 3).isLt
      have h0 : g.val * 2 + p.2.val + 1 * (z 0).val = (y 0).val := congrArg Fin.val (congrFun hz 0)
      have h1 : 0 + 1 * (z 1).val = (y 1).val := congrArg Fin.val (congrFun hz 1)
      have h2 : p.1.val / 2 * 2 + 1 * (z 2).val = (y 2).val := congrArg Fin.val (congrFun hz 2)
      have h3 : 0 + 1 * (z 3).val = (y 3).val := congrArg Fin.val (congrFun hz 3)
      rw [st_hit _ _ _ z y hz]
      unfold pairPut
      rw [updateSlice_apply]
      by_cases hh : p.1 = y 2
      · rw [dif_pos]
        · rw [cast_at _ shapeCasts_S128x128_S1x128x1x128 _ (ix2 (n0 := 128) (n1 := 128) (z 1) (z 3)) (by
            rw [rowMajor_val4 _ (128 * (1 * 128)) (1 * 128) 128 rfl rfl rfl, rowMajor_val2 _ 128 rfl]
            show (z 1).val * 128 + (z 3).val = ((z 0).val - 0) * (128 * (1 * 128)) + ((z 1).val - 0) * (1 * 128) + ((z 2).val - p.1.val % 2) * 128 + ((z 3).val - 0)
            have hh' : p.1.val = (y 2).val := congrArg Fin.val hh
            omega)]
          refine (cut_at p.2 p.1 _ (z 1) (z 3)).trans ?_
          unfold specK
          have e0 : gOf (y 0) = g := Fin.ext (by show (y 0).val / 2 = g.val; omega)
          have e1 : bOf (y 0) = p.2 := Fin.ext (by show (y 0).val % 2 = p.2.val; omega)
          have e2 : y 1 = z 1 := Fin.ext (by omega)
          have e3 : y 3 = z 3 := Fin.ext (by omega)
          rw [e0, e1, e2, e3, ← hh]
        · have hh' : p.1.val = (y 2).val := congrArg Fin.val hh
          intro a
          match a with
          | ⟨0, _⟩ => show 0 ≤ (z 0).val ∧ (z 0).val < 0 + 1; omega
          | ⟨1, _⟩ => show 0 ≤ (z 1).val ∧ (z 1).val < 0 + 128; omega
          | ⟨2, _⟩ => show p.1.val % 2 ≤ (z 2).val ∧ (z 2).val < p.1.val % 2 + 1; omega
          | ⟨3, _⟩ => show 0 ≤ (z 3).val ∧ (z 3).val < 0 + 128; omega
      · rw [dif_neg]
        · show O ((rK2 (rowOf g p.2) p.1).emb z) = _
          rw [hz]; exact hp.resolve_left fun h => hh h.2
        · intro ha
          have ha2 : p.1.val % 2 ≤ (z 2).val ∧ (z 2).val < p.1.val % 2 + 1 := ha 2
          exact hh (Fin.ext (by omega))
    · rw [st_miss _ _ _ y (by simpa using hy)]
      refine hp.resolve_left fun h => hy ⟨ix4 (n0 := 1) (n1 := 128) (n2 := 2) (n3 := 128) 0 (y 1) ⟨(y 2).val % 2, by omega⟩ (y 3), ?_⟩
      have h2 : p.1.val = (y 2).val := congrArg Fin.val h.2
      funext a
      match a with
      | ⟨0, _⟩ => exact Fin.ext (by have e : g.val * 2 + p.2.val = (y 0).val := congrArg Fin.val h.1; show g.val * 2 + p.2.val + 1 * 0 = (y 0).val; omega)
      | ⟨1, _⟩ => exact Fin.ext (by show 0 + 1 * (y 1).val = (y 1).val; omega)
      | ⟨2, _⟩ => exact Fin.ext (by show p.1.val / 2 * 2 + 1 * ((y 2).val % 2) = (y 2).val; omega)
      | ⟨3, _⟩ => exact Fin.ext (by show 0 + 1 * (y 3).val = (y 3).val; omega)
  · refine h.imp (fun h => ⟨(y 2, bOf (y 0)), heads_all _ _, ?_, rfl⟩) id
    rw [h]; exact Fin.ext (by show (y 0).val / 2 * 2 + (y 0).val % 2 = (y 0).val; omega)

end Cert.Kernel.Run

end
-- ==== Proof.WordWhole.lean ====
/-
  The whole body: what a point's steps together make of the contents.
-/
module

public import proofs.«01_k».proof.Proof.WordEffect

@[expose] public section

set_option maxRecDepth 16384

noncomputable section

namespace Cert.Kernel.Run

open Cert.Kernel Cert.Kernel.Facts₀
open Idealize.ShloMosaic Idealize.ShloMosaic.TcCoe Idealize.ShloMosaic.Tactic
open Idealize.ShloMosaic.Pointwise

variable {F : FTy → Type} [FloatOps F]

/-! ## The whole body -/

/-- The contents' inputs. -/
abbrev St.sameIn (ρ σ : St F) : Prop :=
  ρ.x0 = σ.x0 ∧ ρ.xa = σ.xa ∧ ρ.xb = σ.xb ∧ ρ.w = σ.w ∧ ρ.ws = σ.ws ∧ ρ.bi = σ.bi

/-- The scratch holds the half `x` quantised: its codes, its scaled activations, its scales. -/
abbrev St.holds (σ : St F) (x : S2x128x3584.Idx → Elt F .bf16) : Prop :=
  σ.ca = specC x ∧ σ.xsa = specS x ∧ ∀ b j r, σ.sta (ix3 (n0 := 2) (n1 := 128) (n2 := 128) b r (lane j)) = specT x b j r

/-- The tiles of the queries. -/
abbrev tiles : List (Fin 7) := [0, 1, 2, 3, 4, 5, 6]
theorem tiles_all : ∀ n : Fin 7, n ∈ tiles := by decide

/-- The tiles of half `g` put into the queries. -/
def fillQs (g : Fin 2) (S : S256x3584.Idx → Elt F .bf16) (w : S3584x4608.Idx → Elt F .fp8e4m3) (ws : S1x4608.Idx → Elt F .f32)
    (bi : S1x4608.Idx → Elt F .bf16) (O : S4x28x128x128.Idx → Elt F .bf16) : S4x28x128x128.Idx → Elt F .bf16 :=
  tiles.foldl (fun O n => fillQ g n (tile S w ws bi (up n)) heads O) O

theorem fillQs_spec (S : Fin 2 → S256x3584.Idx → Elt F .bf16) (w : S3584x4608.Idx → Elt F .fp8e4m3) (ws : S1x4608.Idx → Elt F .f32)
    (bi : S1x4608.Idx → Elt F .bf16) (g : Fin 2) (O : S4x28x128x128.Idx → Elt F .bf16) (y : S4x28x128x128.Idx)
    (h : g = gOf (y 0) ∨ O y = specQ S w ws bi y) : fillQs g (S g) w ws bi O y = specQ S w ws bi y := by
  unfold fillQs
  exact fold_spec (specQ S w ws bi) y (fun n => g = gOf (y 0) ∧ n = nOf (y 1)) (fun O n h => fillQ_spec S w ws bi g n O y h) tiles O
    (h.imp (fun h => ⟨nOf (y 1), tiles_all _, h, rfl⟩) id)

theorem g_cases (g : Fin 2) : g = 0 ∨ g = 1 := by omega

/-- Both halves' tiles. -/
theorem fillQs_both (S : Fin 2 → S256x3584.Idx → Elt F .bf16) (w : S3584x4608.Idx → Elt F .fp8e4m3) (ws : S1x4608.Idx → Elt F .f32)
    (bi : S1x4608.Idx → Elt F .bf16) (O : S4x28x128x128.Idx → Elt F .bf16) :
    fillQs 1 (S 1) w ws bi (fillQs 0 (S 0) w ws bi O) = specQ S w ws bi := by
  funext y
  refine fillQs_spec S w ws bi 1 _ y ?_
  rcases g_cases (gOf (y 0)) with h | h
  · exact .inr (fillQs_spec S w ws bi 0 _ y (.inl h.symm))
  · exact .inl h.symm

theorem fillK_both (S : Fin 2 → S256x3584.Idx → Elt F .bf16) (w : S3584x4608.Idx → Elt F .fp8e4m3) (ws : S1x4608.Idx → Elt F .f32)
    (bi : S1x4608.Idx → Elt F .bf16) (n : Fin 9) (O : S4x128x4x128.Idx → Elt F .bf16) :
    fillK 1 (tile (S 1) w ws bi n) heads (fillK 0 (tile (S 0) w ws bi n) heads O) = specK S w ws bi n := by
  funext y
  refine fillK_spec S w ws bi 1 n _ y ?_
  rcases g_cases (gOf (y 0)) with h | h
  · exact .inr (fillK_spec S w ws bi 0 n _ y (.inl h.symm))
  · exact .inl h.symm

/-- Both halves' scales. -/
theorem stG_both (X : Fin 2 → S2x128x3584.Idx → Elt F .bf16) (T T' : S2x128x128.Idx → Elt F .f32) (G : S28x4x128.Idx → Elt F .f32)
    (hT : ∀ b j r, T (ix3 (n0 := 2) (n1 := 128) (n2 := 128) b r (lane j)) = specT (X 0) b j r)
    (hT' : ∀ b j r, T' (ix3 (n0 := 2) (n1 := 128) (n2 := 128) b r (lane j)) = specT (X 1) b j r) :
    st (rG (rowOf 1 1)) (st (rG (rowOf 1 0)) (st (rG (rowOf 0 1)) (st (rG (rowOf 0 0)) G (scalePay (ld (rT 0) T))) (scalePay (ld (rT 1) T)))
      (scalePay (ld (rT 0) T'))) (scalePay (ld (rT 1) T')) = specG X := by
  funext y
  have hr : ∀ r : Fin 4, rowOf 1 1 = r ∨ rowOf 1 0 = r ∨ rowOf 0 1 = r ∨ rowOf 0 0 = r := by decide
  refine stG_spec X 1 1 T' _ (hT' 1) y ?_
  rcases hr (y 1) with h | h | h | h
  · exact .inl h
  · exact .inr (stG_spec X 1 0 T' _ (hT' 0) y (.inl h))
  · exact .inr (stG_spec X 1 0 T' _ (hT' 0) y (.inr (stG_spec X 0 1 T _ (hT 1) y (.inl h))))
  · exact .inr (stG_spec X 1 0 T' _ (hT' 0) y (.inr (stG_spec X 0 1 T _ (hT 1) y (.inr (stG_spec X 0 0 T _ (hT 0) y (.inl h))))))

/-- The halves' quantised activations. -/
abbrev both (x x' : S2x128x3584.Idx → Elt F .bf16) : Fin 2 → S2x128x3584.Idx → Elt F .bf16 := fun g => if g = 0 then x else x'

/-- What the steps of a point make of contents whose scratch holds the half `x` quantised. -/
structure St.Good (ρ σ : St F) (x : S2x128x3584.Idx → Elt F .bf16) : Prop where
  same : ρ.sameIn σ
  q : ρ.q = specQ (fun g => specS (both x σ.xb g)) σ.w σ.ws σ.bi
  k : ρ.k = specK (fun g => specS (both x σ.xb g)) σ.w σ.ws σ.bi 7
  v : ρ.v = specK (fun g => specS (both x σ.xb g)) σ.w σ.ws σ.bi 8
  codes : ρ.codes = specO (specC x) σ.xb
  scale : ρ.scale = specG (both x σ.xb)
  next : ρ.holds σ.xa

theorem execs_same (L : List Act) : ∀ σ : St F, (execs L σ).sameIn σ := by
  induction L with
  | nil => intro σ; exact ⟨rfl, rfl, rfl, rfl, rfl, rfl⟩
  | cons a L ih =>
    intro σ
    obtain ⟨h1, h2, h3, h4, h5, h6⟩ := ih (exec a σ)
    have e : execs (a :: L) σ = execs L (exec a σ) := rfl
    rw [e]
    cases a <;> exact ⟨h1, h2, h3, h4, h5, h6⟩

theorem chainC_cons (x : S2x128x3584.Idx → Elt F .bf16) (b : Fin 2) (js : List (Fin 28)) (gs : List (Fin 2 × List (Fin 28))) (C : S2x128x3584.Idx → Elt F .fp8e4m3) :
    chainC x ((b, js) :: gs) C = chainC x gs (fillC x b js C) := by unfold chainC; rw [List.foldl_cons]
theorem chainO_cons (x : S2x128x3584.Idx → Elt F .bf16) (b : Fin 2) (js : List (Fin 28)) (gs : List (Fin 2 × List (Fin 28))) (C : S4x128x3584.Idx → Elt F .fp8e4m3) :
    chainO x ((b, js) :: gs) C = chainO x gs (fillO x b js C) := by unfold chainO; rw [List.foldl_cons]
theorem chainS_cons (x : S2x128x3584.Idx → Elt F .bf16) (b : Fin 2) (js : List (Fin 28)) (gs : List (Fin 2 × List (Fin 28))) (S : S256x3584.Idx → Elt F .bf16) :
    chainS x ((b, js) :: gs) S = chainS x gs (fillS x b js S) := by unfold chainS; rw [List.foldl_cons]
theorem chainT_cons (x : S2x128x3584.Idx → Elt F .bf16) (b : Fin 2) (js : List (Fin 28)) (gs : List (Fin 2 × List (Fin 28))) (T : S2x128x128.Idx → Elt F .f32) :
    chainT x ((b, js) :: gs) T = chainT x gs (fillT x b js T) := by unfold chainT; rw [List.foldl_cons]
theorem chain_nil (x : S2x128x3584.Idx → Elt F .bf16) (C : S2x128x3584.Idx → Elt F .fp8e4m3) (O : S4x128x3584.Idx → Elt F .fp8e4m3)
    (S : S256x3584.Idx → Elt F .bf16) (T : S2x128x128.Idx → Elt F .f32) :
    chainC x [] C = C ∧ chainO x [] O = O ∧ chainS x [] S = S ∧ chainT x [] T = T := ⟨rfl, rfl, rfl, rfl⟩

attribute [local irreducible] chainC chainO chainS chainT fillC fillO fillS fillT fillQ fillK tile scalePay

/-- The blocks a step quantises of the second half, and of the next point's first; the tile of the queries it stores. -/
def grpB : Act → Option (Fin 2 × List (Fin 28)) | .qb b js => some (b, js) | _ => none
def grpA : Act → Option (Fin 2 × List (Fin 28)) | .qa b js => some (b, js) | _ => none
def tilA : Act → Option (Fin 7) | .pa n => some n | _ => none
def tilB : Act → Option (Fin 7) | .pb n => some n | _ => none
/-- Whether it stores keys, or values, of either half. -/
def keyA : Act → Option Unit | .pak => some () | _ => none
def valA : Act → Option Unit | .pav => some () | _ => none
def keyB : Act → Option Unit | .pbk => some () | _ => none
def valB : Act → Option Unit | .pbv => some () | _ => none

/-- The steps while the first half is projected, and while the second is. -/
def isA : Act → Bool | .qb _ _ => true | .pa _ => true | .pak => true | .pav => true | _ => false
def isB : Act → Bool | .qa _ _ => true | .pb _ => true | .pbk => true | .pbv => true | _ => false

/-- The steps while the first half is projected quantise the second half, and project from scratch that stays. -/
theorem execs_A (L : List Act) : ∀ σ : St F, (∀ a ∈ L, isA a = true) →
    (execs L σ).ca = σ.ca ∧ (execs L σ).xsa = σ.xsa ∧ (execs L σ).sta = σ.sta ∧ (execs L σ).scale = σ.scale
      ∧ (execs L σ).codes = chainO σ.xb (L.filterMap grpB) σ.codes ∧ (execs L σ).xsb = chainS σ.xb (L.filterMap grpB) σ.xsb
      ∧ (execs L σ).stb = chainT σ.xb (L.filterMap grpB) σ.stb
      ∧ (execs L σ).q = (L.filterMap tilA).foldl (fun O n => fillQ 0 n (tile σ.xsa σ.w σ.ws σ.bi (up n)) heads O) σ.q
      ∧ (execs L σ).k = (L.filterMap keyA).foldl (fun O _ => fillK 0 (tile σ.xsa σ.w σ.ws σ.bi 7) heads O) σ.k
      ∧ (execs L σ).v = (L.filterMap valA).foldl (fun O _ => fillK 0 (tile σ.xsa σ.w σ.ws σ.bi 8) heads O) σ.v := by
  induction L with
  | nil =>
    intro σ _
    exact ⟨rfl, rfl, rfl, rfl, ((chain_nil σ.xb σ.ca σ.codes σ.xsb σ.stb).2.1).symm, ((chain_nil σ.xb σ.ca σ.codes σ.xsb σ.stb).2.2.1).symm, ((chain_nil σ.xb σ.ca σ.codes σ.xsb σ.stb).2.2.2).symm, rfl, rfl, rfl⟩
  | cons a L ih =>
    intro σ hL
    obtain ⟨h1, h2, h3, h4, h5, h6, h7, h8, h9, h10⟩ := ih (exec a σ) fun a' h => hL a' (List.mem_cons_of_mem _ h)
    have ha := hL a List.mem_cons_self
    have e : execs (a :: L) σ = execs L (exec a σ) := rfl
    rw [e]
    cases a with
    | qb b js =>
      have f : (Act.qb b js :: L).filterMap grpB = (b, js) :: L.filterMap grpB := rfl
      rw [f, chainO_cons, chainS_cons, chainT_cons]
      exact ⟨h1, h2, h3, h4, h5, h6, h7, h8, h9, h10⟩
    | pa n => exact ⟨h1, h2, h3, h4, h5, h6, h7, h8, h9, h10⟩
    | pak => exact ⟨h1, h2, h3, h4, h5, h6, h7, h8, h9, h10⟩
    | pav => exact ⟨h1, h2, h3, h4, h5, h6, h7, h8, h9, h10⟩
    | _ => exact absurd ha Bool.false_ne_true

/-- The steps while the second half is projected quantise the next point's first half, and project from scratch that stays. -/
theorem execs_B (L : List Act) : ∀ σ : St F, (∀ a ∈ L, isB a = true) →
    (execs L σ).scale = σ.scale ∧ (execs L σ).codes = σ.codes ∧ (execs L σ).xsb = σ.xsb
      ∧ (execs L σ).ca = chainC σ.xa (L.filterMap grpA) σ.ca ∧ (execs L σ).xsa = chainS σ.xa (L.filterMap grpA) σ.xsa
      ∧ (execs L σ).sta = chainT σ.xa (L.filterMap grpA) σ.sta
      ∧ (execs L σ).q = (L.filterMap tilB).foldl (fun O n => fillQ 1 n (tile σ.xsb σ.w σ.ws σ.bi (up n)) heads O) σ.q
      ∧ (execs L σ).k = (L.filterMap keyB).foldl (fun O _ => fillK 1 (tile σ.xsb σ.w σ.ws σ.bi 7) heads O) σ.k
      ∧ (execs L σ).v = (L.filterMap valB).foldl (fun O _ => fillK 1 (tile σ.xsb σ.w σ.ws σ.bi 8) heads O) σ.v := by
  induction L with
  | nil =>
    intro σ _
    exact ⟨rfl, rfl, rfl, ((chain_nil σ.xa σ.ca σ.codes σ.xsa σ.sta).1).symm, ((chain_nil σ.xa σ.ca σ.codes σ.xsa σ.sta).2.2.1).symm, ((chain_nil σ.xa σ.ca σ.codes σ.xsa σ.sta).2.2.2).symm, rfl, rfl, rfl⟩
  | cons a L ih =>
    intro σ hL
    obtain ⟨h1, h2, h3, h4, h5, h6, h7, h8, h9⟩ := ih (exec a σ) fun a' h => hL a' (List.mem_cons_of_mem _ h)
    have ha := hL a List.mem_cons_self
    have e : execs (a :: L) σ = execs L (exec a σ) := rfl
    rw [e]
    cases a with
    | qa b js =>
      have f : (Act.qa b js :: L).filterMap grpA = (b, js) :: L.filterMap grpA := rfl
      rw [f, chainC_cons, chainS_cons, chainT_cons]
      exact ⟨h1, h2, h3, h4, h5, h6, h7, h8, h9⟩
    | pb n => exact ⟨h1, h2, h3, h4, h5, h6, h7, h8, h9⟩
    | pbk => exact ⟨h1, h2, h3, h4, h5, h6, h7, h8, h9⟩
    | pbv => exact ⟨h1, h2, h3, h4, h5, h6, h7, h8, h9⟩
    | _ => exact absurd ha Bool.false_ne_true

/-- The steps while the first half is projected, and while the second is. -/
abbrev actsA : List Act := tileA 0 ++ tileA 1 ++ tileA 2 ++ tileA 3 ++ tileA 4 ++ tileA 5 ++ tileA 6 ++ [.pak, .qb 0 [], .qb 1 [], .pav, .qb 0 [], .qb 1 []]
abbrev actsB : List Act := tileB 0 ++ tileB 1 ++ tileB 2 ++ tileB 3 ++ tileB 4 ++ tileB 5 ++ tileB 6 ++ [.pbk, .qa 0 [], .qa 1 [], .pbv, .qa 0 [], .qa 1 []]

theorem bodyActs_eq : bodyActs = [.cOut, .sa 0, .sa 1] ++ (actsA ++ ([.sb 0, .sb 1] ++ actsB)) := rfl

theorem execs_append (L L' : List Act) (σ : St F) : execs (L ++ L') σ = execs L' (execs L σ) := List.foldl_append

/-- The steps' effects put together. -/
theorem join (σ σ1 σ2 σ3 σ4 : St F) (i1 : σ1.sameIn σ) (i2 : σ2.sameIn σ1) (i3 : σ3.sameIn σ2)
    (j1 : σ1.ca = σ.ca ∧ σ1.xsa = σ.xsa ∧ σ1.sta = σ.sta ∧ σ1.xsb = σ.xsb ∧ σ1.stb = σ.stb ∧ σ1.q = σ.q ∧ σ1.k = σ.k ∧ σ1.v = σ.v
      ∧ σ1.codes = st rD σ.codes (ld rW2 σ.ca)
      ∧ σ1.scale = st (rG (rowOf 0 1)) (st (rG (rowOf 0 0)) σ.scale (scalePay (ld (rT 0) σ.sta))) (scalePay (ld (rT 1) σ.sta)))
    (j2 : σ2.ca = σ1.ca ∧ σ2.xsa = σ1.xsa ∧ σ2.sta = σ1.sta ∧ σ2.scale = σ1.scale
      ∧ σ2.codes = chainO σ1.xb order σ1.codes ∧ σ2.xsb = chainS σ1.xb order σ1.xsb
      ∧ σ2.stb = chainT σ1.xb order σ1.stb
      ∧ σ2.q = tiles.foldl (fun O n => fillQ 0 n (tile σ1.xsa σ1.w σ1.ws σ1.bi (up n)) heads O) σ1.q
      ∧ σ2.k = [()].foldl (fun O _ => fillK 0 (tile σ1.xsa σ1.w σ1.ws σ1.bi 7) heads O) σ1.k
      ∧ σ2.v = [()].foldl (fun O _ => fillK 0 (tile σ1.xsa σ1.w σ1.ws σ1.bi 8) heads O) σ1.v)
    (j3 : σ3.ca = σ2.ca ∧ σ3.xsa = σ2.xsa ∧ σ3.sta = σ2.sta ∧ σ3.xsb = σ2.xsb ∧ σ3.q = σ2.q ∧ σ3.k = σ2.k ∧ σ3.v = σ2.v
      ∧ σ3.codes = σ2.codes
      ∧ σ3.scale = st (rG (rowOf 1 1)) (st (rG (rowOf 1 0)) σ2.scale (scalePay (ld (rT 0) σ2.stb))) (scalePay (ld (rT 1) σ2.stb)))
    (j4 : σ4.scale = σ3.scale ∧ σ4.codes = σ3.codes ∧ σ4.xsb = σ3.xsb
      ∧ σ4.ca = chainC σ3.xa order σ3.ca ∧ σ4.xsa = chainS σ3.xa order σ3.xsa
      ∧ σ4.sta = chainT σ3.xa order σ3.sta
      ∧ σ4.q = tiles.foldl (fun O n => fillQ 1 n (tile σ3.xsb σ3.w σ3.ws σ3.bi (up n)) heads O) σ3.q
      ∧ σ4.k = [()].foldl (fun O _ => fillK 1 (tile σ3.xsb σ3.w σ3.ws σ3.bi 7) heads O) σ3.k
      ∧ σ4.v = [()].foldl (fun O _ => fillK 1 (tile σ3.xsb σ3.w σ3.ws σ3.bi 8) heads O) σ3.v) :
    σ4.ca = chainC σ.xa order σ.ca ∧ σ4.xsa = chainS σ.xa order σ.xsa
      ∧ σ4.sta = chainT σ.xa order σ.sta
      ∧ σ4.codes = chainO σ.xb order (st rD σ.codes (ld rW2 σ.ca))
      ∧ σ4.scale = st (rG (rowOf 1 1)) (st (rG (rowOf 1 0)) (st (rG (rowOf 0 1)) (st (rG (rowOf 0 0)) σ.scale (scalePay (ld (rT 0) σ.sta))) (scalePay (ld (rT 1) σ.sta)))
          (scalePay (ld (rT 0) (chainT σ.xb order σ.stb)))) (scalePay (ld (rT 1) (chainT σ.xb order σ.stb)))
      ∧ σ4.q = fillQs 1 (chainS σ.xb order σ.xsb) σ.w σ.ws σ.bi (fillQs 0 σ.xsa σ.w σ.ws σ.bi σ.q)
      ∧ σ4.k = fillK 1 (tile (chainS σ.xb order σ.xsb) σ.w σ.ws σ.bi 7) heads (fillK 0 (tile σ.xsa σ.w σ.ws σ.bi 7) heads σ.k)
      ∧ σ4.v = fillK 1 (tile (chainS σ.xb order σ.xsb) σ.w σ.ws σ.bi 8) heads (fillK 0 (tile σ.xsa σ.w σ.ws σ.bi 8) heads σ.v) := by
  obtain ⟨-, ia, ib, iw, is, ii⟩ := i1
  obtain ⟨-, ia', ib', iw', is', ii'⟩ := i2
  obtain ⟨-, ia'', ib'', iw'', is'', ii''⟩ := i3
  obtain ⟨p1, p2, p3, p4, p5, p6, p7, p8, p9, p10⟩ := j1
  obtain ⟨q1, q2, q3, q4, q5, q6, q7, q8, q9, q10⟩ := j2
  obtain ⟨r1, r2, r3, r4, r5, r6, r7, r8, r9⟩ := j3
  obtain ⟨s1, s2, s3, s4, s5, s6, s7, s8, s9⟩ := j4
  rw [ia'', ia', ia, r1, q1, p1] at s4
  rw [ia'', ia', ia, r2, q2, p2] at s5
  rw [ia'', ia', ia, r3, q3, p3] at s6
  rw [r4, iw'', is'', ii'', iw', is', ii', iw, is, ii, q6, ib, p4] at s7 s8 s9
  rw [r5, q8, p2, p6, iw, is, ii] at s7
  rw [r6, q9, p2, p7, iw, is, ii] at s8
  rw [r7, q10, p2, p8, iw, is, ii] at s9
  rw [r8, q5, ib, p9] at s2
  rw [r9, q4, q7, ib, p5, p10] at s1
  exact ⟨s4, s5, s6, s2, s1, s7, s8, s9⟩

theorem execs_actsA (σ : St F) :
    (execs actsA σ).ca = σ.ca ∧ (execs actsA σ).xsa = σ.xsa ∧ (execs actsA σ).sta = σ.sta ∧ (execs actsA σ).scale = σ.scale
      ∧ (execs actsA σ).codes = chainO σ.xb order σ.codes ∧ (execs actsA σ).xsb = chainS σ.xb order σ.xsb
      ∧ (execs actsA σ).stb = chainT σ.xb order σ.stb
      ∧ (execs actsA σ).q = tiles.foldl (fun O n => fillQ 0 n (tile σ.xsa σ.w σ.ws σ.bi (up n)) heads O) σ.q
      ∧ (execs actsA σ).k = [()].foldl (fun O _ => fillK 0 (tile σ.xsa σ.w σ.ws σ.bi 7) heads O) σ.k
      ∧ (execs actsA σ).v = [()].foldl (fun O _ => fillK 0 (tile σ.xsa σ.w σ.ws σ.bi 8) heads O) σ.v := by
  have h := execs_A actsA σ (List.all_eq_true.mp rfl)
  have gB : actsA.filterMap grpB = order := rfl
  have tA : actsA.filterMap tilA = tiles := rfl
  have kA : actsA.filterMap keyA = [()] := rfl
  have vA : actsA.filterMap valA = [()] := rfl
  rw [gB, tA, kA, vA] at h
  exact h

theorem execs_actsB (σ : St F) :
    (execs actsB σ).scale = σ.scale ∧ (execs actsB σ).codes = σ.codes ∧ (execs actsB σ).xsb = σ.xsb
      ∧ (execs actsB σ).ca = chainC σ.xa order σ.ca ∧ (execs actsB σ).xsa = chainS σ.xa order σ.xsa
      ∧ (execs actsB σ).sta = chainT σ.xa order σ.sta
      ∧ (execs actsB σ).q = tiles.foldl (fun O n => fillQ 1 n (tile σ.xsb σ.w σ.ws σ.bi (up n)) heads O) σ.q
      ∧ (execs actsB σ).k = [()].foldl (fun O _ => fillK 1 (tile σ.xsb σ.w σ.ws σ.bi 7) heads O) σ.k
      ∧ (execs actsB σ).v = [()].foldl (fun O _ => fillK 1 (tile σ.xsb σ.w σ.ws σ.bi 8) heads O) σ.v := by
  have h := execs_B actsB σ (List.all_eq_true.mp rfl)
  have gA : actsB.filterMap grpA = order := rfl
  have tB : actsB.filterMap tilB = tiles := rfl
  have kB : actsB.filterMap keyB = [()] := rfl
  have vB : actsB.filterMap valB = [()] := rfl
  rw [gA, tB, kB, vB] at h
  exact h

theorem execs_begin (σ : St F) (σ1 : St F) (h : σ1 = execs [.cOut, .sa 0, .sa 1] σ) :
    σ1.ca = σ.ca ∧ σ1.xsa = σ.xsa ∧ σ1.sta = σ.sta ∧ σ1.xsb = σ.xsb ∧ σ1.stb = σ.stb ∧ σ1.q = σ.q ∧ σ1.k = σ.k ∧ σ1.v = σ.v
      ∧ σ1.codes = st rD σ.codes (ld rW2 σ.ca)
      ∧ σ1.scale = st (rG (rowOf 0 1)) (st (rG (rowOf 0 0)) σ.scale (scalePay (ld (rT 0) σ.sta))) (scalePay (ld (rT 1) σ.sta)) := by
  subst h; exact ⟨rfl, rfl, rfl, rfl, rfl, rfl, rfl, rfl, rfl, rfl⟩

theorem execs_middle (σ2 : St F) (σ3 : St F) (h : σ3 = execs [.sb 0, .sb 1] σ2) :
    σ3.ca = σ2.ca ∧ σ3.xsa = σ2.xsa ∧ σ3.sta = σ2.sta ∧ σ3.xsb = σ2.xsb ∧ σ3.q = σ2.q ∧ σ3.k = σ2.k ∧ σ3.v = σ2.v
      ∧ σ3.codes = σ2.codes
      ∧ σ3.scale = st (rG (rowOf 1 1)) (st (rG (rowOf 1 0)) σ2.scale (scalePay (ld (rT 0) σ2.stb))) (scalePay (ld (rT 1) σ2.stb)) := by
  subst h; exact ⟨rfl, rfl, rfl, rfl, rfl, rfl, rfl, rfl, rfl⟩

attribute [local irreducible] execs

/-- Every array after a point's steps. -/
theorem execs_body (σ : St F) :
    (execs bodyActs σ).ca = chainC σ.xa order σ.ca ∧ (execs bodyActs σ).xsa = chainS σ.xa order σ.xsa
      ∧ (execs bodyActs σ).sta = chainT σ.xa order σ.sta
      ∧ (execs bodyActs σ).codes = chainO σ.xb order (st rD σ.codes (ld rW2 σ.ca))
      ∧ (execs bodyActs σ).scale = st (rG (rowOf 1 1)) (st (rG (rowOf 1 0)) (st (rG (rowOf 0 1)) (st (rG (rowOf 0 0)) σ.scale (scalePay (ld (rT 0) σ.sta))) (scalePay (ld (rT 1) σ.sta)))
          (scalePay (ld (rT 0) (chainT σ.xb order σ.stb)))) (scalePay (ld (rT 1) (chainT σ.xb order σ.stb)))
      ∧ (execs bodyActs σ).q = fillQs 1 (chainS σ.xb order σ.xsb) σ.w σ.ws σ.bi (fillQs 0 σ.xsa σ.w σ.ws σ.bi σ.q)
      ∧ (execs bodyActs σ).k = fillK 1 (tile (chainS σ.xb order σ.xsb) σ.w σ.ws σ.bi 7) heads (fillK 0 (tile σ.xsa σ.w σ.ws σ.bi 7) heads σ.k)
      ∧ (execs bodyActs σ).v = fillK 1 (tile (chainS σ.xb order σ.xsb) σ.w σ.ws σ.bi 8) heads (fillK 0 (tile σ.xsa σ.w σ.ws σ.bi 8) heads σ.v) := by
  have e0 : execs bodyActs σ = execs actsB (execs [.sb 0, .sb 1] (execs actsA (execs [.cOut, .sa 0, .sa 1] σ))) := by
    rw [bodyActs_eq, execs_append, execs_append, execs_append]
  rw [e0]
  exact join σ _ _ _ _ (execs_same _ _) (execs_same _ _) (execs_same _ _) (execs_begin σ _ rfl) (execs_actsA _)
    (execs_middle _ _ rfl) (execs_actsB _)

attribute [local semireducible] execs

/-- The steps of a point, from contents whose scratch holds the half `x` quantised. -/
theorem body_good (σ : St F) (x : S2x128x3584.Idx → Elt F .bf16) (h : σ.holds x) : (execs bodyActs σ).Good σ x := by
  obtain ⟨hc, hs, ht⟩ := h
  obtain ⟨eca, exsa, esta, eco, esc, eq, ek, ev⟩ := execs_body σ
  refine ⟨execs_same _ _, ?_, ?_, ?_, ?_, ?_, ?_, ?_, ?_⟩
  · rw [eq, chainS_spec _ _ order_all, hs]
    exact fillQs_both (fun g => specS (both x σ.xb g)) σ.w σ.ws σ.bi σ.q
  · rw [ek, chainS_spec _ _ order_all, hs]
    exact fillK_both (fun g => specS (both x σ.xb g)) σ.w σ.ws σ.bi 7 σ.k
  · rw [ev, chainS_spec _ _ order_all, hs]
    exact fillK_both (fun g => specS (both x σ.xb g)) σ.w σ.ws σ.bi 8 σ.v
  · rw [eco, chainO_spec _ _ _ order_all, hc]
  · rw [esc]
    exact stG_both (both x σ.xb) _ _ _ ht (chainT_spec σ.xb order order_all σ.stb)
  · rw [eca, chainC_spec _ _ order_all]
  · rw [exsa, chainS_spec _ _ order_all]
  · intro b j r
    rw [esta, chainT_spec _ _ order_all]

/-- The first point's own steps leave its first half quantised. -/
theorem init_good (σ : St F) : (execs initActs σ).holds σ.x0 := by
  have h1 : (execs initActs σ).ca = chainC σ.x0 order0 σ.ca := by rw [chainC_cons, chainC_cons, (chain_nil σ.x0 (fillC σ.x0 1 (List.finRange 28) (fillC σ.x0 0 (List.finRange 28) σ.ca)) σ.codes σ.xsa σ.sta).1]; rfl
  have h2 : (execs initActs σ).xsa = chainS σ.x0 order0 σ.xsa := by rw [chainS_cons, chainS_cons, (chain_nil σ.x0 σ.ca σ.codes (fillS σ.x0 1 (List.finRange 28) (fillS σ.x0 0 (List.finRange 28) σ.xsa)) σ.sta).2.2.1]; rfl
  have h3 : (execs initActs σ).sta = chainT σ.x0 order0 σ.sta := by rw [chainT_cons, chainT_cons, (chain_nil σ.x0 σ.ca σ.codes σ.xsa (fillT σ.x0 1 (List.finRange 28) (fillT σ.x0 0 (List.finRange 28) σ.sta))).2.2.2]; rfl
  refine ⟨?_, ?_, fun b j r => ?_⟩
  · rw [h1, chainC_spec _ _ order0_all]
  · rw [h2, chainS_spec _ _ order0_all]
  · rw [h3, chainT_spec _ _ order0_all]

/-- The first point's steps. -/
theorem first_good (σ : St F) : (execs (initActs ++ bodyActs) σ).Good σ σ.x0 := by
  have e : execs (initActs ++ bodyActs) σ = execs bodyActs (execs initActs σ) := List.foldl_append
  have hs := execs_same initActs σ
  have hg := body_good (execs initActs σ) σ.x0 (init_good σ)
  rw [e]
  obtain ⟨s1, s2, s3, s4, s5, s6⟩ := hs
  obtain ⟨⟨g1, g2, g3, g4, g5, g6⟩, gq, gk, gv, gc, gs, gn⟩ := hg
  rw [s3, s4, s5, s6] at gq gk gv
  rw [s3] at gc gs
  rw [s2] at gn
  exact ⟨⟨g1.trans s1, g2.trans s2, g3.trans s3, g4.trans s4, g5.trans s5, g6.trans s6⟩, gq, gk, gv, gc, gs, gn⟩

end Cert.Kernel.Run

end
-- ==== Proof.WordRun.lean ====
/-
  The run: the arrays and the scratch between the grid's points, the body at a point, the launch, and the results' blocks.
-/
module

public import proofs.«01_k».proof.Proof.WordWhole

@[expose] public section

set_option maxRecDepth 16384

noncomputable section

namespace Cert.Kernel.Run

open Cert.Kernel Cert.Kernel.Facts₀ Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-! ## What each point works on -/

/-- The first half's block that the scratch holds quantised when point `n` begins: the one fetched for the first point,
    then the one fetched for the point before. -/
def xh (c : Dev nD) (n : ℕ) : S2x128x3584.Idx → Elt F .bf16 :=
  if n = 0 then iblk m c 0 ⟨0, by decide⟩ else iblk m c 1 ⟨(n - 1) % 64, Nat.mod_lt _ (by decide)⟩

/-- The point's second half, the weights, their scales, the bias. -/
def xB (c : Dev nD) (t : Fin cfg0.N) : S2x128x3584.Idx → Elt F .bf16 := iblk m c 2 t
def wB (c : Dev nD) (t : Fin cfg0.N) : S3584x4608.Idx → Elt F .fp8e4m3 := iblk m c 3 t
def wsB (c : Dev nD) (t : Fin cfg0.N) : S1x4608.Idx → Elt F .f32 := iblk m c 4 t
def biB (c : Dev nD) (t : Fin cfg0.N) : S1x4608.Idx → Elt F .bf16 := iblk m c 5 t

/-- The point's halves. -/
abbrev halves (c : Dev nD) (t : Fin cfg0.N) : Fin 2 → S2x128x3584.Idx → Elt F .bf16 := both (xh m c t.val) (xB m c t)

/-- The results' blocks the point leaves. -/
def qB (c : Dev nD) (t : Fin cfg0.N) : S4x28x128x128.Idx → Elt F .bf16 :=
  specQ (fun g => specS (halves m c t g)) (wB m c t) (wsB m c t) (biB m c t)
def kB (c : Dev nD) (t : Fin cfg0.N) : S4x128x4x128.Idx → Elt F .bf16 :=
  specK (fun g => specS (halves m c t g)) (wB m c t) (wsB m c t) (biB m c t) 7
def vB (c : Dev nD) (t : Fin cfg0.N) : S4x128x4x128.Idx → Elt F .bf16 :=
  specK (fun g => specS (halves m c t g)) (wB m c t) (wsB m c t) (biB m c t) 8
def cB (c : Dev nD) (t : Fin cfg0.N) : S4x128x3584.Idx → Elt F .fp8e4m3 := specO (specC (xh m c t.val)) (xB m c t)
def sB (c : Dev nD) (t : Fin cfg0.N) : S28x4x128.Idx → Elt F .f32 := specG (halves m c t)

/-! ## The proof data -/

/-- Between the points: the scratch at something, which after the first point is the next first half quantised. -/
def Φc (c : Dev nD) (n : ℕ) : sProp 𝕄 :=
  iprop(∃ (xsa xsb : S256x3584.Idx → Elt F .bf16) (ca : S2x128x3584.Idx → Elt F .fp8e4m3) (sta stb : S2x128x128.Idx → Elt F .f32),
    ⌜n ≠ 0 → ca = specC (xh m c n) ∧ xsa = specS (xh m c n) ∧ ∀ b j r, sta (ValueIdx.ix3 (n0 := 2) (n1 := 128) (n2 := 128) b r (lane j)) = specT (xh m c n) b j r⌝
    ∗ owns (c : Thread nD τ) (Memref.whole cc0_scratch0) fullShare xsa ∗ owns (c : Thread nD τ) (Memref.whole cc0_scratch1) fullShare xsb
    ∗ owns (c : Thread nD τ) (Memref.whole cc0_scratch2) fullShare ca ∗ owns (c : Thread nD τ) (Memref.whole cc0_scratch3) fullShare sta
    ∗ owns (c : Thread nD τ) (Memref.whole cc0_scratch4) fullShare stb ∗ ∃ r, prngReg c r)

/-- Each window's array as the region finds it, and its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qB m c t
    | ⟨7, _⟩ => kB m c t
    | ⟨8, _⟩ => vB m c t
    | ⟨9, _⟩ => cB m c t
    | ⟨10, _⟩ => sB m c t
  Φ t := Φc m c t.val
  q w := Pipeline.shareOf spec0 w
  owed _ := 0

theorem A_eq (c : Dev nD) (w : Fin cfg0.W) : (dats m 0 c).A w = V m c (Pipeline.arrRef spec0 w) := by
  dsimp only [dats]

abbrev 𝒱₀ : Variants := Variants.none

/-! ## The body at a point -/

/-- The buffers the body works on at point `t`. -/
def bufs (t : Fin cfg0.N) : Bufs where
  a1 := win0_0.stage (cfg0.slots t 0)
  h1 := Gen.hstage0_0 ((cfg0.slots t 0).cast Gen.nbuf0_0)
  a2 := win0_1.stage (cfg0.slots t 1)
  h2 := Gen.hstage0_1 ((cfg0.slots t 1).cast Gen.nbuf0_1)
  a3 := win0_2.stage (cfg0.slots t 2)
  h3 := Gen.hstage0_2 ((cfg0.slots t 2).cast Gen.nbuf0_2)
  a4 := win0_3.stage (cfg0.slots t 3)
  h4 := Gen.hstage0_3 ((cfg0.slots t 3).cast Gen.nbuf0_3)
  a5 := win0_4.stage (cfg0.slots t 4)
  h5 := Gen.hstage0_4 ((cfg0.slots t 4).cast Gen.nbuf0_4)
  a6 := win0_5.stage (cfg0.slots t 5)
  h6 := Gen.hstage0_5 ((cfg0.slots t 5).cast Gen.nbuf0_5)
  a7 := win0_6.stage (cfg0.slots t 6)
  h7 := Gen.hstage0_6 ((cfg0.slots t 6).cast Gen.nbuf0_6)
  a8 := win0_7.stage (cfg0.slots t 7)
  h8 := Gen.hstage0_7 ((cfg0.slots t 7).cast Gen.nbuf0_7)
  a9 := win0_8.stage (cfg0.slots t 8)
  h9 := Gen.hstage0_8 ((cfg0.slots t 8).cast Gen.nbuf0_8)
  a10 := win0_9.stage (cfg0.slots t 9)
  h10 := Gen.hstage0_9 ((cfg0.slots t 9).cast Gen.nbuf0_9)
  a11 := win0_10.stage (cfg0.slots t 10)
  h11 := Gen.hstage0_10 ((cfg0.slots t 10).cast Gen.nbuf0_10)
  a12 := Memref.whole cc0_scratch0
  h12 := Memref.isWhole_whole _
  a13 := Memref.whole cc0_scratch1
  h13 := Memref.isWhole_whole _
  a14 := Memref.whole cc0_scratch2
  h14 := Memref.isWhole_whole _
  a15 := Memref.whole cc0_scratch3
  h15 := Memref.isWhole_whole _
  a16 := Memref.whole cc0_scratch4
  h16 := Memref.isWhole_whole _

attribute [local irreducible] cc0_qkv_fp8_block in
/-- The body at point `t` takes contents to what the point's steps make of them. -/
theorem body_runs (c : Dev nD) (t : Fin cfg0.N) (σ : St F) :
    Runs (bufs t) c σ (defs₀ .tc cfg0.body (cfg0.bodyArgs t (cfg0.slots t)))
      (execs (if isFirst (grid0.coords t) = 1#1 then initActs ++ bodyActs else bodyActs) σ) :=
  show Runs (bufs t) c σ (bodyAt0 t) _ from does_body (B := bufs t) (c := c) (grid0.coords t) σ

/-- The first point is the one numbered zero. -/
theorem isFirst_iff : ∀ t : Fin cfg0.N, isFirst (grid0.coords t) = 1#1 ↔ t.val = 0 := by decide

/-- What a point's steps leave, from scratch that holds its first half quantised (or at the first point any). -/
theorem point_good (c : Dev nD) (t : Fin cfg0.N) (σ : St F) (h0 : σ.x0 = iblk m c 0 t) (hx : t.val ≠ 0 → σ.holds (xh m c t.val)) :
    (execs (if isFirst (grid0.coords t) = 1#1 then initActs ++ bodyActs else bodyActs) σ).Good σ (xh m c t.val) := by
  by_cases ht : t.val = 0
  · rw [if_pos ((isFirst_iff t).mpr ht)]
    have e : xh m c t.val = σ.x0 := by
      have et : t = ⟨0, by decide⟩ := Fin.ext ht
      rw [h0]; unfold xh; rw [if_pos ht, et]
    rw [e]; exact first_good σ
  · rw [if_neg (fun h => ht ((isFirst_iff t).mp h))]
    exact body_good σ _ (hx ht)

/-- The half a point quantises for the next one. -/
theorem xh_succ (c : Dev nD) (t : Fin cfg0.N) : xh m c (t.val + 1) = iblk m c 1 t := by
  have ht : t.val < 64 := t.isLt
  unfold xh
  rw [if_neg (by omega)]
  have et : (⟨(t.val + 1 - 1) % 64, Nat.mod_lt _ (by decide)⟩ : Fin cfg0.N) = t := Fin.ext (by show (t.val + 1 - 1) % 64 = t.val; omega)
  rw [et]

/-- The body at point `t`, with what is wanted after it. -/
theorem body_wand (c : Dev nD) (t : Fin cfg0.N) (σ ρ : St F)
    (e : execs (if isFirst (grid0.coords t) = 1#1 then initActs ++ bodyActs else bodyActs) σ = ρ) (Q : PUnit → sProp 𝕄) :
    iprop(own (bufs t) c σ ∗ (own (bufs t) c ρ -∗ Q ⟨⟩))
      ⊢ wp frame (wpE (defs₀ (F := F)) 𝒱₀ (c : Thread nD τ) none) Set.univ (defs₀ .tc cfg0.body (cfg0.bodyArgs t (cfg0.slots t))) Q := by
  subst e
  exact (sep_mono_left (body_runs c t σ 𝒱₀ (fun _ => own (bufs t) c _) Entails.rfl)).trans
    ((wp_frame_r _ _ _).trans (wp_mono _ _ _ fun _ => by iintro ⟨H, K⟩; iapply K; iexact H))

end Cert.Kernel.Run

end
-- ==== Proof.WordLaunch.lean ====
/-
  The launch: the body obligation at every point, and the run of the whole program.
-/
module

public import proofs.«01_k».proof.Proof.WordRun

@[expose] public section

set_option maxRecDepth 16384

noncomputable section

namespace Cert.Kernel.Run

open Cert.Kernel Cert.Kernel.Facts₀ Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- What a point leaves: the input blocks as they were, the results' blocks, the scratch with the next half quantised. -/
def left (c : Dev nD) (t : Fin cfg0.N) : sProp 𝕄 :=
  iprop(owns (c : Thread nD τ) (bufs t).a1 fullShare (iblk m c 0 t) ∗ owns (c : Thread nD τ) (bufs t).a2 fullShare (iblk m c 1 t)
    ∗ owns (c : Thread nD τ) (bufs t).a3 fullShare (xB m c t) ∗ owns (c : Thread nD τ) (bufs t).a4 fullShare (wB m c t)
    ∗ owns (c : Thread nD τ) (bufs t).a5 fullShare (wsB m c t) ∗ owns (c : Thread nD τ) (bufs t).a6 fullShare (biB m c t)
    ∗ owns (c : Thread nD τ) (bufs t).a7 fullShare (qB m c t) ∗ owns (c : Thread nD τ) (bufs t).a8 fullShare (kB m c t)
    ∗ owns (c : Thread nD τ) (bufs t).a9 fullShare (vB m c t) ∗ owns (c : Thread nD τ) (bufs t).a10 fullShare (cB m c t)
    ∗ owns (c : Thread nD τ) (bufs t).a11 fullShare (sB m c t)
    ∗ ∃ (xsa xsb : S256x3584.Idx → Elt F .bf16) (ca : S2x128x3584.Idx → Elt F .fp8e4m3) (sta stb : S2x128x128.Idx → Elt F .f32),
      ⌜t.val + 1 ≠ 0 → ca = specC (xh m c (t.val + 1)) ∧ xsa = specS (xh m c (t.val + 1)) ∧ ∀ b j r, sta (ValueIdx.ix3 (n0 := 2) (n1 := 128) (n2 := 128) b r (lane j)) = specT (xh m c (t.val + 1)) b j r⌝
      ∗ owns (c : Thread nD τ) (bufs t).a12 fullShare xsa ∗ owns (c : Thread nD τ) (bufs t).a13 fullShare xsb
      ∗ owns (c : Thread nD τ) (bufs t).a14 fullShare ca ∗ owns (c : Thread nD τ) (bufs t).a15 fullShare sta
      ∗ owns (c : Thread nD τ) (bufs t).a16 fullShare stb)

/-- Contents after a point are what `left` lists. -/
theorem own_left (c : Dev nD) (t : Fin cfg0.N) (ρ σ : St F) (hG : ρ.Good σ (xh m c t.val))
    (e0 : σ.x0 = iblk m c 0 t) (ea : σ.xa = iblk m c 1 t) (eb : σ.xb = xB m c t) (ew : σ.w = wB m c t) (es : σ.ws = wsB m c t)
    (ei : σ.bi = biB m c t) : own (bufs t) c ρ ⊢ left m c t := by
  obtain ⟨s0, sa, sb, sw, ss, si⟩ := hG.same
  have hn := hG.next
  have hq := hG.q
  have hk := hG.k
  have hv := hG.v
  have hc := hG.codes
  have hs := hG.scale
  rw [ea, ← xh_succ] at hn
  rw [eb, ew, es, ei] at hq hk hv
  rw [eb] at hc hs
  unfold own left
  rw [s0, sa, sb, sw, ss, si, e0, ea, eb, ew, es, ei, hq, hk, hv, hc, hs]
  iintro ⟨H0, H1, H2, H3, H4, H5, H6, H7, H8, H9, H10, S1, S2, S3, S4, S5⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexists _; iexists _; iexists _; iexists _
  isplitr; · ipureintro; exact fun _ => hn
  isplitl [S1]; · iexact S1
  isplitl [S2]; · iexact S2
  isplitl [S3]; · iexact S3
  isplitl [S4]; · iexact S4
  iexact S5

/-- The body at point `t`, from the blocks fetched and the scratch as the point before left it. -/
theorem point_runs (c : Dev nD) (t : Fin cfg0.N) (σ : St F)
    (e0 : σ.x0 = iblk m c 0 t) (ea : σ.xa = iblk m c 1 t) (eb : σ.xb = xB m c t) (ew : σ.w = wB m c t) (es : σ.ws = wsB m c t)
    (ei : σ.bi = biB m c t) (hx : t.val ≠ 0 → σ.holds (xh m c t.val)) (Q : PUnit → sProp 𝕄) :
    iprop(own (bufs t) c σ ∗ (left m c t -∗ Q ⟨⟩))
      ⊢ wp frame (wpE (defs₀ (F := F)) 𝒱₀ (c : Thread nD τ) none) Set.univ (defs₀ .tc cfg0.body (cfg0.bodyArgs t (cfg0.slots t))) Q :=
  (sep_mono_right (wand_mono (own_left m c t _ σ (point_good m c t σ e0 hx) e0 ea eb ew es ei) Entails.rfl)).trans
    (body_wand c t σ _ rfl Q)

/-- The blocks after the body, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = xB m c t := by dsimp only [dats]; rfl
theorem after_3 (c : Dev nD) (t : Fin cfg0.N) : (dats m 0 c).after 3 t = wB m c t := by dsimp only [dats]; rfl
theorem after_4 (c : Dev nD) (t : Fin cfg0.N) : (dats m 0 c).after 4 t = wsB m c t := by dsimp only [dats]; rfl
theorem after_5 (c : Dev nD) (t : Fin cfg0.N) : (dats m 0 c).after 5 t = biB m c t := by dsimp only [dats]; rfl
theorem after_6 (c : Dev nD) (t : Fin cfg0.N) : (dats m 0 c).after 6 t = qB m c t := by dsimp only [dats]
theorem after_7 (c : Dev nD) (t : Fin cfg0.N) : (dats m 0 c).after 7 t = kB m c t := by dsimp only [dats]
theorem after_8 (c : Dev nD) (t : Fin cfg0.N) : (dats m 0 c).after 8 t = vB m c t := by dsimp only [dats]
theorem after_9 (c : Dev nD) (t : Fin cfg0.N) : (dats m 0 c).after 9 t = cB m c t := by dsimp only [dats]
theorem after_10 (c : Dev nD) (t : Fin cfg0.N) : (dats m 0 c).after 10 t = sB m c t := by dsimp only [dats]

set_option maxHeartbeats 4000000 in
/-- The library's body obligation. -/
theorem body_obligation (c : Dev nD) : BodyObligation (dats m 0 c) (defs₀ (F := F)) 𝒱₀ () Set.univ := fun t => by
  rw [bigSep_W0, bigSep_W0]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl),
    before0_4_of m (dats m 0 c) (A_eq m c 4) (fun _ => rfl), before0_5_of m (dats m 0 c) (A_eq m c 5) (fun _ => rfl)]
  rw [show (dats m 0 c).Φ t.castSucc = Φc m c t.val from rfl, show (dats m 0 c).Φ t.succ = Φc m c (t.val + 1) from rfl]
  simp only [after_0, after_1, after_2, after_3, after_4, after_5, after_6, after_7, after_8, after_9, after_10]
  unfold Φc Dat.owesAt Pipeline.owesWithin
  rw [show (dats m 0 c).owed t.castSucc = 0 from rfl, show (dats m 0 c).owed t.succ = 0 from rfl]
  iintro ⟨⟨%xsa, %xsb, %ca, %sta, %stb, %hx, S1, S2, S3, S4, S5, HP⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (point_runs m c t ⟨iblk m c 0 t, iblk m c 1 t, xB m c t, wB m c t, wsB m c t, biB m c t, (dats m 0 c).before 6 t d6, (dats m 0 c).before 7 t d7, (dats m 0 c).before 8 t d8, (dats m 0 c).before 9 t d9, (dats m 0 c).before 10 t d10, xsa, xsb, ca, sta, stb⟩ rfl rfl rfl rfl rfl rfl hx _)
  unfold own left
  isplitl [H0 H1 H2 H3 H4 H5 H6 H7 H8 H9 H10 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S1]; · iexact S1
    isplitl [S2]; · iexact S2
    isplitl [S3]; · iexact S3
    isplitl [S4]; · iexact S4
    iexact S5
  iintro ⟨H0, H1, H2, H3, H4, H5, H6, H7, H8, H9, H10, %xsa', %xsb', %ca', %sta', %stb', %hn, S1, S2, S3, S4, S5⟩
  isplitl [S1 S2 S3 S4 S5 HP]
  · iexists xsa'; iexists xsb'; iexists ca'; iexists sta'; iexists stb'
    isplitr; · ipureintro; exact hn
    isplitl [S1]; · iexact S1
    isplitl [S2]; · iexact S2
    isplitl [S3]; · iexact S3
    isplitl [S4]; · iexact S4
    isplitl [S5]; · iexact S5
    iexact HP
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The launch -/

/-- Before the first point the scratch is at something. -/
theorem hin (c : Dev nD) : Pipeline.ΦA spec0 c ⊢ (dats m 0 c).Φ 0 := by
  rw [show (dats m 0 c).Φ 0 = Φc m c 0 from rfl]
  unfold Φc Pipeline.ΦA
  rw [scopedRest0_eq]
  simp only [owns_whole_eq]
  iintro ⟨⟨⟨%f0, S0⟩, ⟨%f1, S1⟩, ⟨%f2, S2⟩, ⟨%f3, S3⟩, ⟨%f4, S4⟩⟩, HP⟩
  iexists f0; iexists f1; iexists f2; iexists f3; iexists f4
  isplitr; · ipureintro; exact fun h => absurd rfl h
  isplitl [S0]; · iexists f0; isplitr; · ipureintro; rfl
                  iexact S0
  isplitl [S1]; · iexists f1; isplitr; · ipureintro; rfl
                  iexact S1
  isplitl [S2]; · iexists f2; isplitr; · ipureintro; rfl
                  iexact S2
  isplitl [S3]; · iexists f3; isplitr; · ipureintro; rfl
                  iexact S3
  isplitl [S4]; · iexists f4; isplitr; · ipureintro; rfl
                  iexact S4
  iexact HP

/-- After the last point the scratch is at something. -/
theorem hout (c : Dev nD) : (dats m 0 c).Φ (Fin.last cfg0.N) ⊢ Pipeline.ΦA spec0 c := by
  rw [show (dats m 0 c).Φ (Fin.last cfg0.N) = Φc m c cfg0.N from rfl]
  unfold Φc Pipeline.ΦA
  rw [scopedRest0_eq]
  simp only [owns_whole_eq]
  iintro ⟨%xsa, %xsb, %ca, %sta, %stb, -, ⟨%f0, %h0, S0⟩, ⟨%f1, %h1, S1⟩, ⟨%f2, %h2, S2⟩, ⟨%f3, %h3, S3⟩, ⟨%f4, %h4, S4⟩, HP⟩
  isplitl [S0 S1 S2 S3 S4]
  · isplitl [S0]; · iexists f0; iexact S0
    isplitl [S1]; · iexists f1; iexact S1
    isplitl [S2]; · iexists f2; iexact S2
    isplitl [S3]; · iexists f3; iexact S3
    iexists f4; iexact S4
  iexact HP

/-- What the region and the two transposes after it leave. -/
def Post (r : PUnit × MemSt nD τ sig (Elt F)) : Prop :=
  Pipeline.FramePost cfgs (dats m) 0 (Pipeline.afterTail₀ cfgs (dats m) 0 (V0 m) [hostOps1]) r ∧ r.2.sem = (fun _ => 0)

set_option backward.isDefEq.respectTransparency.types false in
/-- Every run of the program ends with `Post`. -/
theorem run_post : θ_run (Cert.Kernel.defs (F := F)) (onTc (Cert.Kernel.main (F := F))) (s₀ m g) (Post m) :=
  Pipeline.θ_run_frame_around_track_shared cfgs (dats m) 0 launch₀0 defs₀ 𝒱₀ m g (Cert.Kernel.main (F := F))
    (fun c => (body_obligation m c).loose) (fun c w _ => rfl) (fun c t => rfl) (V0 m) [hostOps1] sfx_sub sfx_fresh sfx_keeps
    (hmain m 𝒱₀) (fun c w => A_eq m c w) (hin m) (hout m) (Post m) (fun r h => h)

end Cert.Kernel.Run

end
-- ==== Proof.Frames.lean ====
/-
  The frames: each of the three programs runs, leaves its arguments as they were, and ends with every semaphore counter at zero.
-/
module

public import proofs.«01_k».proof.Defs
public import proofs.«01_k».proof.Proof.Launch
public import proofs.«01_k».proof.Proof.WordLaunch
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- The kernel as compiled keeps its frame. -/
theorem kernel_frame : Cert.quiescent_Kernel := fun m g _ =>
  θ_run_and (Cert.Kernel.Gen.frame_of m g (Cert.Kernel.Run.dats m) (Cert.Kernel.Run.A_eq m)
      ((θ_run _ _ _).mono (fun _ h => h.1) (Cert.Kernel.Run.run_post m g)))
    ((θ_run _ _ _).mono (fun _ h => h.2) (Cert.Kernel.Run.run_post m g))

/-- The idealised kernel keeps its frame. -/
theorem ideal_frame : Cert.quiescent_KernelIdeal := fun m g _ =>
  θ_run_and (Cert.KernelIdeal.Gen.frame_of m g (Cert.KernelIdeal.Run.dats m) (Cert.KernelIdeal.Run.A_eq m)
      ((θ_run _ _ _).mono (fun _ h => h.1) (Cert.KernelIdeal.Run.run_post m g)))
    ((θ_run _ _ _).mono (fun _ h => h.2) (Cert.KernelIdeal.Run.run_post m g))

/-- The idealised reference keeps its frame. -/
theorem reference_frame : Cert.quiescent_ReferenceIdeal := fun m g _ => Cert.ReferenceIdeal.Gen.frame m g

end Cert.Proof

end
-- ==== Proof.Scale.lean ====
/-
  The arithmetic of one row's scale over the extended reals: the kernel finds the power of two by counting, the reference by
  a logarithm, and for the numbers the precondition admits the two agree.
-/
module

public import Idealize.ShloMosaic.PureOps.Ideal.Laws
public import Mathlib.Algebra.Order.Archimedean.Basic

@[expose] public section

set_option maxRecDepth 16384

noncomputable section

namespace Cert.Row

open Idealize.ShloMosaic

/-! ## The kernel's scale -/

/-- The word `g <<< 23` read as a float. -/
def pw (g : ℕ) : Ideal .f32 := FloatOps.ofBits .f32 (IntOp.shli .vector (BitVec.ofNat 32 g) 23#32)

/-- How many of the 256 words `T` is not below. -/
def count (T : Ideal .f32) : Ideal .f32 :=
  ∑ g : Fin 256, Scalar.select (FloatOps.cmpf .olt T (pw g.val)) (Scalar.ofBits (F := Ideal) .f32 0x00000000#32)
    (Scalar.ofBits (F := Ideal) .f32 0x3F800000#32)

/-- The exponent field counted for `T`. -/
def kField (T : Ideal .f32) : BitVec 32 :=
  IntOp.shli .vector (IntOp.subi (FloatOps.fptosi 32 (count T)) 1#32) 23#32

/-- The kernel's scale at a field. -/
def kScale (f : BitVec 32) : Ideal .f32 :=
  Scalar.select (IntOp.cmpi .eq f 0#32) (Scalar.ofBits (F := Ideal) .f32 0x3F800000#32) (FloatOps.ofBits .f32 (IntOp.addi f 8388608#32))

/-- The kernel's inverse scale at a field. -/
def kInv (f : BitVec 32) : Ideal .f32 :=
  Scalar.select (IntOp.cmpi .eq f 0#32) (Scalar.ofBits (F := Ideal) .f32 0x3F800000#32) (FloatOps.ofBits .f32 (IntOp.subi 2122317824#32 f))

/-! ## The reference's -/

/-- The reference's exponent of `T`: zero below the least normal number, else the floor of the base-two logarithm and one. -/
def rExp (T : Ideal .f32) : Ideal .f32 :=
  Scalar.select (FloatOps.cmpf .olt T (Scalar.ofBits (F := Ideal) .f32 0x00800000#32)) (Scalar.ofBits (F := Ideal) .f32 0x00000000#32)
    (FloatOps.addf (FloatOps.floor (FloatOps.divf (FloatOps.log T) (FloatOps.log (Scalar.ofBits (F := Ideal) .f32 0x40000000#32))))
      (Scalar.ofBits (F := Ideal) .f32 0x3F800000#32))

/-- The reference's scale. -/
def rScale (T : Ideal .f32) : Ideal .f32 := FloatOps.exp2 (rExp T)

/-- The reference's inverse scale. -/
def rInv (T : Ideal .f32) : Ideal .f32 := FloatOps.exp2 (FloatOps.subf (Scalar.ofBits (F := Ideal) .f32 0x00000000#32) (rExp T))

/-! ## The words that are powers of two -/

/-- The shift is that of bit vectors. -/
theorem shl_word (g : ℕ) : IntOp.shli .vector (BitVec.ofNat 32 g) 23#32 = BitVec.ofNat 32 g <<< 23 := rfl

/-- The exponent, fraction and sign of the word `g <<< 23`. -/
theorem word_parts : ∀ g : Fin 255, ((BitVec.ofNat 32 g.val <<< 23).extractLsb' 23 8).toNat = g.val
    ∧ ((BitVec.ofNat 32 g.val <<< 23).extractLsb' 0 23).toNat = 0 ∧ (BitVec.ofNat 32 g.val <<< 23).extractLsb' 31 1 = 0#1 := by
  decide

/-- The same, of a number below 255. -/
theorem word_parts' (g : ℕ) (h : g < 255) : ((BitVec.ofNat 32 g <<< 23).extractLsb' 23 8).toNat = g
    ∧ ((BitVec.ofNat 32 g <<< 23).extractLsb' 0 23).toNat = 0 ∧ (BitVec.ofNat 32 g <<< 23).extractLsb' 31 1 = 0#1 :=
  word_parts ⟨g, h⟩

/-- The first word is zero. -/
theorem pw_zero : pw 0 = (0 : EReal) := by
  show Ideal.ieee 8 23 (BitVec.ofNat 32 0 <<< 23) = 0
  simp [Ideal.ieee]

/-- The last word is infinity. -/
theorem pw_top : pw 255 = (⊤ : EReal) := by
  show Ideal.ieee 8 23 (BitVec.ofNat 32 255 <<< 23) = ⊤
  have e1 : ((BitVec.ofNat 32 255 <<< 23).extractLsb' 23 8).toNat = 255 := by decide
  have e2 : ((BitVec.ofNat 32 255 <<< 23).extractLsb' 0 23).toNat = 0 := by decide
  have e3 : (BitVec.ofNat 32 255 <<< 23).extractLsb' 31 1 = 0#1 := by decide
  simp only [Ideal.ieee, e1, e2, e3]
  norm_num

/-- Between, the word is a power of two. -/
theorem pw_coe (g : ℕ) (h1 : 1 ≤ g) (h2 : g ≤ 254) : pw g = (((2 : ℝ) ^ ((g : ℤ) - 127) : ℝ) : EReal) := by
  show Ideal.ieee 8 23 (BitVec.ofNat 32 g <<< 23) = _
  obtain ⟨e1, e2, e3⟩ := word_parts' g (by omega)
  have e4 : (8 + 23 : ℕ) = 31 := rfl
  simp only [Ideal.ieee, e4, e1, e2, e3]
  rw [if_neg (by omega), if_neg (by omega)]
  rw [EReal.coe_eq_coe_iff]
  have : ((g : ℤ) - 127) = ((g : ℤ) - (2 ^ (8 - 1) - 1) - (23 : ℕ)) + 23 := by norm_num
  rw [this, zpow_add₀ (by norm_num : (2 : ℝ) ≠ 0)]
  norm_num
  ring

/-- The word of one. -/
theorem one_f32 : (Scalar.ofBits (F := Ideal) .f32 0x3F800000#32) = (1 : EReal) := by
  have h := pw_coe 127 (by norm_num) (by norm_num)
  have e : pw 127 = (Scalar.ofBits (F := Ideal) .f32 0x3F800000#32) := rfl
  rw [← e, h]; norm_num

/-- The word of zero. -/
theorem zero_f32 : (Scalar.ofBits (F := Ideal) .f32 0x00000000#32) = (0 : EReal) := pw_zero

/-- The word of two. -/
theorem two_f32 : (Scalar.ofBits (F := Ideal) .f32 0x40000000#32) = ((2 : ℝ) : EReal) := by
  have h := pw_coe 128 (by norm_num) (by norm_num)
  have e : pw 128 = (Scalar.ofBits (F := Ideal) .f32 0x40000000#32) := rfl
  rw [← e, h]; norm_num

/-- The word of the least normal number. -/
theorem min_f32 : (Scalar.ofBits (F := Ideal) .f32 0x00800000#32) = (((2 : ℝ) ^ (-126 : ℤ) : ℝ) : EReal) := by
  have h := pw_coe 1 (by norm_num) (by norm_num)
  have e : pw 1 = (Scalar.ofBits (F := Ideal) .f32 0x00800000#32) := rfl
  rw [← e, h]; norm_num

/-! ## Counting -/

/-- A choice by `<`. -/
theorem select_lt {a b : EReal} (T P : EReal) : Scalar.select (FloatOps.cmpf (F := Ideal) (φ := .f32) .olt T P) a b = if T < P then a else b := by
  show (if BitVec.ofBool (decide (T < P)) = 1 then a else b) = _
  by_cases h : T < P <;> simp [h]

/-- Of 256 numbers, `f + 1` are at most `f`. -/
theorem card_le (f : ℕ) (hf : f < 256) : (∑ g : Fin 256, if f < g.val then (0 : ℕ) else 1) = f + 1 := by
  rw [Fin.sum_univ_eq_sum_range (fun g => if f < g then (0 : ℕ) else 1) 256, Finset.sum_ite]
  have : (Finset.range 256).filter (fun g => ¬ f < g) = Finset.range (f + 1) := by
    ext g; simp only [Finset.mem_filter, Finset.mem_range]; omega
  rw [this]; simp

/-- If the words `T` is below are those past `f`, the count is `f + 1`. -/
theorem count_eq (T : EReal) (f : ℕ) (hf : f < 256) (h : ∀ g : Fin 256, T < pw g.val ↔ f < g.val) : count T = (((f + 1 : ℕ) : ℝ) : EReal) := by
  have e : count T = ((∑ g : Fin 256, if f < g.val then (0 : ℕ) else 1 : ℕ) : EReal) := by
    unfold count
    rw [Nat.cast_sum]
    refine Finset.sum_congr rfl fun g _ => ?_
    rw [select_lt, zero_f32, one_f32]
    by_cases hg : f < g.val
    · rw [if_pos ((h g).2 hg), if_pos hg]; norm_num
    · rw [if_neg (fun hh => hg ((h g).1 hh)), if_neg hg]; norm_num
  rw [e, card_le f hf]
  exact (EReal.coe_natCast).symm

/-- One off the count, shifted, is the field's word. -/
theorem sub_one : ∀ f : Fin 254, IntOp.shli .vector (IntOp.subi (BitVec.ofInt 32 ((f.val + 1 : ℕ) : ℤ)) 1#32) 23#32
    = IntOp.shli .vector (BitVec.ofNat 32 f.val) 23#32 := by decide

/-- If the words `T` is below are those past `f`, the field counted is `f`. -/
theorem field_eq (T : EReal) (f : ℕ) (hf : f < 254) (h : ∀ g : Fin 256, T < pw g.val ↔ f < g.val) :
    kField T = IntOp.shli .vector (BitVec.ofNat 32 f) 23#32 := by
  unfold kField
  rw [count_eq T f (by omega) h]
  have e : FloatOps.fptosi (F := Ideal) (φ := .f32) 32 ((((f + 1 : ℕ) : ℝ) : EReal)) = BitVec.ofInt 32 ((f + 1 : ℕ) : ℤ) := by
    show BitVec.ofInt 32 (Ideal.toIntClamped _ _ ((((f + 1 : ℕ) : ℝ) : EReal))) = _
    rw [Ideal.toIntClamped_coe, if_pos (by positivity), Int.floor_natCast]
    congr 1
    norm_num
    omega
  rw [e]
  exact sub_one ⟨f, hf⟩

/-- The scale's field is one more. -/
theorem up_word : ∀ f : Fin 254, IntOp.addi (IntOp.shli .vector (BitVec.ofNat 32 f.val) 23#32) 8388608#32
    = IntOp.shli .vector (BitVec.ofNat 32 (f.val + 1)) 23#32 := by decide
/-- The inverse scale's field is 253 less the field. -/
theorem down_word : ∀ f : Fin 254, IntOp.subi 2122317824#32 (IntOp.shli .vector (BitVec.ofNat 32 f.val) 23#32)
    = IntOp.shli .vector (BitVec.ofNat 32 (253 - f.val)) 23#32 := by decide
/-- A field that is not zero is not the zero word. -/
theorem not_zero : ∀ f : Fin 254, f.val ≠ 0 → IntOp.cmpi .eq (IntOp.shli .vector (BitVec.ofNat 32 f.val) 23#32) 0#32 = 0#1 := by decide

/-- The three together, of a number below 254. -/
theorem words (f : ℕ) (h : f < 254) (h0 : f ≠ 0) :
    IntOp.cmpi .eq (IntOp.shli .vector (BitVec.ofNat 32 f) 23#32) 0#32 = 0#1
    ∧ IntOp.addi (IntOp.shli .vector (BitVec.ofNat 32 f) 23#32) 8388608#32 = IntOp.shli .vector (BitVec.ofNat 32 (f + 1)) 23#32
    ∧ IntOp.subi 2122317824#32 (IntOp.shli .vector (BitVec.ofNat 32 f) 23#32) = IntOp.shli .vector (BitVec.ofNat 32 (253 - f)) 23#32 :=
  ⟨not_zero ⟨f, h⟩ h0, up_word ⟨f, h⟩, down_word ⟨f, h⟩⟩

/-! ## The two agree -/

/-- Below the least normal number both take one for the scale. -/
theorem small (t : ℝ) (h0 : 0 ≤ t) (h1 : t < (2 : ℝ) ^ (-126 : ℤ)) :
    kScale (kField (t : EReal)) = rScale (t : EReal) ∧ kInv (kField (t : EReal)) = rInv (t : EReal) := by
  have hfield := field_eq (t : EReal) 0 (by norm_num) (by
    intro g
    rcases Nat.eq_zero_or_pos g.val with hg | hg
    · rw [hg, pw_zero]
      simpa using h0
    · refine ⟨fun _ => hg, fun _ => ?_⟩
      rcases Nat.lt_or_ge g.val 255 with h | h
      · rw [pw_coe g.val hg (by omega), EReal.coe_lt_coe_iff]
        exact h1.trans_le (zpow_le_zpow_right₀ (by norm_num) (by omega))
      · rw [show g.val = 255 by omega, pw_top]; exact EReal.coe_lt_top t)
  have he : rExp (t : EReal) = (0 : EReal) := by
    unfold rExp
    rw [select_lt, min_f32, zero_f32, if_pos (by rwa [EReal.coe_lt_coe_iff])]
  have h2 : Ideal.exp2 (0 : EReal) = 1 := by
    rw [← EReal.coe_zero, Ideal.exp2_coe]; simp
  rw [hfield]
  refine ⟨?_, ?_⟩
  · unfold kScale rScale
    rw [he]
    show (Scalar.ofBits (F := Ideal) .f32 0x3F800000#32) = Ideal.exp2 0
    rw [one_f32, h2]
  · unfold kInv rInv
    rw [he, zero_f32]
    show (Scalar.ofBits (F := Ideal) .f32 0x3F800000#32) = Ideal.exp2 ((0 : EReal) - 0)
    rw [one_f32, sub_zero, h2]

/-- The power of two a normal number lies at, as its exponent field. -/
theorem normal_exponent (t : ℝ) (h0 : (2 : ℝ) ^ (-126 : ℤ) ≤ t) (h1 : t < (2 : ℝ) ^ (120 : ℤ)) :
    ∃ f : ℕ, 1 ≤ f ∧ f ≤ 246 ∧ (2 : ℝ) ^ ((f : ℤ) - 127) ≤ t ∧ t < (2 : ℝ) ^ ((f : ℤ) - 126) := by
  have hp : 0 < t := lt_of_lt_of_le (by positivity) h0
  obtain ⟨n, hl, hu⟩ := exists_mem_Ico_zpow hp (by norm_num : (1 : ℝ) < 2)
  have a1 : (-126 : ℤ) < n + 1 := (zpow_lt_zpow_iff_right₀ (by norm_num : (1 : ℝ) < 2)).1 (h0.trans_lt hu)
  have a2 : n < (120 : ℤ) := (zpow_lt_zpow_iff_right₀ (by norm_num : (1 : ℝ) < 2)).1 (hl.trans_lt h1)
  refine ⟨(n + 127).toNat, by omega, by omega, ?_, ?_⟩
  · rw [show (((n + 127).toNat : ℤ) - 127) = n by omega]; exact hl
  · rw [show (((n + 127).toNat : ℤ) - 126) = n + 1 by omega]; exact hu

/-- The power of two of a whole number. -/
theorem exp2_int (n : ℤ) : Ideal.exp2 (((n : ℝ) : ℝ) : EReal) = (((2 : ℝ) ^ n : ℝ) : EReal) := by
  rw [Ideal.exp2_coe]
  congr 1
  exact Real.rpow_intCast 2 n

/-- The reference's exponent of a normal number. -/
theorem rExp_normal (t : ℝ) (f : ℕ) (h0 : (2 : ℝ) ^ (-126 : ℤ) ≤ t) (hl : (2 : ℝ) ^ ((f : ℤ) - 127) ≤ t) (hu : t < (2 : ℝ) ^ ((f : ℤ) - 126)) :
    rExp (t : EReal) = ((((f : ℤ) - 126 : ℤ) : ℝ) : EReal) := by
  have hp : 0 < t := lt_of_lt_of_le (by positivity) h0
  have hlog2 : 0 < Real.log 2 := Real.log_pos (by norm_num)
  unfold rExp
  rw [select_lt, min_f32, if_neg (by rw [EReal.coe_lt_coe_iff]; exact not_lt.2 h0), two_f32, one_f32]
  show Ideal.liftRound Int.floor (Ideal.div (Ideal.log (t : EReal)) (Ideal.log ((2 : ℝ) : EReal))) + 1 = _
  rw [Ideal.log_coe, Ideal.log_coe, if_neg (not_le.2 hp), if_neg (by norm_num), Ideal.div_coe hlog2.ne', ← EReal.coe_mul,
    Ideal.liftRound_coe]
  have e : ⌊Real.log t * (1 / Real.log 2)⌋ = (f : ℤ) - 127 := by
    rw [Int.floor_eq_iff, mul_one_div, le_div_iff₀ hlog2]
    refine ⟨?_, ?_⟩
    · rw [← Real.log_zpow]; exact Real.log_le_log (by positivity) hl
    · rw [div_lt_iff₀ hlog2]
      have : ((((f : ℤ) - 127 : ℤ) : ℝ) + 1) = (((f : ℤ) - 126 : ℤ) : ℝ) := by push_cast; ring
      rw [this, ← Real.log_zpow]
      exact Real.log_lt_log hp hu
  rw [e, ← EReal.coe_one, ← EReal.coe_add]
  congr 1
  push_cast
  ring

/-- At a normal number both take the power of two above it. -/
theorem normal (t : ℝ) (h0 : (2 : ℝ) ^ (-126 : ℤ) ≤ t) (h1 : t < (2 : ℝ) ^ (120 : ℤ)) :
    kScale (kField (t : EReal)) = rScale (t : EReal) ∧ kInv (kField (t : EReal)) = rInv (t : EReal) := by
  obtain ⟨f, hf1, hf2, hl, hu⟩ := normal_exponent t h0 h1
  have hp : 0 < t := lt_of_lt_of_le (by positivity) h0
  have hfield := field_eq (t : EReal) f (by omega) (by
    intro g
    rcases Nat.eq_zero_or_pos g.val with hg | hg
    · rw [hg, pw_zero]
      refine ⟨fun h => absurd h (not_lt.2 (by exact_mod_cast hp.le)), fun h => absurd h (by omega)⟩
    · rcases Nat.lt_or_ge g.val 255 with h | h
      · rw [pw_coe g.val hg (by omega), EReal.coe_lt_coe_iff]
        refine ⟨fun hh => ?_, fun hh => hu.trans_le (zpow_le_zpow_right₀ (by norm_num) (by omega))⟩
        by_contra hc
        exact absurd (hl.trans_lt hh) (not_lt.2 (zpow_le_zpow_right₀ (by norm_num) (by omega)))
      · rw [show g.val = 255 by omega, pw_top]; exact ⟨fun _ => by omega, fun _ => EReal.coe_lt_top t⟩)
  have he := rExp_normal t f h0 hl hu
  obtain ⟨hz, hup, hdn⟩ := words f (by omega) (by omega)
  rw [hfield]
  refine ⟨?_, ?_⟩
  · unfold kScale rScale
    rw [he, hz, hup]
    refine (pw_coe (f + 1) (by omega) (by omega)).trans (Eq.trans ?_ (exp2_int _).symm)
    refine congrArg (fun n : ℤ => (((2 : ℝ) ^ n : ℝ) : EReal)) ?_
    push_cast; ring
  · unfold kInv rInv
    rw [he, hz, hdn, zero_f32]
    have e : ((0 : EReal) - ((((f : ℤ) - 126 : ℤ) : ℝ) : EReal)) = (((-((f : ℤ) - 126) : ℤ) : ℝ) : EReal) := by
      rw [zero_sub, ← EReal.coe_neg, ← Int.cast_neg]
    refine (pw_coe (253 - f) (by omega) (by omega)).trans (Eq.trans ?_ ((congrArg Ideal.exp2 e).trans (exp2_int _)).symm)
    refine congrArg (fun n : ℤ => (((2 : ℝ) ^ n : ℝ) : EReal)) ?_
    omega

/-- For a number from zero up to `2 ^ 120` the two scales agree, and so do their inverses. -/
theorem agree (T : EReal) (h0 : 0 ≤ T) (h1 : T < (((2 : ℝ) ^ (120 : ℤ) : ℝ) : EReal)) :
    kScale (kField T) = rScale T ∧ kInv (kField T) = rInv T := by
  lift T to ℝ using ⟨(h1.trans (EReal.coe_lt_top _)).ne, (lt_of_lt_of_le EReal.bot_lt_zero h0).ne'⟩ with t
  rw [EReal.coe_lt_coe_iff] at h1
  have h0' : 0 ≤ t := by exact_mod_cast h0
  rcases lt_or_ge t ((2 : ℝ) ^ (-126 : ℤ)) with h | h
  · exact small t h0' h
  · exact normal t h h1

/-! ## What the precondition gives -/

/-- The precondition's bound, of the largest finite bf16 number. -/
theorem bound_f32 : (Scalar.ofBits (F := Ideal) .f32 0x7F7F0000#32) = (((255 : ℝ) * (2 : ℝ) ^ (120 : ℤ) : ℝ) : EReal) := by
  show Ideal.ieee 8 23 0x7F7F0000#32 = _
  have e1 : ((0x7F7F0000#32).extractLsb' 23 8).toNat = 254 := by decide
  have e2 : ((0x7F7F0000#32).extractLsb' 0 23).toNat = 8323072 := by decide
  have e3 : (0x7F7F0000#32).extractLsb' 31 1 = 0#1 := by decide
  have e4 : (8 + 23 : ℕ) = 31 := rfl
  simp only [Ideal.ieee, e4, e1, e2, e3]
  rw [if_neg (by norm_num), if_neg (by norm_num)]
  congr 1
  norm_num

/-- The factor that makes the row's largest magnitude into the number the scale is of. -/
theorem factor_f32 : (Scalar.ofBits (F := Ideal) .f32 0x3B124925#32) = (((9586981 : ℝ) * (2 : ℝ) ^ (-32 : ℤ) : ℝ) : EReal) := by
  show Ideal.ieee 8 23 0x3B124925#32 = _
  have e1 : ((0x3B124925#32).extractLsb' 23 8).toNat = 118 := by decide
  have e2 : ((0x3B124925#32).extractLsb' 0 23).toNat = 1198373 := by decide
  have e3 : (0x3B124925#32).extractLsb' 31 1 = 0#1 := by decide
  have e4 : (8 + 23 : ℕ) = 31 := rfl
  simp only [Ideal.ieee, e4, e1, e2, e3]
  rw [if_neg (by norm_num), if_neg (by norm_num)]
  congr 1
  norm_num

/-- The number a row's scale is of: its largest magnitude, times the word nearest 1/448. -/
def top (x : Fin 128 → Ideal .bf16) : Ideal .f32 :=
  FloatOps.mulf ((Finset.univ : Finset (Fin 128)).fold max (FloatOps.ofBits (F := Ideal) .f32 0xFF800000#32)
    (fun l => FloatOps.absf (FloatOps.extf (F := Ideal) .f32 (φ := .bf16) (by decide) (x l)))) (Scalar.ofBits (F := Ideal) .f32 0x3B124925#32)

/-- Of a row within the precondition it lies from zero up to `2 ^ 120`. -/
theorem top_range (x : Fin 128 → Ideal .bf16) (h : ∀ l, max (x l) (-(x l : EReal)) ≤ (Scalar.ofBits (F := Ideal) .f32 0x7F7F0000#32 : EReal)) :
    (0 : EReal) ≤ top x ∧ (top x : EReal) < (((2 : ℝ) ^ (120 : ℤ) : ℝ) : EReal) := by
  have hinf : (FloatOps.ofBits (F := Ideal) .f32 0xFF800000#32 : EReal) = ⊥ := by
    show Ideal.ieee 8 23 0xFF800000#32 = ⊥
    have e1 : ((0xFF800000#32).extractLsb' 23 8).toNat = 255 := by decide
    have e2 : ((0xFF800000#32).extractLsb' 0 23).toNat = 0 := by decide
    have e3 : (0xFF800000#32).extractLsb' 31 1 = 1#1 := by decide
    have e4 : (8 + 23 : ℕ) = 31 := rfl
    simp only [Ideal.ieee, e4, e1, e2, e3]
    norm_num
  obtain ⟨M, hM⟩ : ∃ M : EReal, (Finset.univ : Finset (Fin 128)).fold max (FloatOps.ofBits (F := Ideal) .f32 0xFF800000#32)
    (fun l => FloatOps.absf (FloatOps.extf (F := Ideal) .f32 (φ := .bf16) (by decide) (x l))) = M := ⟨_, rfl⟩
  have h1 : M ≤ (((255 : ℝ) * (2 : ℝ) ^ (120 : ℤ) : ℝ) : EReal) := by
    rw [← hM, ← bound_f32]
    refine Finset.fold_max_le _ |>.2 ⟨?_, fun l _ => h l⟩
    rw [hinf]; exact bot_le
  have h0 : 0 ≤ M := by
    rw [← hM]
    refine Finset.le_fold_max _ |>.2 (Or.inr ⟨0, Finset.mem_univ _, ?_⟩)
    show (0 : EReal) ≤ max (x 0) (-(x 0 : EReal))
    rcases le_total (0 : EReal) (x 0) with hx | hx
    · exact le_max_of_le_left hx
    · exact le_max_of_le_right (by simpa using EReal.neg_le_neg_iff.2 hx)
  have ht : (top x : EReal) = M * (((9586981 : ℝ) * (2 : ℝ) ^ (-32 : ℤ) : ℝ) : EReal) := by
    rw [← hM, ← factor_f32]; rfl
  rw [ht]
  lift M to ℝ using ⟨(h1.trans_lt (EReal.coe_lt_top _)).ne, (lt_of_lt_of_le EReal.bot_lt_zero h0).ne'⟩ with t
  rw [EReal.coe_le_coe_iff] at h1
  have h0' : 0 ≤ t := by exact_mod_cast h0
  rw [← EReal.coe_mul, EReal.coe_lt_coe_iff]
  refine ⟨by exact_mod_cast (by positivity), ?_⟩
  calc t * ((9586981 : ℝ) * (2 : ℝ) ^ (-32 : ℤ)) ≤ ((255 : ℝ) * (2 : ℝ) ^ (120 : ℤ)) * ((9586981 : ℝ) * (2 : ℝ) ^ (-32 : ℤ)) :=
        mul_le_mul_of_nonneg_right h1 (by positivity)
    _ < (2 : ℝ) ^ (120 : ℤ) := by norm_num

/-- Of a row within the precondition the two scales agree, and so do their inverses. -/
theorem row_agree (x : Fin 128 → Ideal .bf16)
    (h : ∀ l, max (x l) (-(x l : EReal)) ≤ (Scalar.ofBits (F := Ideal) .f32 0x7F7F0000#32 : EReal)) :
    kScale (kField (top x)) = rScale (top x) ∧ kInv (kField (top x)) = rInv (top x) :=
  agree (top x) (top_range x h).1 (top_range x h).2

/-! ## A token's results, from its line of activations -/

/-- Block `j` of a line. -/
def block (L : Fin 3584 → Ideal .bf16) (j : Fin 28) : Fin 128 → Ideal .bf16 := fun l => L ⟨j.val * 128 + l.val, by omega⟩

/-- The code of `x` at an inverse scale. -/
def codeOf (x : Ideal .bf16) (inv : Ideal .f32) : Ideal .fp8e4m3 :=
  FloatOps.truncf (F := Ideal) (φ := .f32) .fp8e4m3 (by decide) (FloatOps.minimumf (Scalar.ofBits (F := Ideal) .f32 0x43E00000#32)
    (FloatOps.maximumf (Scalar.ofBits (F := Ideal) .f32 0xC3E00000#32) (FloatOps.mulf (FloatOps.extf (F := Ideal) (φ := .bf16) .f32 (by decide) x) inv)))

/-- The scaled activation: the code times the scale. -/
def scaled (c : Ideal .fp8e4m3) (s : Ideal .f32) : Ideal .bf16 :=
  FloatOps.mulf (FloatOps.extf (F := Ideal) (φ := .fp8e4m3) .bf16 (by decide) c) (FloatOps.truncf (F := Ideal) (φ := .f32) .bf16 (by decide) s)

/-- The block column `d` lies in. -/
abbrev blockOf (d : Fin 3584) : Fin 28 := ⟨d.val / 128, by omega⟩

/-- The line's scale of block `j`, its code and its scaled activation at column `d`. -/
def lineScale (L : Fin 3584 → Ideal .bf16) (j : Fin 28) : Ideal .f32 := rScale (top (block L j))
/-- The line's code at column `d`. -/
def lineCode (L : Fin 3584 → Ideal .bf16) (d : Fin 3584) : Ideal .fp8e4m3 := codeOf (L d) (rInv (top (block L (blockOf d))))
/-- The line's scaled activation at column `d`. -/
def lineX (L : Fin 3584 → Ideal .bf16) (d : Fin 3584) : Ideal .bf16 := scaled (lineCode L d) (lineScale L (blockOf d))

/-- The product sum with a column `w` of the weights, times its scale, plus its bias. -/
def project (xs : Fin 3584 → Ideal .bf16) (w : Fin 3584 → Ideal .fp8e4m3) (ws : Ideal .f32) (bi : Ideal .bf16) : Ideal .bf16 :=
  FloatOps.truncf (F := Ideal) (φ := .f32) .bf16 (by decide) (FloatOps.addf
    (FloatOps.mulf (F := Ideal) (φ := .f32) (∑ d : Fin 3584, (xs d : EReal) * (w d : EReal) : EReal) ws)
    (FloatOps.extf (F := Ideal) (φ := .bf16) .f32 (by decide) bi))

/-- A line within the precondition. -/
def Good (L : Fin 3584 → Ideal .bf16) : Prop :=
  ∀ d, max (L d) (-(L d : EReal)) ≤ (Scalar.ofBits (F := Ideal) .f32 0x7F7F0000#32 : EReal)

/-- Of a line within the precondition the scales of every block agree, and so do their inverses. -/
theorem Good.agree {L : Fin 3584 → Ideal .bf16} (h : Good L) (j : Fin 28) :
    kScale (kField (top (block L j))) = rScale (top (block L j)) ∧ kInv (kField (top (block L j))) = rInv (top (block L j)) :=
  row_agree _ fun _ => h _

end Cert.Row

end
-- ==== Proof.KernelValue.lean ====
/-
  The kernel's blocks over the extended reals: each element of what a point leaves as a function of one token's line of
  activations.
-/
module

public import proofs.«01_k».proof.Proof.Run
public import proofs.«01_k».proof.Proof.Scale
public import Idealize.ShloMosaic.Lib.MatmulPlain

@[expose] public section

set_option maxRecDepth 16384

noncomputable section

namespace Cert.KernelIdeal.Run

open Cert.KernelIdeal Cert.KernelIdeal.Facts₀
open Idealize.ShloMosaic Idealize.ShloMosaic.TcCoe Idealize.ShloMosaic.Tactic
open Idealize.ShloMosaic.Pointwise
open Cert.Row hiding project

/-! ## A block's payloads -/

/-- A list of 128 stood up as a column. -/
theorem column_at {α : Type} (x : S128.Idx → α) (h : S128.ShapeCasts S128x1) (r : Fin 128) :
    shapeCast S128x1 x h (ix2 (n0 := 128) (n1 := 1) r 0) = x (ix1 (n0 := 128) r) :=
  cast_at x h _ _ (by
    rw [rowMajor_val2 _ 1 rfl, rowMajor_val1]
    show r.val = r.val * 1 + 0; omega)

/-- A block's element widened to float32. -/
theorem wide_at (x : Vec Ideal S1x128x128 .bf16) (r l : Fin 128) :
    wide x (ix2 (n0 := 128) (n1 := 128) r l) = FloatOps.extf (F := Ideal) .f32 (φ := .bf16) (by decide) (x (ix3 (n0 := 1) (n1 := 128) (n2 := 128) 0 r l)) := by
  have e := cast_drop x shapeCasts_S1x128x128_S128x128 r l
  exact congrArg (FloatOps.extf (F := Ideal) .f32 (φ := .bf16) (by decide)) e

/-- A row of a block. -/
abbrev rowOfBlk (x : Vec Ideal S1x128x128 .bf16) (r : Fin 128) : Fin 128 → Ideal .bf16 := fun l => x (ix3 (n0 := 1) (n1 := 128) (n2 := 128) 0 r l)

/-- The number the kernel's scale is of: the row's largest magnitude over 448. -/
theorem rowMax_at (x : Vec Ideal S1x128x128 .bf16) (r : Fin 128) : rowMax x (ix2 (n0 := 128) (n1 := 1) r 0) = top (rowOfBlk x r) := by
  unfold rowMax top
  refine congrArg (fun z : Ideal .f32 => FloatOps.mulf z (Scalar.ofBits (F := Ideal) .f32 0x3B124925#32)) ?_
  rw [column_at]
  refine (Ideal.multiReduction_maximumf_single _ _ _ _ _ _).trans ?_
  refine Finset.fold_congr fun l _ => ?_
  exact congrArg FloatOps.absf (wide_at x r l)

/-- The exponent field the kernel counts for a row. -/
theorem field_at (t : FVec Ideal S128x1 .f32) (r : Fin 128) :
    field t (ix2 (n0 := 128) (n1 := 1) r 0) = kField (t (ix2 (n0 := 128) (n1 := 1) r 0)) := by
  unfold field kField
  refine congrArg (fun z : Ideal .f32 => IntOp.shli .vector (IntOp.subi (FloatOps.fptosi 32 z) 1#32) 23#32) ?_
  rw [column_at]
  refine (Ideal.multiReduction_add_single _ _ _ _ _ _).trans ?_
  unfold Row.count
  refine Finset.sum_congr rfl fun g _ => ?_
  have e1 : broadcastTo S128x256 t broadcasts_S128x1_S128x256 (ix2 (n0 := 128) (n1 := 256) r g) = t (ix2 (n0 := 128) (n1 := 1) r 0) := by
    rw [Pointwise.broadcastTo_apply]
    congr 1
    funext a
    match a with
    | ⟨0, _⟩ => rfl
    | ⟨1, _⟩ => rfl
  have e2 : BitVec.ofNat 32 (0 * 256 + g.val) = BitVec.ofNat 32 g.val := by rw [Nat.zero_mul, Nat.zero_add]
  have e0 : reduces_S128x256_S128.lift (ix1 (n0 := 128) r) g = ix2 (n0 := 128) (n1 := 256) r g := by
    funext a
    match a with
    | ⟨0, _⟩ => rfl
    | ⟨1, _⟩ => rfl
  refine (congrArg _ e0).trans ?_
  refine Eq.trans (b := Scalar.select (FloatOps.cmpf .olt (broadcastTo S128x256 t broadcasts_S128x1_S128x256 (ix2 (n0 := 128) (n1 := 256) r g))
    (FloatOps.ofBits (F := Ideal) .f32 (IntOp.shli .vector (BitVec.ofNat 32 (0 * 256 + g.val)) 23#32))) (Scalar.ofBits (F := Ideal) .f32 0x00000000#32)
    (Scalar.ofBits (F := Ideal) .f32 0x3F800000#32)) rfl ?_
  rw [e1, e2]
  rfl

/-- The kernel's scale of a row. -/
theorem scales_at (x : Vec Ideal S1x128x128 .bf16) (r : Fin 128) :
    scales x (ix2 (n0 := 128) (n1 := 1) r 0) = kScale (kField (top (rowOfBlk x r))) := by
  rw [← rowMax_at, ← field_at]; rfl

/-- The kernel's code of an element. -/
theorem codes8_at (x : Vec Ideal S1x128x128 .bf16) (r l : Fin 128) :
    codes8 x (ix2 (n0 := 128) (n1 := 128) r l) = codeOf (rowOfBlk x r l) (kInv (kField (top (rowOfBlk x r)))) := by
  rw [← rowMax_at, ← field_at]
  have e1 := wide_at x r l
  have e2 := spread_at (invOf (F := Ideal) (field (F := Ideal) (rowMax (F := Ideal) x))) broadcasts_S128x1_S128x128 r l
  exact congrArg₂ (fun a b : Ideal .f32 => FloatOps.truncf (F := Ideal) (φ := .f32) .fp8e4m3 (by decide)
    (FloatOps.minimumf (F := Ideal) (φ := .f32) (Scalar.ofBits (F := Ideal) .f32 0x43E00000#32)
      (FloatOps.maximumf (F := Ideal) (φ := .f32) (Scalar.ofBits (F := Ideal) .f32 0xC3E00000#32) (FloatOps.mulf (F := Ideal) (φ := .f32) a b)))) e1 e2

/-- The kernel's scaled activation of an element. -/
theorem xsPay_at (x : Vec Ideal S1x128x128 .bf16) (r l : Fin 128) :
    xsPay x (ix2 (n0 := 128) (n1 := 128) r l)
      = scaled (codeOf (rowOfBlk x r l) (kInv (kField (top (rowOfBlk x r))))) (kScale (kField (top (rowOfBlk x r)))) := by
  unfold xsPay
  rw [shapeCast_id, ← codes8_at, ← scales_at]
  have e2 := spread_at (truncf (F := Ideal) (φ := .f32) .bf16 (scales x) bitsLt_bf16_f32) broadcasts_S128x1_S128x128 r l
  exact congrArg (fun b : Ideal .bf16 => FloatOps.mulf (FloatOps.extf (F := Ideal) (φ := .fp8e4m3) .bf16 (by decide) (codes8 x (ix2 (n0 := 128) (n1 := 128) r l))) b) e2

/-! ## An array of two halves -/

/-- Line `r` of rows `b`. -/
abbrev line2 (x : S2x128x3584.Idx → Ideal .bf16) (b : Fin 2) (r : Fin 128) : Fin 3584 → Ideal .bf16 := fun d => x (ix3 (n0 := 2) (n1 := 128) (n2 := 3584) b r d)

/-- A row of a block is the block of the line. -/
theorem blk_row (x : S2x128x3584.Idx → Ideal .bf16) (b : Fin 2) (j : Fin 28) (r : Fin 128) : rowOfBlk (blk (F := Ideal) x b j) r = block (line2 x b r) j := by
  funext l
  show x ((rX b j).emb (ix3 (n0 := 1) (n1 := 128) (n2 := 128) 0 r l)) = x _
  congr 1
  funext a
  match a with
  | ⟨0, _⟩ => exact Fin.ext (by show b.val + 1 * 0 = b.val; omega)
  | ⟨1, _⟩ => exact Fin.ext (by show 0 + 1 * r.val = r.val; omega)
  | ⟨2, _⟩ => exact Fin.ext (by show j.val * 128 + 1 * l.val = j.val * 128 + l.val; omega)

/-- A line's element is its block's at the place within the block. -/
theorem block_ln (L : Fin 3584 → Ideal .bf16) (d : Fin 3584) : block L (blockOf d) (ln d.val) = L d := by
  unfold block
  congr 1
  exact Fin.ext (by show d.val / 128 * 128 + d.val % 128 = d.val; omega)

/-- Within the precondition the kernel's codes of a line are the reference's. -/
theorem specC_line (x : S2x128x3584.Idx → Ideal .bf16) (b : Fin 2) (r : Fin 128) (d : Fin 3584) (h : Good (line2 x b r)) :
    specC (F := Ideal) x (ix3 (n0 := 2) (n1 := 128) (n2 := 3584) b r d) = lineCode (line2 x b r) d := by
  show codesPay (blk (F := Ideal) x b (bk d)) (ix3 (n0 := 1) (n1 := 128) (n2 := 128) 0 r (ln d.val)) = _
  unfold codesPay
  rw [cast_add]
  refine (codes8_at (blk (F := Ideal) x b (bk d)) r (ln d.val)).trans ?_
  rw [blk_row, (h.agree _).2, block_ln]
  rfl

/-- Within the precondition the kernel's scaled activations of a line are the reference's. -/
theorem specS_line (x : S2x128x3584.Idx → Ideal .bf16) (b : Fin 2) (r : Fin 128) (d : Fin 3584) (h : Good (line2 x b r)) :
    specS (F := Ideal) x (ix2 (n0 := 256) (n1 := 3584) (rw256 b r) d) = lineX (line2 x b r) d := by
  have hr := r.isLt
  have hb := b.isLt
  have e0 : hf (rw256 b r) = b := Fin.ext (by show (b.val * 128 + r.val) / 128 = b.val; omega)
  have e1 : ln (rw256 b r).val = r := Fin.ext (by show (b.val * 128 + r.val) % 128 = r.val; omega)
  show xsPay (blk (F := Ideal) x (hf (rw256 b r)) (bk d)) (ix2 (n0 := 128) (n1 := 128) (ln (rw256 b r).val) (ln d.val)) = _
  rw [e0, e1]
  refine (xsPay_at (blk (F := Ideal) x b (bk d)) r (ln d.val)).trans ?_
  rw [blk_row, (h.agree _).1, (h.agree _).2, block_ln]
  rfl

/-- Within the precondition the kernel's scales of a line are the reference's. -/
theorem specT_line (x : S2x128x3584.Idx → Ideal .bf16) (b : Fin 2) (r : Fin 128) (j : Fin 28) (h : Good (line2 x b r)) :
    specT (F := Ideal) x b j r = lineScale (line2 x b r) j := by
  unfold specT
  refine (scales_at (blk (F := Ideal) x b j) r).trans ?_
  rw [blk_row, (h.agree _).1]
  rfl

/-! ## A projection -/

/-- Column `c` of tile `n`. -/
abbrev col (n : Fin 9) (c : Fin 512) : Fin 4608 := ⟨n.val * 512 + c.val, by omega⟩

/-- An element of a tile: the projection of its row to its column. -/
theorem tile_at (xs : S256x3584.Idx → Ideal .bf16) (w : S3584x4608.Idx → Ideal .fp8e4m3) (ws : S1x4608.Idx → Ideal .f32)
    (bi : S1x4608.Idx → Ideal .bf16) (n : Fin 9) (p : Fin 256) (c : Fin 512) :
    tile (F := Ideal) xs w ws bi n (ix2 (n0 := 256) (n1 := 512) p c)
      = Row.project (fun d => xs (ix2 (n0 := 256) (n1 := 3584) p d)) (fun d => w (ix2 (n0 := 3584) (n1 := 4608) d (col n c)))
        (ws (ix2 (n0 := 1) (n1 := 4608) 0 (col n c))) (bi (ix2 (n0 := 1) (n1 := 4608) 0 (col n c))) := by
  have eB : ∀ {α : Type} (X : S1x4608.Idx → α), ld (rBn n) X (ix2 (n0 := 1) (n1 := 512) 0 c) = X (ix2 (n0 := 1) (n1 := 4608) 0 (col n c)) := by
    intro α X
    show X ((rBn n).emb _) = _
    congr 1
    funext a
    match a with
    | ⟨0, _⟩ => rfl
    | ⟨1, _⟩ => exact Fin.ext (by show n.val * 512 + 1 * c.val = n.val * 512 + c.val; omega)
  have eW : ∀ d : Fin 3584, ld (rWn n) w (ix2 (n0 := 3584) (n1 := 512) d c) = w (ix2 (n0 := 3584) (n1 := 4608) d (col n c)) := by
    intro d
    show w ((rWn n).emb _) = _
    congr 1
    funext a
    match a with
    | ⟨0, _⟩ => exact Fin.ext (by show 0 + 1 * d.val = d.val; omega)
    | ⟨1, _⟩ => exact Fin.ext (by show n.val * 512 + 1 * c.val = n.val * 512 + c.val; omega)
  have eX : ∀ d : Fin 3584, ld rW1 xs (ix2 (n0 := 256) (n1 := 3584) p d) = xs (ix2 (n0 := 256) (n1 := 3584) p d) := by
    intro d
    show xs (rW1.emb _) = _
    congr 1
    funext a
    match a with
    | ⟨0, _⟩ => exact Fin.ext (by show 0 + 1 * p.val = p.val; omega)
    | ⟨1, _⟩ => exact Fin.ext (by show 0 + 1 * d.val = d.val; omega)
  have eR : ∀ {α : Type} (X : S1x512.Idx → α), broadcastTo S256x512 X broadcasts_S1x512_S256x512 (ix2 (n0 := 256) (n1 := 512) p c) = X (ix2 (n0 := 1) (n1 := 512) 0 c) := by
    intro α X
    rw [Pointwise.broadcastTo_apply]
    congr 1
    funext a
    match a with
    | ⟨0, _⟩ => rfl
    | ⟨1, _⟩ => rfl
  unfold tile yPay Row.project
  have eM : matmul (F := Ideal) dot_S256x3584_S3584x512_S256x512_1_0_0_1_n_n none (ld rW1 xs) (ld (rWn n) w) (constant S256x512 .f32 0#32) (ix2 (n0 := 256) (n1 := 512) p c)
      = (∑ d : Fin 3584, (xs (ix2 (n0 := 256) (n1 := 3584) p d) : EReal) * (w (ix2 (n0 := 3584) (n1 := 4608) d (col n c)) : EReal) : EReal) := by
    refine (Ideal.matmul_plain_apply (M := 256) (K := 3584) (N := 512) none (ld rW1 xs) (ld (rWn n) w) (constant S256x512 .f32 0#32) p c).trans ?_
    have ez : (constant S256x512 .f32 0#32 : FVec Ideal S256x512 .f32) (ix2 (n0 := 256) (n1 := 512) p c) = (0 : EReal) := zero_f32
    exact (congrArg₂ (fun a b : EReal => a + b) ez
      (Finset.sum_congr rfl fun d _ => congrArg₂ (fun a b : EReal => a * b) (eX d) (eW d))).trans (zero_add _)
  have eS : broadcastTo S256x512 (shapeCast S1x512 (ld (rBn n) ws) shapeCasts_S1x512_S1x512) broadcasts_S1x512_S256x512 (ix2 (n0 := 256) (n1 := 512) p c)
      = ws (ix2 (n0 := 1) (n1 := 4608) 0 (col n c)) :=
    (eR _).trans ((congrFun (shapeCast_id (s := S1x512) (ld (rBn n) ws) shapeCasts_S1x512_S1x512) _).trans (eB ws))
  have eI : broadcastTo S256x512 (extf (F := Ideal) .f32 (shapeCast S1x512 (ld (rBn n) bi) shapeCasts_S1x512_S1x512) bitsLt_bf16_f32) broadcasts_S1x512_S256x512
      (ix2 (n0 := 256) (n1 := 512) p c) = FloatOps.extf (F := Ideal) (φ := .bf16) .f32 (by decide) (bi (ix2 (n0 := 1) (n1 := 4608) 0 (col n c))) := by
    refine (eR _).trans ?_
    exact congrArg (FloatOps.extf (F := Ideal) (φ := .bf16) .f32 (by decide))
      ((congrFun (shapeCast_id (s := S1x512) (ld (rBn n) bi) shapeCasts_S1x512_S1x512) _).trans (eB bi))
  refine congrArg (FloatOps.truncf (F := Ideal) (φ := .f32) .bf16 (by decide)) ?_
  exact congrArg₂ (FloatOps.addf (F := Ideal) (φ := .f32)) (congrArg₂ (FloatOps.mulf (F := Ideal) (φ := .f32)) eM eS) eI

end Cert.KernelIdeal.Run

end
-- ==== Proof.Blocks.lean ====
/-
  The kernel's input blocks as parts of the arguments.
-/
module

public import proofs.«01_k».proof.Proof.KernelValue
public import proofs.«01_k».proof.Proof.Launch
public import Idealize.ShloMosaic.Lib.Pipeline.Value
public import Idealize.ShloMosaic.Lib.StableHlo.Run

@[expose] public section

set_option maxRecDepth 16384

noncomputable section

namespace Cert.KernelIdeal.Run

open Cert.KernelIdeal Cert.KernelIdeal.Facts₀ Cert.KernelIdeal.Gen
open Idealize.ShloMosaic Idealize.ShloMosaic.TcCoe Idealize.ShloMosaic.Tactic
open Idealize.ShloMosaic.Pointwise

variable {F : FTy → Type} [FloatOps F]

variable (m : (ℓ : Loc nD τ sig) → Buf (Elt F) ℓ)

/-- The four arguments as launched. -/
abbrev argX (c : Dev nD) : S4x8192x3584.Idx → Elt F .bf16 := m ((c : Thread nD τ).loc main_arg0)
/-- The weights. -/
abbrev argW (c : Dev nD) : S3584x4608.Idx → Elt F .fp8e4m3 := m ((c : Thread nD τ).loc main_arg1)
/-- The weights' scales. -/
abbrev argS (c : Dev nD) : S4608.Idx → Elt F .f32 := m ((c : Thread nD τ).loc main_arg2)
/-- The bias. -/
abbrev argB (c : Dev nD) : S4608.Idx → Elt F .bf16 := m ((c : Thread nD τ).loc main_arg3)

/-- Token `r` of block `t`. -/
abbrev row (t : Fin cfg0.N) (r : Fin 128) : Fin 8192 := ⟨t.val * 128 + r.val, by have : t.val < 64 := t.isLt; omega⟩
/-- The sequences of the two halves. -/
abbrev lo (b : Fin 2) : Fin 4 := ⟨b.val, by omega⟩
/-- The last two sequences. -/
abbrev hi (b : Fin 2) : Fin 4 := ⟨2 + b.val, by omega⟩

/-! ## Where the windows stand -/

/-- The window of the first point's activations never moves. -/
theorem index0 : ∀ t : Fin cfg0.N, win0_0.index t 0 = 0 ∧ win0_0.index t 1 = 0 ∧ win0_0.index t 2 = 0 := by decide +kernel
/-- The window of the next point's first half is one block ahead, and stays at the last block. -/
theorem index1 : ∀ t : Fin cfg0.N, win0_1.index t 0 = 0 ∧ win0_1.index t 1 = min (t.val + 1) 63 ∧ win0_1.index t 2 = 0 := by decide +kernel
/-- The window of a point's second half is at the point's block. -/
theorem index2 : ∀ t : Fin cfg0.N, win0_2.index t 0 = 1 ∧ win0_2.index t 1 = t.val ∧ win0_2.index t 2 = 0 := by decide +kernel
/-- The window of the weights never moves. -/
theorem index3 : ∀ t : Fin cfg0.N, win0_3.index t 0 = 0 ∧ win0_3.index t 1 = 0 := by decide +kernel
/-- The window of the weights' scales never moves. -/
theorem index4 : ∀ t : Fin cfg0.N, win0_4.index t 0 = 0 ∧ win0_4.index t 1 = 0 := by decide +kernel
/-- The window of the bias never moves. -/
theorem index5 : ∀ t : Fin cfg0.N, win0_5.index t 0 = 0 ∧ win0_5.index t 1 = 0 := by decide +kernel
/-- The window of the queries is at the point's block. -/
theorem index6 : ∀ t : Fin cfg0.N, win0_6.index t 0 = 0 ∧ win0_6.index t 1 = 0 ∧ win0_6.index t 2 = t.val ∧ win0_6.index t 3 = 0 := by decide +kernel
/-- The window of the keys is at the point's block. -/
theorem index7 : ∀ t : Fin cfg0.N, win0_7.index t 0 = 0 ∧ win0_7.index t 1 = t.val ∧ win0_7.index t 2 = 0 ∧ win0_7.index t 3 = 0 := by decide +kernel
/-- The window of the values is at the point's block. -/
theorem index8 : ∀ t : Fin cfg0.N, win0_8.index t 0 = 0 ∧ win0_8.index t 1 = t.val ∧ win0_8.index t 2 = 0 ∧ win0_8.index t 3 = 0 := by decide +kernel
/-- The window of the codes is at the point's block. -/
theorem index9 : ∀ t : Fin cfg0.N, win0_9.index t 0 = 0 ∧ win0_9.index t 1 = t.val ∧ win0_9.index t 2 = 0 := by decide +kernel
/-- The window of the scales is at the point's block. -/
theorem index10 : ∀ t : Fin cfg0.N, win0_10.index t 0 = 0 ∧ win0_10.index t 1 = 0 ∧ win0_10.index t 2 = t.val := by decide +kernel

/-! ## The activations -/

/-- The first window holds the first block's tokens of the first two sequences. -/
theorem iblk0_at (c : Dev nD) (t : Fin cfg0.N) (b : Fin 2) (r : Fin 128) (d : Fin 3584) :
    (iblk m c 0 t : S2x128x3584.Idx → Elt F .bf16) (ix3 (n0 := 2) (n1 := 128) (n2 := 3584) b r d) = argX m c (ix3 (n0 := 4) (n1 := 8192) (n2 := 3584) (lo b) ⟨r.val, by omega⟩ d) := by
  have hi := index0 t
  unfold iblk
  rw [View.read_apply]
  show V m c main_arg0 _ = _
  rw [V_main_arg0]
  show argX m c _ = argX m c _
  refine congrArg (argX m c) (funext fun a => Fin.ext ?_)
  match a with
  | ⟨0, _⟩ => show win0_0.index t 0 * 2 + 1 * b.val = b.val; rw [hi.1]; omega
  | ⟨1, _⟩ => show win0_0.index t 1 * 128 + 1 * r.val = r.val; rw [hi.2.1]; omega
  | ⟨2, _⟩ => show win0_0.index t 2 * 3584 + 1 * d.val = d.val; rw [hi.2.2]; omega

/-- The second window holds the next block's tokens of the first two sequences. -/
theorem iblk1_at (c : Dev nD) (t : Fin cfg0.N) (b : Fin 2) (r : Fin 128) (d : Fin 3584) (s : Fin 8192) (hs : s.val = min (t.val + 1) 63 * 128 + r.val) :
    (iblk m c 1 t : S2x128x3584.Idx → Elt F .bf16) (ix3 (n0 := 2) (n1 := 128) (n2 := 3584) b r d) = argX m c (ix3 (n0 := 4) (n1 := 8192) (n2 := 3584) (lo b) s d) := by
  have hi := index1 t
  unfold iblk
  rw [View.read_apply]
  show V m c main_arg0 _ = _
  rw [V_main_arg0]
  show argX m c _ = argX m c _
  refine congrArg (argX m c) (funext fun a => Fin.ext ?_)
  match a with
  | ⟨0, _⟩ => show win0_1.index t 0 * 2 + 1 * b.val = b.val; rw [hi.1]; omega
  | ⟨1, _⟩ => show win0_1.index t 1 * 128 + 1 * r.val = s.val; rw [hi.2.1, hs]; omega
  | ⟨2, _⟩ => show win0_1.index t 2 * 3584 + 1 * d.val = d.val; rw [hi.2.2]; omega

/-- The point's second half: its tokens in the last two sequences. -/
theorem xB_at (c : Dev nD) (t : Fin cfg0.N) (b : Fin 2) (r : Fin 128) (d : Fin 3584) :
    xB m c t (ix3 (n0 := 2) (n1 := 128) (n2 := 3584) b r d) = argX m c (ix3 (n0 := 4) (n1 := 8192) (n2 := 3584) (hi b) (row t r) d) := by
  have hi := index2 t
  unfold xB iblk
  rw [View.read_apply]
  show V m c main_arg0 _ = _
  rw [V_main_arg0]
  show argX m c _ = argX m c _
  refine congrArg (argX m c) (funext fun a => Fin.ext ?_)
  match a with
  | ⟨0, _⟩ => show win0_2.index t 0 * 2 + 1 * b.val = 2 + b.val; rw [hi.1]; omega
  | ⟨1, _⟩ => show win0_2.index t 1 * 128 + 1 * r.val = t.val * 128 + r.val; rw [hi.2.1]; omega
  | ⟨2, _⟩ => show win0_2.index t 2 * 3584 + 1 * d.val = d.val; rw [hi.2.2]; omega

/-- The point's first half: its tokens in the first two sequences. -/
theorem xh_at (c : Dev nD) (t : Fin cfg0.N) (b : Fin 2) (r : Fin 128) (d : Fin 3584) :
    xh m c t.val (ix3 (n0 := 2) (n1 := 128) (n2 := 3584) b r d) = argX m c (ix3 (n0 := 4) (n1 := 8192) (n2 := 3584) (lo b) (row t r) d) := by
  have ht : t.val < 64 := t.isLt
  unfold xh
  split
  next h =>
    refine (iblk0_at m c _ b r d).trans (congrArg (fun s => argX m c (ix3 (n0 := 4) (n1 := 8192) (n2 := 3584) (lo b) s d)) (Fin.ext ?_))
    show r.val = t.val * 128 + r.val; omega
  next h =>
    refine iblk1_at m c _ b r d _ ?_
    show t.val * 128 + r.val = min ((t.val - 1) % 64 + 1) 63 * 128 + r.val
    have : (t.val - 1) % 64 + 1 = t.val := by omega
    rw [this]; omega

/-! ## The weights, their scales and the bias -/

/-- Every point sees the whole weights. -/
theorem wB_at (c : Dev nD) (t : Fin cfg0.N) (d : Fin 3584) (n : Fin 4608) :
    wB m c t (ix2 (n0 := 3584) (n1 := 4608) d n) = argW m c (ix2 (n0 := 3584) (n1 := 4608) d n) := by
  have hi := index3 t
  unfold wB iblk
  rw [View.read_apply]
  show V m c main_arg1 _ = _
  rw [V_main_arg1]
  show argW m c _ = argW m c _
  refine congrArg (argW m c) (funext fun a => Fin.ext ?_)
  match a with
  | ⟨0, _⟩ => show win0_3.index t 0 * 3584 + 1 * d.val = d.val; rw [hi.1]; omega
  | ⟨1, _⟩ => show win0_3.index t 1 * 4608 + 1 * n.val = n.val; rw [hi.2]; omega

/-- The scales and the bias as the region finds them: the arguments as one row. -/
theorem V_v0 (c : Dev nD) : (V m c main_v0 : S1x4608.Idx → Elt F .f32) = shapeCast S1x4608 (argS m c) Facts₀.shapeCasts_S4608_S1x4608 := by
  unfold V V0
  simp only [hostOps0, List.flatten_cons, List.flatten_nil, List.append_nil, List.cons_append, List.nil_append]
  after_results
  rfl
/-- The same of the bias. -/
theorem V_v1 (c : Dev nD) : (V m c main_v1 : S1x4608.Idx → Elt F .bf16) = shapeCast S1x4608 (argB m c) Facts₀.shapeCasts_S4608_S1x4608 := by
  unfold V V0
  simp only [hostOps0, List.flatten_cons, List.flatten_nil, List.append_nil, List.cons_append, List.nil_append]
  after_results
  rfl

/-- Every point sees the whole row of the weights' scales. -/
theorem wsB_at (c : Dev nD) (t : Fin cfg0.N) (n : Fin 4608) :
    wsB m c t (ix2 (n0 := 1) (n1 := 4608) 0 n) = shapeCast S1x4608 (argS m c) Facts₀.shapeCasts_S4608_S1x4608 (ix2 (n0 := 1) (n1 := 4608) 0 n) := by
  have hi := index4 t
  unfold wsB iblk
  rw [View.read_apply]
  show V m c main_v0 _ = _
  rw [V_v0]
  refine congrArg (shapeCast S1x4608 (argS m c) Facts₀.shapeCasts_S4608_S1x4608) (funext fun a => Fin.ext ?_)
  match a with
  | ⟨0, _⟩ => show win0_4.index t 0 * 1 + 1 * 0 = 0; rw [hi.1]
  | ⟨1, _⟩ => show win0_4.index t 1 * 4608 + 1 * n.val = n.val; rw [hi.2]; omega
/-- Every point sees the whole row of the bias. -/
theorem biB_at (c : Dev nD) (t : Fin cfg0.N) (n : Fin 4608) :
    biB m c t (ix2 (n0 := 1) (n1 := 4608) 0 n) = shapeCast S1x4608 (argB m c) Facts₀.shapeCasts_S4608_S1x4608 (ix2 (n0 := 1) (n1 := 4608) 0 n) := by
  have hi := index5 t
  unfold biB iblk
  rw [View.read_apply]
  show V m c main_v1 _ = _
  rw [V_v1]
  refine congrArg (shapeCast S1x4608 (argB m c) Facts₀.shapeCasts_S4608_S1x4608) (funext fun a => Fin.ext ?_)
  match a with
  | ⟨0, _⟩ => show win0_5.index t 0 * 1 + 1 * 0 = 0; rw [hi.1]
  | ⟨1, _⟩ => show win0_5.index t 1 * 4608 + 1 * n.val = n.val; rw [hi.2]; omega

end Cert.KernelIdeal.Run

end
-- ==== Proof.RefValue.lean ====
/-
  The reference's results over the extended reals: each element as a function of one token's line of activations.
-/
module

public import proofs.«01_k».proof.Proof.KernelValue
public import proofs.«01_k».proof.Proof.Gen.ReferenceIdeal.Frame

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.ShloMosaic.Pointwise
open Cert.Row (rExp top block lineScale lineCode lineX codeOf scaled blockOf zero_f32 rInv rScale)
open Cert.KernelIdeal.Run (cast_at)

/-- A token's line. -/
abbrev line4 (X : S4x8192x3584.Idx → Ideal .bf16) (b : Fin 4) (s : Fin 8192) : Fin 3584 → Ideal .bf16 :=
  fun d => X (ix3 (n0 := 4) (n1 := 8192) (n2 := 3584) b s d)

/-- A token's row of the product, a column of a block, a head's column. -/
abbrev tok (b : Fin 4) (s : Fin 8192) : Fin 32768 := ⟨b.val * 8192 + s.val, by omega⟩
/-- Column `l` of block `j`. -/
abbrev cat (j : Fin 28) (l : Fin 128) : Fin 3584 := ⟨j.val * 128 + l.val, by omega⟩

/-- Elementwise operations, read at an element. -/
theorem mulf_at {s : Shape} {φ : FTy} (x y : FVec Ideal s φ) (i : s.Idx) : mulf x y i = FloatOps.mulf (x i) (y i) := rfl
/-- A sum at an element. -/
theorem addf_at {s : Shape} {φ : FTy} (x y : FVec Ideal s φ) (i : s.Idx) : addf x y i = FloatOps.addf (x i) (y i) := rfl
/-- A difference at an element. -/
theorem subf_at {s : Shape} {φ : FTy} (x y : FVec Ideal s φ) (i : s.Idx) : subf x y i = FloatOps.subf (x i) (y i) := rfl
/-- An absolute value at an element. -/
theorem absf_at {s : Shape} {φ : FTy} (x : FVec Ideal s φ) (i : s.Idx) : absf x i = FloatOps.absf (x i) := rfl
/-- A power of two at an element. -/
theorem exp2_at {s : Shape} {φ : FTy} (x : FVec Ideal s φ) (i : s.Idx) : exp2 x i = FloatOps.exp2 (x i) := rfl
/-- A widening at an element. -/
theorem extf_at {s : Shape} {φ ψ : FTy} (x : FVec Ideal s φ) (h : φ.bits < ψ.bits) (i : s.Idx) : extf ψ x h i = FloatOps.extf ψ h (x i) := rfl
/-- A narrowing at an element. -/
theorem truncf_at {s : Shape} {φ ψ : FTy} (x : FVec Ideal s φ) (h : ψ.bits < φ.bits) (i : s.Idx) : truncf ψ x h i = FloatOps.truncf ψ h (x i) := rfl

/-- Adding a last axis of one, and spreading it over the lanes. -/
theorem spread4 {α : Type} (x : S4x8192x28.Idx → α) (h : S4x8192x28.ShapeCasts S4x8192x28x1) (hb : S4x8192x28x1.Broadcasts S4x8192x28x128)
    (b : Fin 4) (s : Fin 8192) (j : Fin 28) (l : Fin 128) :
    broadcastTo S4x8192x28x128 (shapeCast S4x8192x28x1 x h) hb (ix4 (n0 := 4) (n1 := 8192) (n2 := 28) (n3 := 128) b s j l)
      = x (ix3 (n0 := 4) (n1 := 8192) (n2 := 28) b s j) := by
  rw [Pointwise.broadcastTo_apply]
  refine (congrArg (shapeCast S4x8192x28x1 x h) (a₂ := ix4 (n0 := 4) (n1 := 8192) (n2 := 28) (n3 := 1) b s j 0) ?_).trans ?_
  · funext a
    match a with
    | ⟨0, _⟩ => rfl
    | ⟨1, _⟩ => rfl
    | ⟨2, _⟩ => rfl
    | ⟨3, _⟩ => rfl
  · exact cast_at x h _ _ (by
      rw [rowMajor_val3 _ (8192 * 28) 28 rfl rfl, rowMajor_val4 _ (8192 * 28 * 1) (28 * 1) 1 rfl rfl rfl]
      show b.val * (8192 * 28) + s.val * 28 + j.val = b.val * (8192 * 28 * 1) + s.val * (28 * 1) + j.val * 1 + 0; omega)

/-- The blocks of a line, put apart and put together. -/
theorem split4 {α : Type} (x : S4x8192x3584.Idx → α) (h : S4x8192x3584.ShapeCasts S4x8192x28x128) (b : Fin 4) (s : Fin 8192) (j : Fin 28) (l : Fin 128) :
    shapeCast S4x8192x28x128 x h (ix4 (n0 := 4) (n1 := 8192) (n2 := 28) (n3 := 128) b s j l) = x (ix3 (n0 := 4) (n1 := 8192) (n2 := 3584) b s (cat j l)) :=
  cast_at x h _ _ (by
    rw [rowMajor_val3 _ (8192 * 3584) 3584 rfl rfl, rowMajor_val4 _ (8192 * 28 * 128) (28 * 128) 128 rfl rfl rfl]
    show b.val * (8192 * 3584) + s.val * 3584 + (j.val * 128 + l.val) = b.val * (8192 * 28 * 128) + s.val * (28 * 128) + j.val * 128 + l.val; omega)

/-- The activations by blocks, widened to float32. -/
theorem pay6_at (X : S4x8192x3584.Idx → Ideal .bf16) (b : Fin 4) (s : Fin 8192) (j : Fin 28) (l : Fin 128) :
    k0_pay6 (F := Ideal) X (ix4 (n0 := 4) (n1 := 8192) (n2 := 28) (n3 := 128) b s j l)
      = FloatOps.extf (F := Ideal) .f32 (φ := .bf16) (by decide) (block (line4 X b s) j l) :=
  split4 (extf (F := Ideal) (φ := .bf16) .f32 X bitsLt_bf16_f32) shapeCasts_S4x8192x3584_S4x8192x28x128 b s j l

/-- The lane put back into a block's place. -/
theorem lift_at (b : Fin 4) (s : Fin 8192) (j : Fin 28) (l : Fin 128) :
    reduces_S4x8192x28x128_S4x8192x28.lift (ix3 (n0 := 4) (n1 := 8192) (n2 := 28) b s j) l = ix4 (n0 := 4) (n1 := 8192) (n2 := 28) (n3 := 128) b s j l := by
  funext a
  match a with
  | ⟨0, _⟩ => rfl
  | ⟨1, _⟩ => rfl
  | ⟨2, _⟩ => rfl
  | ⟨3, _⟩ => rfl

/-- A block's largest element. -/
theorem max_at (Y : FVec Ideal S4x8192x28x128 .f32) (b : Fin 4) (s : Fin 8192) (j : Fin 28) :
    multiReduction .maximumf [3] S4x8192x28 Y 0xFF800000#32 reduces_S4x8192x28x128_S4x8192x28 (.inl rfl) rfl (ix3 (n0 := 4) (n1 := 8192) (n2 := 28) b s j)
      = (Finset.univ : Finset (Fin 128)).fold max (FloatOps.ofBits (F := Ideal) .f32 0xFF800000#32)
        (fun l => Y (ix4 (n0 := 4) (n1 := 8192) (n2 := 28) (n3 := 128) b s j l)) := by
  have e : (fun l : Fin 128 => Y (reduces_S4x8192x28x128_S4x8192x28.lift (ix3 (n0 := 4) (n1 := 8192) (n2 := 28) b s j) l))
      = fun l => Y (ix4 (n0 := 4) (n1 := 8192) (n2 := 28) (n3 := 128) b s j l) := funext fun l => congrArg Y (lift_at b s j l)
  rw [← e]
  exact Ideal.multiReduction_maximumf_single _ _ _ _ _ _

/-- The number each block's scale is of. -/
def topV (X : S4x8192x3584.Idx → Ideal .bf16) : FVec Ideal S4x8192x28 .f32 :=
  mulf (F := Ideal) (multiReduction .maximumf [3] S4x8192x28 (absf (k0_pay6 (F := Ideal) X)) 0xFF800000#32 reduces_S4x8192x28x128_S4x8192x28 (.inl rfl) rfl)
    (broadcast S4x8192x28 (Scalar.ofBits (F := Ideal) .f32 0x3B124925#32))

/-- It is the block's largest magnitude over 448. -/
theorem top_at (X : S4x8192x3584.Idx → Ideal .bf16) (b : Fin 4) (s : Fin 8192) (j : Fin 28) :
    topV X (ix3 (n0 := 4) (n1 := 8192) (n2 := 28) b s j) = top (block (line4 X b s) j) := by
  have e1 : (fun l : Fin 128 => absf (F := Ideal) (k0_pay6 (F := Ideal) X) (ix4 (n0 := 4) (n1 := 8192) (n2 := 28) (n3 := 128) b s j l))
      = fun l => FloatOps.absf (FloatOps.extf (F := Ideal) .f32 (φ := .bf16) (by decide) (block (line4 X b s) j l)) :=
    funext fun l => (absf_at _ _).trans (congrArg (FloatOps.absf (F := Ideal) (φ := .f32)) (pay6_at X b s j l))
  have e2 := max_at (absf (F := Ideal) (k0_pay6 (F := Ideal) X)) b s j
  rw [e1] at e2
  unfold topV top
  exact (mulf_at _ _ _).trans (congrArg (fun z : Ideal .f32 => FloatOps.mulf (F := Ideal) (φ := .f32) z (Scalar.ofBits (F := Ideal) .f32 0x3B124925#32)) e2)

/-- The exponents, from the numbers the scales are of. -/
def expV (T : FVec Ideal S4x8192x28 .f32) : FVec Ideal S4x8192x28 .f32 :=
  select (cmpf .olt T (broadcast S4x8192x28 (Scalar.ofBits (F := Ideal) .f32 0x00800000#32))) (broadcast S4x8192x28 (Scalar.ofBits (F := Ideal) .f32 0x00000000#32))
    (addf (floor (divf (log T) (log (broadcast S4x8192x28 (Scalar.ofBits (F := Ideal) .f32 0x40000000#32)))))
      (broadcast S4x8192x28 (Scalar.ofBits (F := Ideal) .f32 0x3F800000#32)))

/-- An exponent, from its number. -/
theorem expV_at (T : FVec Ideal S4x8192x28 .f32) (i : S4x8192x28.Idx) : expV T i = rExp (T i) := rfl

/-- The reference's exponents are those of the blocks' numbers. -/
theorem pay7_eq (X : S4x8192x3584.Idx → Ideal .bf16) : k0_pay7 (F := Ideal) X = expV (topV X) := rfl

/-- The reference's exponent of a block. -/
theorem pay7_at (X : S4x8192x3584.Idx → Ideal .bf16) (b : Fin 4) (s : Fin 8192) (j : Fin 28) :
    k0_pay7 (F := Ideal) X (ix3 (n0 := 4) (n1 := 8192) (n2 := 28) b s j) = rExp (top (block (line4 X b s) j)) := by
  rw [pay7_eq, expV_at, top_at]

/-- The reference's scales are the powers of two of its exponents. -/
theorem pay8_eq (X : S4x8192x3584.Idx → Ideal .bf16) : k0_pay8 (F := Ideal) X = exp2 (k0_pay7 (F := Ideal) X) := rfl

/-- The reference's scale of a block. -/
theorem pay8_at (X : S4x8192x3584.Idx → Ideal .bf16) (b : Fin 4) (s : Fin 8192) (j : Fin 28) :
    k0_pay8 (F := Ideal) X (ix3 (n0 := 4) (n1 := 8192) (n2 := 28) b s j) = lineScale (line4 X b s) j := by
  rw [pay8_eq, exp2_at, pay7_at]; rfl

/-- The inverse scales, from the exponents. -/
def invV (E : FVec Ideal S4x8192x28 .f32) : FVec Ideal S4x8192x28 .f32 :=
  exp2 (subf (broadcast S4x8192x28 (Scalar.ofBits (F := Ideal) .f32 0x00000000#32)) E)

/-- An inverse scale, from its exponent. -/
theorem invV_at (E : FVec Ideal S4x8192x28 .f32) (i : S4x8192x28.Idx) :
    invV E i = FloatOps.exp2 (FloatOps.subf (Scalar.ofBits (F := Ideal) .f32 0x00000000#32) (E i)) := rfl

/-- The reference's inverse scale of a block. -/
theorem inv_at (X : S4x8192x3584.Idx → Ideal .bf16) (b : Fin 4) (s : Fin 8192) (j : Fin 28) :
    invV (k0_pay7 (F := Ideal) X) (ix3 (n0 := 4) (n1 := 8192) (n2 := 28) b s j) = rInv (top (block (line4 X b s) j)) := by
  rw [invV_at, pay7_at]; rfl

/-- Column `l` of block `j` lies in block `j`. -/
theorem blockOf_cat (j : Fin 28) (l : Fin 128) : blockOf (cat j l) = j :=
  Fin.ext (by show (j.val * 128 + l.val) / 128 = j.val; omega)

/-- The codes, from the activations and the inverse scales spread over them. -/
def codeV (A B : FVec Ideal S4x8192x28x128 .f32) : FVec Ideal S4x8192x28x128 .fp8e4m3 :=
  truncf .fp8e4m3 (minimumf (broadcast S4x8192x28x128 (Scalar.ofBits (F := Ideal) .f32 0x43E00000#32))
    (maximumf (broadcast S4x8192x28x128 (Scalar.ofBits (F := Ideal) .f32 0xC3E00000#32)) (mulf A B))) bitsLt_fp8e4m3_f32

/-- A code, from its element and its inverse scale. -/
theorem codeV_at (A B : FVec Ideal S4x8192x28x128 .f32) (i : S4x8192x28x128.Idx) (x : Ideal .bf16) (v : Ideal .f32)
    (hA : A i = FloatOps.extf (F := Ideal) .f32 (φ := .bf16) (by decide) x) (hB : B i = v) : codeV A B i = codeOf x v := by
  have e : codeV A B i = FloatOps.truncf (F := Ideal) (φ := .f32) .fp8e4m3 (by decide)
    (FloatOps.minimumf (F := Ideal) (φ := .f32) (Scalar.ofBits (F := Ideal) .f32 0x43E00000#32)
      (FloatOps.maximumf (F := Ideal) (φ := .f32) (Scalar.ofBits (F := Ideal) .f32 0xC3E00000#32) (FloatOps.mulf (F := Ideal) (φ := .f32) (A i) (B i)))) := rfl
  rw [e, hA, hB]; rfl

/-- The reference's codes by blocks, from its activations and inverse scales. -/
theorem pay9_eq (X : S4x8192x3584.Idx → Ideal .bf16) : k0_pay9 (F := Ideal) X = codeV (k0_pay6 (F := Ideal) X)
    (broadcastTo S4x8192x28x128 (shapeCast S4x8192x28x1 (invV (k0_pay7 (F := Ideal) X)) shapeCasts_S4x8192x28_S4x8192x28x1)
      broadcasts_S4x8192x28x1_S4x8192x28x128) := rfl

/-- The reference's code of an element, by blocks. -/
theorem pay9_at (X : S4x8192x3584.Idx → Ideal .bf16) (b : Fin 4) (s : Fin 8192) (j : Fin 28) (l : Fin 128) :
    k0_pay9 (F := Ideal) X (ix4 (n0 := 4) (n1 := 8192) (n2 := 28) (n3 := 128) b s j l) = lineCode (line4 X b s) (cat j l) := by
  unfold lineCode
  rw [blockOf_cat, pay9_eq]
  exact codeV_at _ _ _ _ _ (pay6_at X b s j l) ((spread4 _ _ _ b s j l).trans (inv_at X b s j))

/-- A column is that of its block at its place within. -/
theorem cat_split (d : Fin 3584) : cat (blockOf d) ⟨d.val % 128, Nat.mod_lt _ (by norm_num)⟩ = d :=
  Fin.ext (by show d.val / 128 * 128 + d.val % 128 = d.val; omega)

/-- The resulting codes. -/
theorem pay5_at (X : S4x8192x3584.Idx → Ideal .bf16) (b : Fin 4) (s : Fin 8192) (d : Fin 3584) :
    k0_pay5 (F := Ideal) (k0_pay9 (F := Ideal) X) (ix3 (n0 := 4) (n1 := 8192) (n2 := 3584) b s d) = lineCode (line4 X b s) d := by
  refine (cast_at (k0_pay9 (F := Ideal) X) shapeCasts_S4x8192x28x128_S4x8192x3584 _
    (ix4 (n0 := 4) (n1 := 8192) (n2 := 28) (n3 := 128) b s (blockOf d) ⟨d.val % 128, Nat.mod_lt _ (by norm_num)⟩) ?_).trans ?_
  · rw [rowMajor_val3 _ (8192 * 3584) 3584 rfl rfl, rowMajor_val4 _ (8192 * 28 * 128) (28 * 128) 128 rfl rfl rfl]
    show b.val * (8192 * 28 * 128) + s.val * (28 * 128) + d.val / 128 * 128 + d.val % 128 = b.val * (8192 * 3584) + s.val * 3584 + d.val; omega
  · rw [pay9_at, cat_split]

/-- The scaled activations the products are taken of, from the codes and the scales spread over them. -/
def xsV (C : FVec Ideal S4x8192x28x128 .fp8e4m3) (S : FVec Ideal S4x8192x28x128 .bf16) : FVec Ideal S4x8192x28x128 .bf16 :=
  mulf (extf .bf16 C bitsLt_fp8e4m3_bf16) S

/-- A scaled activation, from its code and its scale. -/
theorem xsV_at (C : FVec Ideal S4x8192x28x128 .fp8e4m3) (S : FVec Ideal S4x8192x28x128 .bf16) (i : S4x8192x28x128.Idx) (x : Ideal .fp8e4m3) (v : Ideal .f32)
    (hC : C i = x) (hS : S i = FloatOps.truncf (F := Ideal) (φ := .f32) .bf16 (by decide) v) : xsV C S i = scaled x v := by
  have e : xsV C S i = FloatOps.mulf (F := Ideal) (φ := .bf16) (FloatOps.extf (F := Ideal) (φ := .fp8e4m3) .bf16 (by decide) (C i)) (S i) := rfl
  rw [e, hC, hS]; rfl

/-- The scaled activations of all tokens. -/
def xsAll (X : S4x8192x3584.Idx → Ideal .bf16) : FVec Ideal S32768x3584 .bf16 :=
  shapeCast S32768x3584 (xsV (k0_pay9 (F := Ideal) X)
    (broadcastTo S4x8192x28x128 (shapeCast S4x8192x28x1 (truncf (F := Ideal) (φ := .f32) .bf16 (k0_pay8 (F := Ideal) X) bitsLt_bf16_f32)
      shapeCasts_S4x8192x28_S4x8192x28x1) broadcasts_S4x8192x28x1_S4x8192x28x128)) shapeCasts_S4x8192x28x128_S32768x3584

/-- A token's scaled activation. -/
theorem xsAll_at (X : S4x8192x3584.Idx → Ideal .bf16) (b : Fin 4) (s : Fin 8192) (d : Fin 3584) :
    xsAll X (ix2 (n0 := 32768) (n1 := 3584) (tok b s) d) = lineX (line4 X b s) d := by
  unfold xsAll
  refine (cast_at _ shapeCasts_S4x8192x28x128_S32768x3584 _
    (ix4 (n0 := 4) (n1 := 8192) (n2 := 28) (n3 := 128) b s (blockOf d) ⟨d.val % 128, Nat.mod_lt _ (by norm_num)⟩) ?_).trans ?_
  · rw [rowMajor_val2 _ 3584 rfl, rowMajor_val4 _ (8192 * 28 * 128) (28 * 128) 128 rfl rfl rfl]
    show b.val * (8192 * 28 * 128) + s.val * (28 * 128) + d.val / 128 * 128 + d.val % 128 = (b.val * 8192 + s.val) * 3584 + d.val; omega
  · have e1 := pay9_at X b s (blockOf d) ⟨d.val % 128, Nat.mod_lt _ (by norm_num)⟩
    rw [cat_split] at e1
    have e2 := pay8_at X b s (blockOf d)
    have e3 := truncf_at (ψ := .bf16) (k0_pay8 (F := Ideal) X) bitsLt_bf16_f32 (ix3 (n0 := 4) (n1 := 8192) (n2 := 28) b s (blockOf d))
    rw [e2] at e3
    exact xsV_at _ _ _ _ _ e1 ((spread4 _ _ _ b s (blockOf d) _).trans e3)

/-- Every token's projection, all columns. -/
def yAll (X : S4x8192x3584.Idx → Ideal .bf16) (W : S3584x4608.Idx → Ideal .fp8e4m3) (ws : S1x4608.Idx → Ideal .f32) (bi : S1x4608.Idx → Ideal .bf16)
    (b : Fin 4) (s : Fin 8192) (n : Fin 4608) : Ideal .bf16 :=
  Row.project (lineX (line4 X b s)) (fun d => W (ix2 (n0 := 3584) (n1 := 4608) d n)) (ws (ix2 (n0 := 1) (n1 := 4608) 0 n)) (bi (ix2 (n0 := 1) (n1 := 4608) 0 n))

/-- A list spread over the rows. -/
theorem rows_at {α : Type} (x : S1x4608.Idx → α) (p : Fin 32768) (n : Fin 4608) :
    broadcastTo S32768x4608 x broadcasts_S1x4608_S32768x4608 (ix2 (n0 := 32768) (n1 := 4608) p n) = x (ix2 (n0 := 1) (n1 := 4608) 0 n) := by
  rw [Pointwise.broadcastTo_apply]
  congr 1
  funext a
  match a with
  | ⟨0, _⟩ => rfl
  | ⟨1, _⟩ => rfl

/-- An element of the product is the sum over the features. -/
theorem product_at (xs : FVec Ideal S32768x3584 .bf16) (W : FVec Ideal S3584x4608 .bf16) (p : Fin 32768) (n : Fin 4608) :
    matmul (F := Ideal) dot_S32768x3584_S3584x4608_S32768x4608_1_0_0_1_n_n none xs W (constant S32768x4608 .f32 0x00000000#32) (ix2 (n0 := 32768) (n1 := 4608) p n)
      = (∑ d : Fin 3584, (xs (ix2 (n0 := 32768) (n1 := 3584) p d) : EReal) * (W (ix2 (n0 := 3584) (n1 := 4608) d n) : EReal) : EReal) := by
  refine (Ideal.matmul_plain_apply (M := 32768) (K := 3584) (N := 4608) none xs W (constant S32768x4608 .f32 0x00000000#32) p n).trans ?_
  have ez : (constant S32768x4608 .f32 0x00000000#32 : FVec Ideal S32768x4608 .f32) (ix2 (n0 := 32768) (n1 := 4608) p n) = (0 : EReal) := zero_f32
  exact (congrArg (fun a : EReal => a + ∑ d : Fin 3584, (xs (ix2 (n0 := 32768) (n1 := 3584) p d) : EReal) * (W (ix2 (n0 := 3584) (n1 := 4608) d n) : EReal)) ez).trans
    (zero_add _)

/-- Every column of every token, from the scaled activations. -/
def yV (xs : FVec Ideal S32768x3584 .bf16) (W : FVec Ideal S3584x4608 .bf16) (ws : FVec Ideal S1x4608 .f32) (bi : FVec Ideal S1x4608 .f32) : FVec Ideal S32768x4608 .bf16 :=
  truncf .bf16 (addf (mulf (matmul dot_S32768x3584_S3584x4608_S32768x4608_1_0_0_1_n_n none xs W (constant S32768x4608 .f32 0x00000000#32))
    (broadcastTo S32768x4608 ws broadcasts_S1x4608_S32768x4608)) (broadcastTo S32768x4608 bi broadcasts_S1x4608_S32768x4608)) bitsLt_bf16_f32

/-- A column of a token, from the scaled activations. -/
theorem yV_at (xs : FVec Ideal S32768x3584 .bf16) (W : FVec Ideal S3584x4608 .bf16) (ws : FVec Ideal S1x4608 .f32) (bi : FVec Ideal S1x4608 .f32) (p : Fin 32768) (n : Fin 4608) :
    yV xs W ws bi (ix2 (n0 := 32768) (n1 := 4608) p n) = FloatOps.truncf (F := Ideal) (φ := .f32) .bf16 (by decide) (FloatOps.addf
      (FloatOps.mulf (F := Ideal) (φ := .f32)
        (∑ d : Fin 3584, (xs (ix2 (n0 := 32768) (n1 := 3584) p d) : EReal) * (W (ix2 (n0 := 3584) (n1 := 4608) d n) : EReal) : EReal)
        (ws (ix2 (n0 := 1) (n1 := 4608) 0 n))) (bi (ix2 (n0 := 1) (n1 := 4608) 0 n))) := by
  unfold yV
  refine (truncf_at _ _ _).trans (congrArg (FloatOps.truncf (F := Ideal) (φ := .f32) .bf16 (by decide)) ?_)
  refine (addf_at _ _ _).trans (congrArg₂ (FloatOps.addf (F := Ideal) (φ := .f32)) ?_ (rows_at bi p n))
  exact (mulf_at _ _ _).trans (congrArg₂ (FloatOps.mulf (F := Ideal) (φ := .f32)) (product_at xs W p n) (rows_at ws p n))

/-- All columns the reference computes. -/
theorem pay1_eq (X : S4x8192x3584.Idx → Ideal .bf16) (W : S3584x4608.Idx → Ideal .fp8e4m3) (ws : S1x4608.Idx → Ideal .f32) (bi : S1x4608.Idx → Ideal .bf16) :
    k0_pay1 (F := Ideal) (k0_pay10 (F := Ideal) X W ws) bi = yV (xsAll X) (extf (F := Ideal) (φ := .fp8e4m3) .bf16 W bitsLt_fp8e4m3_bf16)
      (shapeCast S1x4608 ws shapeCasts_S1x4608_S1x4608) (extf (F := Ideal) (φ := .bf16) .f32 (shapeCast S1x4608 bi shapeCasts_S1x4608_S1x4608) bitsLt_bf16_f32) := rfl

/-- A column of a token is its projection. -/
theorem pay1_at (X : S4x8192x3584.Idx → Ideal .bf16) (W : S3584x4608.Idx → Ideal .fp8e4m3) (ws : S1x4608.Idx → Ideal .f32) (bi : S1x4608.Idx → Ideal .bf16)
    (b : Fin 4) (s : Fin 8192) (n : Fin 4608) :
    k0_pay1 (F := Ideal) (k0_pay10 (F := Ideal) X W ws) bi (ix2 (n0 := 32768) (n1 := 4608) (tok b s) n) = yAll X W ws bi b s n := by
  rw [pay1_eq, shapeCast_id, shapeCast_id, yV_at]
  unfold yAll Row.project
  have e : (∑ d : Fin 3584, (xsAll X (ix2 (n0 := 32768) (n1 := 3584) (tok b s) d) : EReal)
      * (extf (F := Ideal) (φ := .fp8e4m3) .bf16 W bitsLt_fp8e4m3_bf16 (ix2 (n0 := 3584) (n1 := 4608) d n) : EReal) : EReal)
      = (∑ d : Fin 3584, (lineX (line4 X b s) d : EReal) * (W (ix2 (n0 := 3584) (n1 := 4608) d n) : EReal) : EReal) :=
    Finset.sum_congr rfl fun d _ => congrArg (fun a : EReal => a * (W (ix2 (n0 := 3584) (n1 := 4608) d n) : EReal)) (xsAll_at X b s d)
  rw [e, extf_at]

/-- The columns of the queries', the keys' and the values' heads. -/
abbrev qCol (h : Fin 28) (l : Fin 128) : Fin 4608 := ⟨h.val * 128 + l.val, by omega⟩
/-- The columns of the keys. -/
abbrev kCol (h : Fin 4) (l : Fin 128) : Fin 4608 := ⟨3584 + (h.val * 128 + l.val), by omega⟩
/-- The columns of the values. -/
abbrev vCol (h : Fin 4) (l : Fin 128) : Fin 4608 := ⟨4096 + (h.val * 128 + l.val), by omega⟩

/-- A head of the queries cut out of all columns. -/
theorem q_at {α : Type} (Y : S32768x4608.Idx → α) (hs : S32768x4608.Slices ![0, 0] S32768x3584) (hc : S32768x3584.ShapeCasts S4x8192x28x128)
    (b : Fin 4) (s : Fin 8192) (h : Fin 28) (l : Fin 128) :
    shapeCast S4x8192x28x128 (extractStridedSlice S32768x3584 ![0, 0] Y hs) hc (ix4 (n0 := 4) (n1 := 8192) (n2 := 28) (n3 := 128) b s h l)
      = Y (ix2 (n0 := 32768) (n1 := 4608) (tok b s) (qCol h l)) := by
  refine (cast_at _ hc _ (ix2 (n0 := 32768) (n1 := 3584) (tok b s) (cat h l)) ?_).trans ?_
  · rw [rowMajor_val2 _ 3584 rfl, rowMajor_val4 _ (8192 * 28 * 128) (28 * 128) 128 rfl rfl rfl]
    show (b.val * 8192 + s.val) * 3584 + (h.val * 128 + l.val) = b.val * (8192 * 28 * 128) + s.val * (28 * 128) + h.val * 128 + l.val; omega
  · rw [Pointwise.extractStridedSlice_apply]
    congr 1
    funext a
    match a with
    | ⟨0, _⟩ => exact Fin.ext (by show 0 + (b.val * 8192 + s.val) = b.val * 8192 + s.val; omega)
    | ⟨1, _⟩ => exact Fin.ext (by show 0 + (h.val * 128 + l.val) = h.val * 128 + l.val; omega)

/-- The reference's queries. -/
theorem pay2_at (X : S4x8192x3584.Idx → Ideal .bf16) (W : S3584x4608.Idx → Ideal .fp8e4m3) (ws : S1x4608.Idx → Ideal .f32) (bi : S1x4608.Idx → Ideal .bf16)
    (b : Fin 4) (s : Fin 8192) (h : Fin 28) (l : Fin 128) :
    k0_pay2 (F := Ideal) (k0_pay10 (F := Ideal) X W ws) bi (ix4 (n0 := 4) (n1 := 8192) (n2 := 28) (n3 := 128) b s h l) = yAll X W ws bi b s (qCol h l) := by
  rw [← pay1_at]
  exact q_at _ slices_S32768x4608_o0_0_S32768x3584 shapeCasts_S32768x3584_S4x8192x28x128 b s h l

/-- A head of the keys or values cut out of all columns. -/
theorem kv_at {α : Type} (Y : S32768x4608.Idx → α) (o : Nat) (hs : S32768x4608.Slices ![0, o] S32768x512) (hc : S32768x512.ShapeCasts S4x8192x4x128)
    (b : Fin 4) (s : Fin 8192) (h : Fin 4) (l : Fin 128) (n : Fin 4608) (hn : n.val = o + (h.val * 128 + l.val)) :
    shapeCast S4x8192x4x128 (extractStridedSlice S32768x512 ![0, o] Y hs) hc (ix4 (n0 := 4) (n1 := 8192) (n2 := 4) (n3 := 128) b s h l)
      = Y (ix2 (n0 := 32768) (n1 := 4608) (tok b s) n) := by
  refine (cast_at _ hc _ (ix2 (n0 := 32768) (n1 := 512) (tok b s) ⟨h.val * 128 + l.val, by omega⟩) ?_).trans ?_
  · rw [rowMajor_val2 _ 512 rfl, rowMajor_val4 _ (8192 * 4 * 128) (4 * 128) 128 rfl rfl rfl]
    show (b.val * 8192 + s.val) * 512 + (h.val * 128 + l.val) = b.val * (8192 * 4 * 128) + s.val * (4 * 128) + h.val * 128 + l.val; omega
  · rw [Pointwise.extractStridedSlice_apply]
    congr 1
    funext a
    match a with
    | ⟨0, _⟩ => exact Fin.ext (by show 0 + (b.val * 8192 + s.val) = b.val * 8192 + s.val; omega)
    | ⟨1, _⟩ => exact Fin.ext (by show o + (h.val * 128 + l.val) = n.val; omega)

/-- The reference's keys. -/
theorem pay3_at (X : S4x8192x3584.Idx → Ideal .bf16) (W : S3584x4608.Idx → Ideal .fp8e4m3) (ws : S1x4608.Idx → Ideal .f32) (bi : S1x4608.Idx → Ideal .bf16)
    (b : Fin 4) (s : Fin 8192) (h : Fin 4) (l : Fin 128) :
    k0_pay3 (F := Ideal) (k0_pay10 (F := Ideal) X W ws) bi (ix4 (n0 := 4) (n1 := 8192) (n2 := 4) (n3 := 128) b s h l) = yAll X W ws bi b s (kCol h l) := by
  rw [← pay1_at]
  exact kv_at _ 3584 slices_S32768x4608_o0_3584_S32768x512 shapeCasts_S32768x512_S4x8192x4x128 b s h l (kCol h l) rfl

/-- The reference's values. -/
theorem pay4_at (X : S4x8192x3584.Idx → Ideal .bf16) (W : S3584x4608.Idx → Ideal .fp8e4m3) (ws : S1x4608.Idx → Ideal .f32) (bi : S1x4608.Idx → Ideal .bf16)
    (b : Fin 4) (s : Fin 8192) (h : Fin 4) (l : Fin 128) :
    k0_pay4 (F := Ideal) (k0_pay10 (F := Ideal) X W ws) bi (ix4 (n0 := 4) (n1 := 8192) (n2 := 4) (n3 := 128) b s h l) = yAll X W ws bi b s (vCol h l) := by
  rw [← pay1_at]
  exact kv_at _ 4096 slices_S32768x4608_o0_4096_S32768x512 shapeCasts_S32768x512_S4x8192x4x128 b s h l (vCol h l) rfl

end Cert.ReferenceIdeal.Val

end
-- ==== Proof.Arrays.lean ====
/-
  The kernel's results over the extended reals: each block, then each whole array, as a function of the arguments.
-/
module

public import proofs.«01_k».proof.Proof.Blocks
public import proofs.«01_k».proof.Proof.RefValue

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pointwise
open Idealize.ShloMosaic.Pipeline (Dat)
open Cert.Row (Good lineCode lineScale lineX)
open Cert.ReferenceIdeal.Val (line4 yAll qCol kCol vCol)

variable (m : (ℓ : Loc nD τ sig) → Buf (Elt Ideal) ℓ)

/-- Every line of the activations is in range. -/
def InRange (c : Dev nD) : Prop := ∀ (b : Fin 4) (s : Fin 8192), Good (line4 (argX m c) b s)

/-- The scales and the bias as one row. -/
abbrev rowS (c : Dev nD) : S1x4608.Idx → Ideal .f32 := shapeCast S1x4608 (argS m c) Facts₀.shapeCasts_S4608_S1x4608
/-- The bias as one row. -/
abbrev rowB (c : Dev nD) : S1x4608.Idx → Ideal .bf16 := shapeCast S1x4608 (argB m c) Facts₀.shapeCasts_S4608_S1x4608

/-! ## A point's lines are the arguments' -/

/-- A line of a point's second half is its token's line of the activations. -/
theorem xB_line (c : Dev nD) (t : Fin cfg0.N) (b : Fin 2) (r : Fin 128) : line2 (xB m c t) b r = line4 (argX m c) (hi b) (row t r) :=
  funext fun d => xB_at m c t b r d
/-- A line of a point's first half is its token's line of the activations. -/
theorem xh_line (c : Dev nD) (t : Fin cfg0.N) (b : Fin 2) (r : Fin 128) : line2 (xh m c t.val) b r = line4 (argX m c) (lo b) (row t r) :=
  funext fun d => xh_at m c t b r d

/-- The line a point quantises for sequence `b` is that of the token in the activations. -/
theorem halves_line (c : Dev nD) (t : Fin cfg0.N) (b : Fin 4) (r : Fin 128) :
    line2 (halves m c t (gOf b)) (bOf b) r = line4 (argX m c) b (row t r) := by
  have hb := b.isLt
  by_cases h : b.val < 2
  · have e0 : gOf b = 0 := Fin.ext (by show b.val / 2 = 0; omega)
    have e : halves m c t (gOf b) = xh m c t.val := if_pos e0
    rw [e, xh_line, show lo (bOf b) = b from Fin.ext (by show b.val % 2 = b.val; omega)]
  · have e0 : gOf b = 1 := Fin.ext (by show b.val / 2 = 1; omega)
    have e : halves m c t (gOf b) = xB m c t := if_neg (by rw [e0]; decide)
    rw [e, xB_line, show hi (bOf b) = b from Fin.ext (by show 2 + b.val % 2 = b.val; omega)]

/-! ## The blocks -/

/-- An element of a tile of a point's projection. -/
theorem tile_line (c : Dev nD) (h : InRange m c) (t : Fin cfg0.N) (b : Fin 4) (r : Fin 128) (n : Fin 9) (k : Fin 512) (j : Fin 4608)
    (hj : j.val = n.val * 512 + k.val) :
    tile (F := Ideal) (specS (F := Ideal) (halves m c t (gOf b))) (wB m c t) (wsB m c t) (biB m c t) n (ix2 (n0 := 256) (n1 := 512) (rw256 (bOf b) r) k)
      = yAll (argX m c) (argW m c) (rowS m c) (rowB m c) b (row t r) j := by
  have ej : col n k = j := Fin.ext hj.symm
  rw [tile_at, ej, wsB_at, biB_at]
  unfold yAll
  have eX : (fun d => specS (F := Ideal) (halves m c t (gOf b)) (ix2 (n0 := 256) (n1 := 3584) (rw256 (bOf b) r) d)) = lineX (line4 (argX m c) b (row t r)) :=
    funext fun d => by rw [specS_line _ _ _ _ (by rw [halves_line]; exact h b (row t r)), halves_line]
  have eW : (fun d => wB m c t (ix2 (n0 := 3584) (n1 := 4608) d j)) = fun d => argW m c (ix2 (n0 := 3584) (n1 := 4608) d j) :=
    funext fun d => wB_at m c t d j
  rw [eX, eW]

/-- An element of a point's block of queries is the projection's, at the head's column. -/
theorem qB_at (c : Dev nD) (h : InRange m c) (t : Fin cfg0.N) (b : Fin 4) (n : Fin 28) (r l : Fin 128) :
    qB m c t (ix4 (n0 := 4) (n1 := 28) (n2 := 128) (n3 := 128) b n r l) = yAll (argX m c) (argW m c) (rowS m c) (rowB m c) b (row t r) (qCol n l) :=
  tile_line m c h t b r (up (nOf n)) (cl512 (cOf n) l) (qCol n l) (by
    show n.val * 128 + l.val = n.val / 4 * 512 + (n.val % 4 * 128 + l.val); omega)
/-- An element of a point's block of keys is the projection's. -/
theorem kB_at (c : Dev nD) (h : InRange m c) (t : Fin cfg0.N) (b : Fin 4) (r : Fin 128) (n : Fin 4) (l : Fin 128) :
    kB m c t (ix4 (n0 := 4) (n1 := 128) (n2 := 4) (n3 := 128) b r n l) = yAll (argX m c) (argW m c) (rowS m c) (rowB m c) b (row t r) (kCol n l) :=
  tile_line m c h t b r 7 (cl512 n l) (kCol n l) (by show 3584 + (n.val * 128 + l.val) = 7 * 512 + (n.val * 128 + l.val); omega)
/-- An element of a point's block of values is the projection's. -/
theorem vB_at (c : Dev nD) (h : InRange m c) (t : Fin cfg0.N) (b : Fin 4) (r : Fin 128) (n : Fin 4) (l : Fin 128) :
    vB m c t (ix4 (n0 := 4) (n1 := 128) (n2 := 4) (n3 := 128) b r n l) = yAll (argX m c) (argW m c) (rowS m c) (rowB m c) b (row t r) (vCol n l) :=
  tile_line m c h t b r 8 (cl512 n l) (vCol n l) (by show 4096 + (n.val * 128 + l.val) = 8 * 512 + (n.val * 128 + l.val); omega)

/-- A code of the first half is the code of the token's line. -/
theorem cB_lo (c : Dev nD) (h : InRange m c) (t : Fin cfg0.N) (b : Fin 2) (r : Fin 128) (d : Fin 3584) :
    specC (F := Ideal) (xh m c t.val) (ix3 (n0 := 2) (n1 := 128) (n2 := 3584) b r d) = lineCode (line4 (argX m c) (lo b) (row t r)) d := by
  rw [specC_line _ _ _ _ (by rw [xh_line]; exact h (lo b) (row t r)), xh_line]
/-- A code of the second half is the code of the token's line. -/
theorem cB_hi (c : Dev nD) (h : InRange m c) (t : Fin cfg0.N) (b : Fin 2) (r : Fin 128) (d : Fin 3584) :
    specC (F := Ideal) (xB m c t) (ix3 (n0 := 2) (n1 := 128) (n2 := 3584) b r d) = lineCode (line4 (argX m c) (hi b) (row t r)) d := by
  rw [specC_line _ _ _ _ (by rw [xB_line]; exact h (hi b) (row t r)), xB_line]
/-- A code of a point's block is the code of the token's line. -/
theorem cB_at (c : Dev nD) (h : InRange m c) (t : Fin cfg0.N) (b : Fin 4) (r : Fin 128) (d : Fin 3584) :
    cB m c t (ix3 (n0 := 4) (n1 := 128) (n2 := 3584) b r d) = lineCode (line4 (argX m c) b (row t r)) d := by
  have hb := b.isLt
  by_cases h2 : b.val < 2
  · have e := cB_lo m c h t ⟨b.val, h2⟩ r d
    rw [show lo ⟨b.val, h2⟩ = b from rfl] at e
    exact (dif_pos h2).trans e
  · have e := cB_hi m c h t ⟨b.val - 2, by omega⟩ r d
    rw [show hi ⟨b.val - 2, by omega⟩ = b from Fin.ext (by show 2 + (b.val - 2) = b.val; omega)] at e
    exact (dif_neg h2).trans e

/-- A scale of a point's block is the scale of the token's line. -/
theorem sB_at (c : Dev nD) (h : InRange m c) (t : Fin cfg0.N) (j : Fin 28) (b : Fin 4) (r : Fin 128) :
    sB m c t (ix3 (n0 := 28) (n1 := 4) (n2 := 128) j b r) = lineScale (line4 (argX m c) b (row t r)) j := by
  show specT (F := Ideal) (halves m c t (gOf b)) (bOf b) j r = _
  rw [specT_line _ _ _ _ (by rw [halves_line]; exact h b (row t r)), halves_line]

/-! ## The arrays -/

/-- The five arrays the grid leaves: the queries and the scales still in the kernel's own layout. -/
def arrQ (c : Dev nD) : S4x28x8192x128.Idx → Ideal .bf16 := fun i =>
  yAll (argX m c) (argW m c) (rowS m c) (rowB m c) (i 0) (i 2) (qCol (i 1) (i 3))
/-- The keys. -/
def arrK (c : Dev nD) : S4x8192x4x128.Idx → Ideal .bf16 := fun i =>
  yAll (argX m c) (argW m c) (rowS m c) (rowB m c) (i 0) (i 1) (kCol (i 2) (i 3))
/-- The values. -/
def arrV (c : Dev nD) : S4x8192x4x128.Idx → Ideal .bf16 := fun i =>
  yAll (argX m c) (argW m c) (rowS m c) (rowB m c) (i 0) (i 1) (vCol (i 2) (i 3))
/-- The codes. -/
def arrC (c : Dev nD) : S4x8192x3584.Idx → Ideal .fp8e4m3 := fun i => lineCode (line4 (argX m c) (i 0) (i 1)) (i 2)
/-- The scales, blocks first. -/
def arrS (c : Dev nD) : S28x4x8192.Idx → Ideal .f32 := fun i => lineScale (line4 (argX m c) (i 1) (i 2)) (i 0)

/-- The block a token lies in. -/
abbrev tOf (s : Fin 8192) : Fin cfg0.N := ⟨s.val / 128, by show s.val / 128 < 64; omega⟩

/-- The queries' blocks are blocks of one array `G`, if they are element by element. -/
theorem final6_of (c : Dev nD) (G : S4x28x8192x128.Idx → Ideal .bf16)
    (hG : ∀ t (b : Fin 4) (n : Fin 28) (r l : Fin 128), qB m c t (ix4 (n0 := 4) (n1 := 28) (n2 := 128) (n3 := 128) b n r l) = G (ix4 (n0 := 4) (n1 := 28) (n2 := 8192) (n3 := 128) b n (row t r) l)) :
    (dats m 0 c).arrAt 6 cfg0.N = G := by
  refine (dats m 0 c).arrAt_eq_of_cover 6 G (fun t _ => ?_) fun i => ⟨tOf (i 2), flush0_6 _, ?_⟩
  · show (cfg0.win 6).cut (grid0.coords t) ((dats m 0 c).after 6 t) = _
    rw [after_6]
    have hi := index6 t
    funext y
    rw [View.read_apply]
    refine (hG t (y 0) (y 1) (y 2) (y 3)).trans (congrArg G (funext fun a => Fin.ext ?_))
    match a with
    | ⟨0, _⟩ => show (y 0).val = win0_6.index t 0 * 4 + 1 * (y 0).val; rw [hi.1]; omega
    | ⟨1, _⟩ => show (y 1).val = win0_6.index t 1 * 28 + 1 * (y 1).val; rw [hi.2.1]; omega
    | ⟨2, _⟩ => show t.val * 128 + (y 2).val = win0_6.index t 2 * 128 + 1 * (y 2).val; rw [hi.2.2.1]; omega
    | ⟨3, _⟩ => show (y 3).val = win0_6.index t 3 * 128 + 1 * (y 3).val; rw [hi.2.2.2]; omega
  · show i ∈ ((View.whole main_v2_0).slice (win0_6.rect (tOf (i 2)))).set
    rw [View.set_slice_whole, Rect.mem_set_unit]
    have hi := index6 (tOf (i 2))
    intro a
    have h0 : (i 0 : Nat) < 4 := (i 0).isLt
    have h1 : (i 1 : Nat) < 28 := (i 1).isLt
    have h2 : (i 2 : Nat) < 8192 := (i 2).isLt
    have h3 : (i 3 : Nat) < 128 := (i 3).isLt
    match a with
    | ⟨0, _⟩ => show win0_6.index (tOf (i 2)) 0 * 4 ≤ (i 0 : Nat) ∧ (i 0 : Nat) < win0_6.index (tOf (i 2)) 0 * 4 + 4; rw [hi.1]; omega
    | ⟨1, _⟩ => show win0_6.index (tOf (i 2)) 1 * 28 ≤ (i 1 : Nat) ∧ (i 1 : Nat) < win0_6.index (tOf (i 2)) 1 * 28 + 28; rw [hi.2.1]; omega
    | ⟨2, _⟩ => show win0_6.index (tOf (i 2)) 2 * 128 ≤ (i 2 : Nat) ∧ (i 2 : Nat) < win0_6.index (tOf (i 2)) 2 * 128 + 128; rw [hi.2.2.1]; show (i 2 : Nat) / 128 * 128 ≤ (i 2 : Nat) ∧ (i 2 : Nat) < (i 2 : Nat) / 128 * 128 + 128; omega
    | ⟨3, _⟩ => show win0_6.index (tOf (i 2)) 3 * 128 ≤ (i 3 : Nat) ∧ (i 3 : Nat) < win0_6.index (tOf (i 2)) 3 * 128 + 128; rw [hi.2.2.2]; omega

/-- The grid leaves the array of queries. -/
theorem final6 (c : Dev nD) (h : InRange m c) : (dats m 0 c).arrAt 6 cfg0.N = arrQ m c := final6_of m c _ fun t b n r l => qB_at m c h t b n r l

/-- The same of the keys. -/
theorem final7_of (c : Dev nD) (G : S4x8192x4x128.Idx → Ideal .bf16)
    (hG : ∀ t (b : Fin 4) (r : Fin 128) (n : Fin 4) (l : Fin 128), kB m c t (ix4 (n0 := 4) (n1 := 128) (n2 := 4) (n3 := 128) b r n l) = G (ix4 (n0 := 4) (n1 := 8192) (n2 := 4) (n3 := 128) b (row t r) n l)) :
    (dats m 0 c).arrAt 7 cfg0.N = G := by
  refine (dats m 0 c).arrAt_eq_of_cover 7 G (fun t _ => ?_) fun i => ⟨tOf (i 1), flush0_7 _, ?_⟩
  · show (cfg0.win 7).cut (grid0.coords t) ((dats m 0 c).after 7 t) = _
    rw [after_7]
    have hi := index7 t
    funext y
    rw [View.read_apply]
    refine (hG t (y 0) (y 1) (y 2) (y 3)).trans (congrArg G (funext fun a => Fin.ext ?_))
    match a with
    | ⟨0, _⟩ => show (y 0).val = win0_7.index t 0 * 4 + 1 * (y 0).val; rw [hi.1]; omega
    | ⟨1, _⟩ => show t.val * 128 + (y 1).val = win0_7.index t 1 * 128 + 1 * (y 1).val; rw [hi.2.1]; omega
    | ⟨2, _⟩ => show (y 2).val = win0_7.index t 2 * 4 + 1 * (y 2).val; rw [hi.2.2.1]; omega
    | ⟨3, _⟩ => show (y 3).val = win0_7.index t 3 * 128 + 1 * (y 3).val; rw [hi.2.2.2]; omega
  · show i ∈ ((View.whole main_v2_1).slice (win0_7.rect (tOf (i 1)))).set
    rw [View.set_slice_whole, Rect.mem_set_unit]
    have hi := index7 (tOf (i 1))
    intro a
    have h0 : (i 0 : Nat) < 4 := (i 0).isLt
    have h1 : (i 1 : Nat) < 8192 := (i 1).isLt
    have h2 : (i 2 : Nat) < 4 := (i 2).isLt
    have h3 : (i 3 : Nat) < 128 := (i 3).isLt
    match a with
    | ⟨0, _⟩ => show win0_7.index (tOf (i 1)) 0 * 4 ≤ (i 0 : Nat) ∧ (i 0 : Nat) < win0_7.index (tOf (i 1)) 0 * 4 + 4; rw [hi.1]; omega
    | ⟨1, _⟩ => show win0_7.index (tOf (i 1)) 1 * 128 ≤ (i 1 : Nat) ∧ (i 1 : Nat) < win0_7.index (tOf (i 1)) 1 * 128 + 128; rw [hi.2.1]; show (i 1 : Nat) / 128 * 128 ≤ (i 1 : Nat) ∧ (i 1 : Nat) < (i 1 : Nat) / 128 * 128 + 128; omega
    | ⟨2, _⟩ => show win0_7.index (tOf (i 1)) 2 * 4 ≤ (i 2 : Nat) ∧ (i 2 : Nat) < win0_7.index (tOf (i 1)) 2 * 4 + 4; rw [hi.2.2.1]; omega
    | ⟨3, _⟩ => show win0_7.index (tOf (i 1)) 3 * 128 ≤ (i 3 : Nat) ∧ (i 3 : Nat) < win0_7.index (tOf (i 1)) 3 * 128 + 128; rw [hi.2.2.2]; omega

/-- The grid leaves the array of keys. -/
theorem final7 (c : Dev nD) (h : InRange m c) : (dats m 0 c).arrAt 7 cfg0.N = arrK m c := final7_of m c _ fun t b r n l => kB_at m c h t b r n l

/-- The same of the values. -/
theorem final8_of (c : Dev nD) (G : S4x8192x4x128.Idx → Ideal .bf16)
    (hG : ∀ t (b : Fin 4) (r : Fin 128) (n : Fin 4) (l : Fin 128), vB m c t (ix4 (n0 := 4) (n1 := 128) (n2 := 4) (n3 := 128) b r n l) = G (ix4 (n0 := 4) (n1 := 8192) (n2 := 4) (n3 := 128) b (row t r) n l)) :
    (dats m 0 c).arrAt 8 cfg0.N = G := by
  refine (dats m 0 c).arrAt_eq_of_cover 8 G (fun t _ => ?_) fun i => ⟨tOf (i 1), flush0_8 _, ?_⟩
  · show (cfg0.win 8).cut (grid0.coords t) ((dats m 0 c).after 8 t) = _
    rw [after_8]
    have hi := index8 t
    funext y
    rw [View.read_apply]
    refine (hG t (y 0) (y 1) (y 2) (y 3)).trans (congrArg G (funext fun a => Fin.ext ?_))
    match a with
    | ⟨0, _⟩ => show (y 0).val = win0_8.index t 0 * 4 + 1 * (y 0).val; rw [hi.1]; omega
    | ⟨1, _⟩ => show t.val * 128 + (y 1).val = win0_8.index t 1 * 128 + 1 * (y 1).val; rw [hi.2.1]; omega
    | ⟨2, _⟩ => show (y 2).val = win0_8.index t 2 * 4 + 1 * (y 2).val; rw [hi.2.2.1]; omega
    | ⟨3, _⟩ => show (y 3).val = win0_8.index t 3 * 128 + 1 * (y 3).val; rw [hi.2.2.2]; omega
  · show i ∈ ((View.whole main_v2_2).slice (win0_8.rect (tOf (i 1)))).set
    rw [View.set_slice_whole, Rect.mem_set_unit]
    have hi := index8 (tOf (i 1))
    intro a
    have h0 : (i 0 : Nat) < 4 := (i 0).isLt
    have h1 : (i 1 : Nat) < 8192 := (i 1).isLt
    have h2 : (i 2 : Nat) < 4 := (i 2).isLt
    have h3 : (i 3 : Nat) < 128 := (i 3).isLt
    match a with
    | ⟨0, _⟩ => show win0_8.index (tOf (i 1)) 0 * 4 ≤ (i 0 : Nat) ∧ (i 0 : Nat) < win0_8.index (tOf (i 1)) 0 * 4 + 4; rw [hi.1]; omega
    | ⟨1, _⟩ => show win0_8.index (tOf (i 1)) 1 * 128 ≤ (i 1 : Nat) ∧ (i 1 : Nat) < win0_8.index (tOf (i 1)) 1 * 128 + 128; rw [hi.2.1]; show (i 1 : Nat) / 128 * 128 ≤ (i 1 : Nat) ∧ (i 1 : Nat) < (i 1 : Nat) / 128 * 128 + 128; omega
    | ⟨2, _⟩ => show win0_8.index (tOf (i 1)) 2 * 4 ≤ (i 2 : Nat) ∧ (i 2 : Nat) < win0_8.index (tOf (i 1)) 2 * 4 + 4; rw [hi.2.2.1]; omega
    | ⟨3, _⟩ => show win0_8.index (tOf (i 1)) 3 * 128 ≤ (i 3 : Nat) ∧ (i 3 : Nat) < win0_8.index (tOf (i 1)) 3 * 128 + 128; rw [hi.2.2.2]; omega

/-- The grid leaves the array of values. -/
theorem final8 (c : Dev nD) (h : InRange m c) : (dats m 0 c).arrAt 8 cfg0.N = arrV m c := final8_of m c _ fun t b r n l => vB_at m c h t b r n l

/-- The same of the codes. -/
theorem final9_of (c : Dev nD) (G : S4x8192x3584.Idx → Ideal .fp8e4m3)
    (hG : ∀ t (b : Fin 4) (r : Fin 128) (d : Fin 3584), cB m c t (ix3 (n0 := 4) (n1 := 128) (n2 := 3584) b r d) = G (ix3 (n0 := 4) (n1 := 8192) (n2 := 3584) b (row t r) d)) :
    (dats m 0 c).arrAt 9 cfg0.N = G := by
  refine (dats m 0 c).arrAt_eq_of_cover 9 G (fun t _ => ?_) fun i => ⟨tOf (i 1), flush0_9 _, ?_⟩
  · show (cfg0.win 9).cut (grid0.coords t) ((dats m 0 c).after 9 t) = _
    rw [after_9]
    have hi := index9 t
    funext y
    rw [View.read_apply]
    refine (hG t (y 0) (y 1) (y 2)).trans (congrArg G (funext fun a => Fin.ext ?_))
    match a with
    | ⟨0, _⟩ => show (y 0).val = win0_9.index t 0 * 4 + 1 * (y 0).val; rw [hi.1]; omega
    | ⟨1, _⟩ => show t.val * 128 + (y 1).val = win0_9.index t 1 * 128 + 1 * (y 1).val; rw [hi.2.1]; omega
    | ⟨2, _⟩ => show (y 2).val = win0_9.index t 2 * 3584 + 1 * (y 2).val; rw [hi.2.2]; omega
  · show i ∈ ((View.whole main_v2_3).slice (win0_9.rect (tOf (i 1)))).set
    rw [View.set_slice_whole, Rect.mem_set_unit]
    have hi := index9 (tOf (i 1))
    intro a
    have h0 : (i 0 : Nat) < 4 := (i 0).isLt
    have h1 : (i 1 : Nat) < 8192 := (i 1).isLt
    have h2 : (i 2 : Nat) < 3584 := (i 2).isLt
    match a with
    | ⟨0, _⟩ => show win0_9.index (tOf (i 1)) 0 * 4 ≤ (i 0 : Nat) ∧ (i 0 : Nat) < win0_9.index (tOf (i 1)) 0 * 4 + 4; rw [hi.1]; omega
    | ⟨1, _⟩ => show win0_9.index (tOf (i 1)) 1 * 128 ≤ (i 1 : Nat) ∧ (i 1 : Nat) < win0_9.index (tOf (i 1)) 1 * 128 + 128; rw [hi.2.1]; show (i 1 : Nat) / 128 * 128 ≤ (i 1 : Nat) ∧ (i 1 : Nat) < (i 1 : Nat) / 128 * 128 + 128; omega
    | ⟨2, _⟩ => show win0_9.index (tOf (i 1)) 2 * 3584 ≤ (i 2 : Nat) ∧ (i 2 : Nat) < win0_9.index (tOf (i 1)) 2 * 3584 + 3584; rw [hi.2.2]; omega

/-- The grid leaves the array of codes. -/
theorem final9 (c : Dev nD) (h : InRange m c) : (dats m 0 c).arrAt 9 cfg0.N = arrC m c := final9_of m c _ fun t b r d => cB_at m c h t b r d

/-- The same of the scales. -/
theorem final10_of (c : Dev nD) (G : S28x4x8192.Idx → Ideal .f32)
    (hG : ∀ t (j : Fin 28) (b : Fin 4) (r : Fin 128), sB m c t (ix3 (n0 := 28) (n1 := 4) (n2 := 128) j b r) = G (ix3 (n0 := 28) (n1 := 4) (n2 := 8192) j b (row t r))) :
    (dats m 0 c).arrAt 10 cfg0.N = G := by
  refine (dats m 0 c).arrAt_eq_of_cover 10 G (fun t _ => ?_) fun i => ⟨tOf (i 2), flush0_10 _, ?_⟩
  · show (cfg0.win 10).cut (grid0.coords t) ((dats m 0 c).after 10 t) = _
    rw [after_10]
    have hi := index10 t
    funext y
    rw [View.read_apply]
    refine (hG t (y 0) (y 1) (y 2)).trans (congrArg G (funext fun a => Fin.ext ?_))
    match a with
    | ⟨0, _⟩ => show (y 0).val = win0_10.index t 0 * 28 + 1 * (y 0).val; rw [hi.1]; omega
    | ⟨1, _⟩ => show (y 1).val = win0_10.index t 1 * 4 + 1 * (y 1).val; rw [hi.2.1]; omega
    | ⟨2, _⟩ => show t.val * 128 + (y 2).val = win0_10.index t 2 * 128 + 1 * (y 2).val; rw [hi.2.2]; omega
  · show i ∈ ((View.whole main_v2_4).slice (win0_10.rect (tOf (i 2)))).set
    rw [View.set_slice_whole, Rect.mem_set_unit]
    have hi := index10 (tOf (i 2))
    intro a
    have h0 : (i 0 : Nat) < 28 := (i 0).isLt
    have h1 : (i 1 : Nat) < 4 := (i 1).isLt
    have h2 : (i 2 : Nat) < 8192 := (i 2).isLt
    match a with
    | ⟨0, _⟩ => show win0_10.index (tOf (i 2)) 0 * 28 ≤ (i 0 : Nat) ∧ (i 0 : Nat) < win0_10.index (tOf (i 2)) 0 * 28 + 28; rw [hi.1]; omega
    | ⟨1, _⟩ => show win0_10.index (tOf (i 2)) 1 * 4 ≤ (i 1 : Nat) ∧ (i 1 : Nat) < win0_10.index (tOf (i 2)) 1 * 4 + 4; rw [hi.2.1]; omega
    | ⟨2, _⟩ => show win0_10.index (tOf (i 2)) 2 * 128 ≤ (i 2 : Nat) ∧ (i 2 : Nat) < win0_10.index (tOf (i 2)) 2 * 128 + 128; rw [hi.2.2]; show (i 2 : Nat) / 128 * 128 ≤ (i 2 : Nat) ∧ (i 2 : Nat) < (i 2 : Nat) / 128 * 128 + 128; omega

/-- The grid leaves the array of scales. -/
theorem final10 (c : Dev nD) (h : InRange m c) : (dats m 0 c).arrAt 10 cfg0.N = arrS m c := final10_of m c _ fun t j b r => sB_at m c h t j b r

/-! ## The two transposes after the grid -/

/-- What the transposes find: each window's array as the grid leaves it. -/
theorem left_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  (dats m 0 c).withArrays_arrAt launch₀0.sharedIn (V0 m c) (fun w => A_eq m c w) w

/-- The first result is the array of queries, its heads and tokens exchanged. -/
theorem tail_v3 (c : Dev nD) : (Pipeline.afterTail₀ cfgs (dats m) 0 (V0 m) [hostOps1] c main_v3 : S4x8192x28x128.Idx → Ideal .bf16)
    = transpose S4x8192x28x128 [0, 2, 1, 3] ((dats m 0 c).arrAt 6 cfg0.N : S4x28x8192x128.Idx → Ideal .bf16) Facts₀.transposes_S4x28x8192x128_S4x8192x28x128_0_2_1_3 := by
  rw [← left_arr m c 6]
  unfold Pipeline.afterTail₀
  simp only [hostOps1, List.flatten_cons, List.flatten_nil, List.append_nil, List.cons_append, List.nil_append]
  after_results
/-- The last result is the array of scales, its blocks moved last. -/
theorem tail_v4 (c : Dev nD) : (Pipeline.afterTail₀ cfgs (dats m) 0 (V0 m) [hostOps1] c main_v4 : S4x8192x28.Idx → Ideal .f32)
    = transpose S4x8192x28 [1, 2, 0] ((dats m 0 c).arrAt 10 cfg0.N : S28x4x8192.Idx → Ideal .f32) Facts₀.transposes_S28x4x8192_S4x8192x28_1_2_0 := by
  rw [← left_arr m c 10]
  unfold Pipeline.afterTail₀
  simp only [hostOps1, List.flatten_cons, List.flatten_nil, List.append_nil, List.cons_append, List.nil_append]
  after_results

end Cert.KernelIdeal.Run

end
-- ==== Proof.RefArrays.lean ====
/-
  The reference's results as whole arrays.
-/
module

public import proofs.«01_k».proof.Proof.RefValue
public import proofs.«01_k».proof.Proof.Gen.ReferenceIdeal.Frame
public import Idealize.ShloMosaic.Lib.Pipeline.Value
public import Idealize.ShloMosaic.Lib.StableHlo.Run

@[expose] public section

set_option maxRecDepth 16384

noncomputable section

namespace Cert.ReferenceIdeal.Val

open Cert.ReferenceIdeal Cert.ReferenceIdeal.Facts₀ Cert.ReferenceIdeal.Gen
open Idealize.ShloMosaic Idealize.ShloMosaic.TcCoe Idealize.ShloMosaic.Tactic
open Idealize.ShloMosaic.Pointwise
open Idealize.ShloMosaic.Pipeline (Dat)
open Idealize.SL.Sem

/-! ## What the body leaves, without its rectangles -/

/-- Two zeros as the constant function. -/
theorem z2 : (![0, 0] : Fin 2 → Nat) = fun _ => 0 := funext fun a => by fin_cases a <;> rfl
/-- Three zeros as the constant function. -/
theorem z3 : (![0, 0, 0] : Fin 3 → Nat) = fun _ => 0 := funext fun a => by fin_cases a <;> rfl
/-- Four zeros as the constant function. -/
theorem z4 : (![0, 0, 0, 0] : Fin 4 → Nat) = fun _ => 0 := funext fun a => by fin_cases a <;> rfl

section
variable {F : FTy → Type} [FloatOps F]

/-- The load of the activations is the whole array. -/
theorem ld_0 (x : S4x8192x3584.Idx → Elt F .bf16) : View.ld x r0_0 = x := View.ld_unit_zero (S := S4x8192x3584) z3 _ x
/-- The load of the weights is the whole array. -/
theorem ld_1 (x : S3584x4608.Idx → Elt F .fp8e4m3) : View.ld x r0_1 = x := View.ld_unit_zero (S := S3584x4608) z2 _ x
/-- The load of a row is the whole row. -/
theorem ld_2 {e : EltTy} (x : S1x4608.Idx → Elt F e) : View.ld x r0_2 = x := View.ld_unit_zero (S := S1x4608) z2 _ x

/-- The queries the body stores. -/
theorem out4_eq (X : S4x8192x3584.Idx → Elt F .bf16) (W : S3584x4608.Idx → Elt F .fp8e4m3) (ws : S1x4608.Idx → Elt F .f32) (bi : S1x4608.Idx → Elt F .bf16) :
    out0_4 (F := F) X W ws bi = k0_pay2 (k0_pay10 X W ws) bi := by
  unfold out0_4 k0_pay11
  rw [ld_0, ld_1, ld_2, ld_2]
  exact View.canon_unit_zero (S := S4x8192x28x128) z4 _ _
/-- The keys the body stores. -/
theorem out5_eq (X : S4x8192x3584.Idx → Elt F .bf16) (W : S3584x4608.Idx → Elt F .fp8e4m3) (ws : S1x4608.Idx → Elt F .f32) (bi : S1x4608.Idx → Elt F .bf16) :
    out0_5 (F := F) X W ws bi = k0_pay3 (k0_pay10 X W ws) bi := by
  unfold out0_5 k0_pay11
  rw [ld_0, ld_1, ld_2, ld_2]
  exact View.canon_unit_zero (S := S4x8192x4x128) z4 _ _
/-- The values the body stores. -/
theorem out6_eq (X : S4x8192x3584.Idx → Elt F .bf16) (W : S3584x4608.Idx → Elt F .fp8e4m3) (ws : S1x4608.Idx → Elt F .f32) (bi : S1x4608.Idx → Elt F .bf16) :
    out0_6 (F := F) X W ws bi = k0_pay4 (k0_pay10 X W ws) bi := by
  unfold out0_6 k0_pay11
  rw [ld_0, ld_1, ld_2, ld_2]
  exact View.canon_unit_zero (S := S4x8192x4x128) z4 _ _
/-- The codes the body stores. -/
theorem out7_eq (X : S4x8192x3584.Idx → Elt F .bf16) (W : S3584x4608.Idx → Elt F .fp8e4m3) (ws : S1x4608.Idx → Elt F .f32) (bi : S1x4608.Idx → Elt F .bf16) :
    out0_7 (F := F) X W ws bi = k0_pay5 (k0_pay9 X) := by
  unfold out0_7
  rw [ld_0]
  exact View.canon_unit_zero (S := S4x8192x3584) z3 _ _
/-- The scales the body stores. -/
theorem out8_eq (X : S4x8192x3584.Idx → Elt F .bf16) (W : S3584x4608.Idx → Elt F .fp8e4m3) (ws : S1x4608.Idx → Elt F .f32) (bi : S1x4608.Idx → Elt F .bf16) :
    out0_8 (F := F) X W ws bi = k0_pay8 X := by
  unfold out0_8
  rw [ld_0]
  exact View.canon_unit_zero (S := S4x8192x28) z3 _ _

end

/-! ## The blocks are the arrays -/

variable (m : (ℓ : Loc nD τ sig) → Buf (Elt Ideal) ℓ) (g : Dev nD → PrngReg)

/-- The activations as launched. -/
abbrev argX (c : Dev nD) : S4x8192x3584.Idx → Ideal .bf16 := m ((c : Thread nD τ).loc main_arg0)
/-- The weights as launched. -/
abbrev argW (c : Dev nD) : S3584x4608.Idx → Ideal .fp8e4m3 := m ((c : Thread nD τ).loc main_arg1)
/-- The weights' scales as launched. -/
abbrev argS (c : Dev nD) : S4608.Idx → Ideal .f32 := m ((c : Thread nD τ).loc main_arg2)
/-- The bias as launched. -/
abbrev argB (c : Dev nD) : S4608.Idx → Ideal .bf16 := m ((c : Thread nD τ).loc main_arg3)

/-- The first window holds the activations. -/
theorem iblk0_eq (c : Dev nD) (t : Fin cfg0.N) : (iblk m c 0 t : S4x8192x3584.Idx → Ideal .bf16) = argX m c := by
  unfold iblk
  refine Eq.trans ?_ (V_main_arg0 m c)
  exact Memref.read_access_unit_zero (Elt Ideal) main_arg0 (funext fun a => Nat.zero_mul _) (fun a => by simp) (V m c main_arg0)
/-- The second window holds the weights. -/
theorem iblk1_eq (c : Dev nD) (t : Fin cfg0.N) : (iblk m c 1 t : S3584x4608.Idx → Ideal .fp8e4m3) = argW m c := by
  unfold iblk
  refine Eq.trans ?_ (V_main_arg1 m c)
  exact Memref.read_access_unit_zero (Elt Ideal) main_arg1 (funext fun a => Nat.zero_mul _) (fun a => by simp) (V m c main_arg1)

/-- The scales and the bias as the region finds them: the arguments as one row. -/
theorem V_v0 (c : Dev nD) : (V m c main_v0 : S1x4608.Idx → Ideal .f32) = shapeCast S1x4608 (argS m c) Facts₀.shapeCasts_S4608_S1x4608 := by
  unfold V
  simp only [hostOps0]
  after_results
  rfl
/-- The same of the bias. -/
theorem V_v1 (c : Dev nD) : (V m c main_v1 : S1x4608.Idx → Ideal .bf16) = shapeCast S1x4608 (argB m c) Facts₀.shapeCasts_S4608_S1x4608 := by
  unfold V
  simp only [hostOps0]
  after_results
  rfl
/-- The third window holds the scales as one row. -/
theorem iblk2_eq (c : Dev nD) (t : Fin cfg0.N) : (iblk m c 2 t : S1x4608.Idx → Ideal .f32) = shapeCast S1x4608 (argS m c) Facts₀.shapeCasts_S4608_S1x4608 := by
  unfold iblk
  refine Eq.trans ?_ (V_v0 m c)
  exact Memref.read_access_unit_zero (Elt Ideal) main_v0 (funext fun a => Nat.zero_mul _) (fun a => by simp) (V m c main_v0)
/-- The fourth window holds the bias as one row. -/
theorem iblk3_eq (c : Dev nD) (t : Fin cfg0.N) : (iblk m c 3 t : S1x4608.Idx → Ideal .bf16) = shapeCast S1x4608 (argB m c) Facts₀.shapeCasts_S4608_S1x4608 := by
  unfold iblk
  refine Eq.trans ?_ (V_v1 m c)
  exact Memref.read_access_unit_zero (Elt Ideal) main_v1 (funext fun a => Nat.zero_mul _) (fun a => by simp) (V m c main_v1)

/-! ## The results -/

/-- The five results as functions of the arguments. -/
def resQ (X : S4x8192x3584.Idx → Ideal .bf16) (W : S3584x4608.Idx → Ideal .fp8e4m3) (S : S4608.Idx → Ideal .f32) (B : S4608.Idx → Ideal .bf16) : S4x8192x28x128.Idx → Ideal .bf16 :=
  k0_pay2 (F := Ideal) (k0_pay10 (F := Ideal) X W (shapeCast S1x4608 S Facts₀.shapeCasts_S4608_S1x4608)) (shapeCast S1x4608 B Facts₀.shapeCasts_S4608_S1x4608)
/-- The keys. -/
def resK (X : S4x8192x3584.Idx → Ideal .bf16) (W : S3584x4608.Idx → Ideal .fp8e4m3) (S : S4608.Idx → Ideal .f32) (B : S4608.Idx → Ideal .bf16) : S4x8192x4x128.Idx → Ideal .bf16 :=
  k0_pay3 (F := Ideal) (k0_pay10 (F := Ideal) X W (shapeCast S1x4608 S Facts₀.shapeCasts_S4608_S1x4608)) (shapeCast S1x4608 B Facts₀.shapeCasts_S4608_S1x4608)
/-- The values. -/
def resV (X : S4x8192x3584.Idx → Ideal .bf16) (W : S3584x4608.Idx → Ideal .fp8e4m3) (S : S4608.Idx → Ideal .f32) (B : S4608.Idx → Ideal .bf16) : S4x8192x4x128.Idx → Ideal .bf16 :=
  k0_pay4 (F := Ideal) (k0_pay10 (F := Ideal) X W (shapeCast S1x4608 S Facts₀.shapeCasts_S4608_S1x4608)) (shapeCast S1x4608 B Facts₀.shapeCasts_S4608_S1x4608)
/-- The codes. -/
def resC (X : S4x8192x3584.Idx → Ideal .bf16) : S4x8192x3584.Idx → Ideal .fp8e4m3 := k0_pay5 (F := Ideal) (k0_pay9 (F := Ideal) X)
/-- The scales. -/
def resT (X : S4x8192x3584.Idx → Ideal .bf16) : S4x8192x28.Idx → Ideal .f32 := k0_pay8 (F := Ideal) X

/-- The body leaves the queries in its block. -/
theorem after4_eq (c : Dev nD) (t : Fin cfg0.N) : (dats m 0 c).after 4 t = resQ (argX m c) (argW m c) (argS m c) (argB m c) := by
  rw [after0_4, out4_eq, iblk0_eq, iblk1_eq, iblk2_eq, iblk3_eq]; rfl
/-- The body leaves the keys in its block. -/
theorem after5_eq (c : Dev nD) (t : Fin cfg0.N) : (dats m 0 c).after 5 t = resK (argX m c) (argW m c) (argS m c) (argB m c) := by
  rw [after0_5, out5_eq, iblk0_eq, iblk1_eq, iblk2_eq, iblk3_eq]; rfl
/-- The body leaves the values in its block. -/
theorem after6_eq (c : Dev nD) (t : Fin cfg0.N) : (dats m 0 c).after 6 t = resV (argX m c) (argW m c) (argS m c) (argB m c) := by
  rw [after0_6, out6_eq, iblk0_eq, iblk1_eq, iblk2_eq, iblk3_eq]; rfl
/-- The body leaves the codes in its block. -/
theorem after7_eq (c : Dev nD) (t : Fin cfg0.N) : (dats m 0 c).after 7 t = resC (argX m c) := by
  rw [after0_7, out7_eq, iblk0_eq]; rfl
/-- The body leaves the scales in its block. -/
theorem after8_eq (c : Dev nD) (t : Fin cfg0.N) : (dats m 0 c).after 8 t = resT (argX m c) := by
  rw [after0_8, out8_eq, iblk0_eq]; rfl

/-- The grid's one point. -/
abbrev t₀ : Fin cfg0.N := ⟨0, by decide⟩

/-- The array of queries is left as a whole. -/
theorem final4 (c : Dev nD) : (dats m 0 c).arrAt 4 cfg0.N = resQ (argX m c) (argW m c) (argS m c) (argB m c) := by
  generalize hG : resQ (argX m c) (argW m c) (argS m c) (argB m c) = G
  refine (dats m 0 c).arrAt_eq_of_cover 4 G (fun t _ => ?_) fun i => ⟨t₀, flush0_4 t₀, ?_⟩
  · show (cfg0.win 4).cut (grid0.coords t) ((dats m 0 c).after 4 t) = _
    rw [after4_eq, hG]
    exact (Memref.read_access_unit_zero (Elt Ideal) main_v2_0 (funext fun a => Nat.zero_mul _) (fun a => by simp) G).symm
  · show i ∈ ((View.whole main_v2_0).slice (win0_4.rect t₀)).set
    rw [View.set_slice_whole]
    exact View.mem_set_unit_zero (S := S4x8192x28x128) (funext fun a => Nat.zero_mul _) _ i

/-- The array of keys is left as a whole. -/
theorem final5 (c : Dev nD) : (dats m 0 c).arrAt 5 cfg0.N = resK (argX m c) (argW m c) (argS m c) (argB m c) := by
  generalize hG : resK (argX m c) (argW m c) (argS m c) (argB m c) = G
  refine (dats m 0 c).arrAt_eq_of_cover 5 G (fun t _ => ?_) fun i => ⟨t₀, flush0_5 t₀, ?_⟩
  · show (cfg0.win 5).cut (grid0.coords t) ((dats m 0 c).after 5 t) = _
    rw [after5_eq, hG]
    exact (Memref.read_access_unit_zero (Elt Ideal) main_v2_1 (funext fun a => Nat.zero_mul _) (fun a => by simp) G).symm
  · show i ∈ ((View.whole main_v2_1).slice (win0_5.rect t₀)).set
    rw [View.set_slice_whole]
    exact View.mem_set_unit_zero (S := S4x8192x4x128) (funext fun a => Nat.zero_mul _) _ i
/-- The array of values is left as a whole. -/
theorem final6 (c : Dev nD) : (dats m 0 c).arrAt 6 cfg0.N = resV (argX m c) (argW m c) (argS m c) (argB m c) := by
  generalize hG : resV (argX m c) (argW m c) (argS m c) (argB m c) = G
  refine (dats m 0 c).arrAt_eq_of_cover 6 G (fun t _ => ?_) fun i => ⟨t₀, flush0_6 t₀, ?_⟩
  · show (cfg0.win 6).cut (grid0.coords t) ((dats m 0 c).after 6 t) = _
    rw [after6_eq, hG]
    exact (Memref.read_access_unit_zero (Elt Ideal) main_v2_2 (funext fun a => Nat.zero_mul _) (fun a => by simp) G).symm
  · show i ∈ ((View.whole main_v2_2).slice (win0_6.rect t₀)).set
    rw [View.set_slice_whole]
    exact View.mem_set_unit_zero (S := S4x8192x4x128) (funext fun a => Nat.zero_mul _) _ i
/-- The array of codes is left as a whole. -/
theorem final7 (c : Dev nD) : (dats m 0 c).arrAt 7 cfg0.N = resC (argX m c) := by
  generalize hG : resC (argX m c) = G
  refine (dats m 0 c).arrAt_eq_of_cover 7 G (fun t _ => ?_) fun i => ⟨t₀, flush0_7 t₀, ?_⟩
  · show (cfg0.win 7).cut (grid0.coords t) ((dats m 0 c).after 7 t) = _
    rw [after7_eq, hG]
    exact (Memref.read_access_unit_zero (Elt Ideal) main_v2_3 (funext fun a => Nat.zero_mul _) (fun a => by simp) G).symm
  · show i ∈ ((View.whole main_v2_3).slice (win0_7.rect t₀)).set
    rw [View.set_slice_whole]
    exact View.mem_set_unit_zero (S := S4x8192x3584) (funext fun a => Nat.zero_mul _) _ i
/-- The array of scales is what the body leaves in its one block. -/
theorem final8_of (c : Dev nD) (G : S4x8192x28.Idx → Ideal .f32) (hG : ∀ t, (dats m 0 c).after 8 t = G) : (dats m 0 c).arrAt 8 cfg0.N = G := by
  refine (dats m 0 c).arrAt_eq_of_cover 8 G (fun t _ => ?_) fun i => ⟨t₀, flush0_8 t₀, ?_⟩
  · show (cfg0.win 8).cut (grid0.coords t) ((dats m 0 c).after 8 t) = _
    rw [hG]
    exact (Memref.read_access_unit_zero (Elt Ideal) main_v2_4 (funext fun a => Nat.zero_mul _) (fun a => by simp) G).symm
  · show i ∈ ((View.whole main_v2_4).slice (win0_8.rect t₀)).set
    rw [View.set_slice_whole]
    exact View.mem_set_unit_zero (S := S4x8192x28) (funext fun a => Nat.zero_mul _) _ i
/-- The array of scales is left as a whole. -/
theorem final8 (c : Dev nD) : (dats m 0 c).arrAt 8 cfg0.N = resT (argX m c) := final8_of m c _ (after8_eq m c)

/-- The reference's run: its results as functions of its arguments, and the arguments as launched. -/
theorem run : θ_run (defs (F := Ideal)) (onTc (τ := τ) (main (F := Ideal))) ⟨m, fun _ => 0, g⟩ fun r => ∀ c : Dev nD,
    r.2.mem ((c : Thread nD τ).loc main_v2_0) = resQ (argX m c) (argW m c) (argS m c) (argB m c)
    ∧ r.2.mem ((c : Thread nD τ).loc main_v2_1) = resK (argX m c) (argW m c) (argS m c) (argB m c)
    ∧ r.2.mem ((c : Thread nD τ).loc main_v2_2) = resV (argX m c) (argW m c) (argS m c) (argB m c)
    ∧ r.2.mem ((c : Thread nD τ).loc main_v2_3) = resC (argX m c)
    ∧ r.2.mem ((c : Thread nD τ).loc main_v2_4) = resT (argX m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run _ _ _).mono (fun _ h c => ⟨((h c).1 4).trans (final4 m c), ((h c).1 5).trans (final5 m c), ((h c).1 6).trans (final6 m c),
      ((h c).1 7).trans (final7 m c), ((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m g)

end Cert.ReferenceIdeal.Val

end
-- ==== Proof.Value.lean ====
/-
  The kernel against the reference over the extended reals.
-/
module

public import proofs.«01_k».proof.Defs
public import proofs.«01_k».proof.Proof.Arrays
public import proofs.«01_k».proof.Proof.RefArrays

@[expose] public section

set_option maxRecDepth 16384

noncomputable section

/-! ## The precondition -/

namespace Cert.Pre_in_range

open Idealize.ShloMosaic

/-- What the precondition's operations need of their shapes. -/
theorem facts : Facts := ⟨by decide, by decide⟩

end Cert.Pre_in_range

namespace Cert.KernelIdeal.Run

open Cert.KernelIdeal Cert.KernelIdeal.Gen
open Idealize.ShloMosaic Idealize.ShloMosaic.TcCoe Idealize.ShloMosaic.Tactic
open Idealize.ShloMosaic.Pointwise
open Idealize.SL.Sem
open Cert.ReferenceIdeal.Val (resQ resK resV resC resT line4 yAll qCol kCol vCol pay2_at pay3_at pay4_at pay5_at pay8_at)

variable (m : (ℓ : Loc nD τ sig) → Buf (Elt Ideal) ℓ) (g : Dev nD → PrngReg)

/-! ## The kernel's arrays are the reference's -/

/-- The kernel's queries, transposed to token order, are the reference's. -/
theorem arrQ_eq (c : Dev nD) :
    transpose S4x8192x28x128 [0, 2, 1, 3] (arrQ m c) Facts₀.transposes_S4x28x8192x128_S4x8192x28x128_0_2_1_3 = resQ (argX m c) (argW m c) (argS m c) (argB m c) := by
  funext i
  rw [eq_ix4 i]
  refine Eq.trans ?_ (pay2_at (argX m c) (argW m c) (rowS m c) (rowB m c) (i 0) (i 1) (i 2) (i 3)).symm
  rfl
/-- The kernel's keys are the reference's. -/
theorem arrK_eq (c : Dev nD) : arrK m c = resK (argX m c) (argW m c) (argS m c) (argB m c) := by
  funext i
  rw [eq_ix4 i]
  exact (pay3_at (argX m c) (argW m c) (rowS m c) (rowB m c) (i 0) (i 1) (i 2) (i 3)).symm
/-- The kernel's values are the reference's. -/
theorem arrV_eq (c : Dev nD) : arrV m c = resV (argX m c) (argW m c) (argS m c) (argB m c) := by
  funext i
  rw [eq_ix4 i]
  exact (pay4_at (argX m c) (argW m c) (rowS m c) (rowB m c) (i 0) (i 1) (i 2) (i 3)).symm
/-- The kernel's codes are the reference's. -/
theorem arrC_eq (c : Dev nD) : arrC m c = resC (argX m c) := by
  funext i
  rw [eq_ix3 i]
  exact (pay5_at (argX m c) (i 0) (i 1) (i 2)).symm
/-- The kernel's scales, transposed to token order, are the reference's. -/
theorem arrS_eq (c : Dev nD) :
    transpose S4x8192x28 [1, 2, 0] (arrS m c) Facts₀.transposes_S28x4x8192_S4x8192x28_1_2_0 = resT (argX m c) := by
  funext i
  rw [eq_ix3 i]
  refine Eq.trans ?_ (pay8_at (argX m c) (i 0) (i 1) (i 2)).symm
  rfl

/-- The kernel's run: its results as the reference's functions of the arguments, and the arguments as launched. -/
theorem run (hr : ∀ c, InRange m c) : θ_run (defs (F := Ideal)) (onTc (τ := τ) (main (F := Ideal))) ⟨m, fun _ => 0, g⟩ fun r => ∀ c : Dev nD,
    r.2.mem ((c : Thread nD τ).loc main_v3) = resQ (argX m c) (argW m c) (argS m c) (argB m c)
    ∧ r.2.mem ((c : Thread nD τ).loc main_v2_1) = resK (argX m c) (argW m c) (argS m c) (argB m c)
    ∧ r.2.mem ((c : Thread nD τ).loc main_v2_2) = resV (argX m c) (argW m c) (argS m c) (argB m c)
    ∧ r.2.mem ((c : Thread nD τ).loc main_v2_3) = resC (argX m c)
    ∧ r.2.mem ((c : Thread nD τ).loc main_v4) = resT (argX m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run _ _ _).mono (fun _ h c => ⟨
      ((h.1 c).2 main_v3 (Pipeline.mem_restRefs_of main_v3 (by decide) (by decide))).trans ((tail_v3 m c).trans (by rw [final6 m c (hr c), arrQ_eq])),
      ((h.1 c).1 7).trans ((final7 m c (hr c)).trans (arrK_eq m c)),
      ((h.1 c).1 8).trans ((final8 m c (hr c)).trans (arrV_eq m c)),
      ((h.1 c).1 9).trans ((final9 m c (hr c)).trans (arrC_eq m c)),
      ((h.1 c).2 main_v4 (Pipeline.mem_restRefs_of main_v4 (by decide) (by decide))).trans ((tail_v4 m c).trans (by rw [final10 m c (hr c), arrS_eq])),
      ((h.1 c).1 2).trans (((dats m 0 c).arrAt_in 2 rfl _).trans ((A_eq m c 2).trans (V_main_arg0 m c))),
      ((h.1 c).1 3).trans (((dats m 0 c).arrAt_in 3 rfl _).trans ((A_eq m c 3).trans (V_main_arg1 m c))),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩)
    (run_post m g)

/-- The precondition says that every activation is in range. -/
theorem inRange_of [hP : Cert.Pre_in_range.Facts] (h : Cert.Pre_KernelIdeal_in_range m) (c : Dev nD) : InRange m c := by
  intro b s d
  have e : BitVec.ofBool (decide (max (line4 (argX m c) b s d) (-(line4 (argX m c) b s d : EReal))
      ≤ (Scalar.ofBits (F := Ideal) .f32 0x7F7F0000#32 : EReal))) = 1#1 :=
    congrFun (h c) (ix3 (n0 := 4) (n1 := 8192) (n2 := 3584) b s d)
  by_contra hn
  rw [decide_eq_false hn] at e
  exact absurd e (by decide)

end Cert.KernelIdeal.Run

namespace Cert.Proof

open Idealize.ShloMosaic Idealize.SL.Sem

/-- Over the extended reals, and from activations in range, the kernel and the reference leave the same results. -/
theorem algebraic :
    Cert.algebraic_KernelIdeal_ReferenceIdeal_pre_in_range (hKernelIdeal := Cert.KernelIdeal.Gen.facts)
      (hReferenceIdeal := Cert.ReferenceIdeal.Gen.facts) (hPre_in_range := Cert.Pre_in_range.facts) := by
  intro m g m' g' hpre harg
  haveI := Cert.Pre_in_range.facts
  refine ⟨_, _, _, _, _, Cert.KernelIdeal.Run.run m g fun c => Cert.KernelIdeal.Run.inRange_of m hpre c, ?_⟩
  refine (θ_run _ _ _).mono (fun _ h c => ?_) (Cert.ReferenceIdeal.Val.run m' g')
  obtain ⟨a0, a1, a2, a3⟩ := harg c
  have h := h c
  have e0 : Cert.ReferenceIdeal.Val.argX m' c = Cert.KernelIdeal.Run.argX m c := a0
  have e1 : Cert.ReferenceIdeal.Val.argW m' c = Cert.KernelIdeal.Run.argW m c := a1
  have e2 : Cert.ReferenceIdeal.Val.argS m' c = Cert.KernelIdeal.Run.argS m c := a2
  have e3 : Cert.ReferenceIdeal.Val.argB m' c = Cert.KernelIdeal.Run.argB m c := a3
  obtain ⟨h0, h1, h2, h3, h4, hr⟩ := h
  refine ⟨h0.trans ?_, h1.trans ?_, h2.trans ?_, h3.trans ?_, h4.trans ?_, hr⟩
  · exact congr (congr (congr (congrArg Cert.ReferenceIdeal.Val.resQ e0) e1) e2) e3
  · exact congr (congr (congr (congrArg Cert.ReferenceIdeal.Val.resK e0) e1) e2) e3
  · exact congr (congr (congr (congrArg Cert.ReferenceIdeal.Val.resV e0) e1) e2) e3
  · exact congrArg Cert.ReferenceIdeal.Val.resC e0
  · exact congrArg Cert.ReferenceIdeal.Val.resT e0

end Cert.Proof

end
-- ==== Proof.lean ====
/-
  The claims of the certificate.
-/
module

public import proofs.«01_k».proof.Defs
public import proofs.«01_k».proof.Proof.Frames
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_in_range.facts, kernel_frame, ideal_frame,
    fun m g _ => ideal_frame m g trivial, reference_frame, fun m g _ => reference_frame m g trivial, trivial, algebraic⟩

end Cert.Proof

end
